-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherIdeal_row_has_valid [hPre_row_has_valid : Cert.Pre_row_has_valid.Facts] (m : (ℓ : Loc Cert.GatherIdeal.nD Cert.GatherIdeal.τ Cert.GatherIdeal.sig) → Buf (Elt Ideal) ℓ) : Prop :=
  ∀ c : Dev Cert.GatherIdeal.nD,
    (Cert.Pre_row_has_valid.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_ExampleIdeal (m : (ℓ : Loc Cert.ExampleIdeal.nD Cert.ExampleIdeal.τ Cert.ExampleIdeal.sig) → Buf (Elt Ideal) ℓ) : Prop :=
  True

def Pre_ExampleIdeal_row_has_valid [hPre_row_has_valid : Cert.Pre_row_has_valid.Facts] (m : (ℓ : Loc Cert.ExampleIdeal.nD Cert.ExampleIdeal.τ Cert.ExampleIdeal.sig) → Buf (Elt Ideal) ℓ) : Prop :=
  ∀ c : Dev Cert.ExampleIdeal.nD,
    (Cert.Pre_row_has_valid.fn (F := Ideal) (m ((c.tc : Thread Cert.ExampleIdeal.nD Cert.ExampleIdeal.τ).loc Cert.ExampleIdeal.main_arg0)) (m ((c.tc : Thread Cert.ExampleIdeal.nD Cert.ExampleIdeal.τ).loc Cert.ExampleIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherIdeal_pre_row_has_valid [hGatherIdeal : Cert.GatherIdeal.Facts] [hPre_row_has_valid : Cert.Pre_row_has_valid.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal_row_has_valid m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_ExampleIdeal [hExampleIdeal : Cert.ExampleIdeal.Facts] : Prop :=
  ∀ (m : (ℓ : Loc Cert.ExampleIdeal.nD Cert.ExampleIdeal.τ Cert.ExampleIdeal.sig) → Buf (Elt Ideal) ℓ) (g : Dev Cert.ExampleIdeal.nD → PrngReg), Pre_ExampleIdeal m →
    θ_run (Cert.ExampleIdeal.defs (F := Ideal)) (onTc (τ := Cert.ExampleIdeal.τ) (Cert.ExampleIdeal.main (F := Ideal))) ⟨m, fun _ => 0, g⟩ (fun r => (∀ c : Dev Cert.ExampleIdeal.nD,
      r.2.mem ((c.tc : Thread Cert.ExampleIdeal.nD Cert.ExampleIdeal.τ).loc Cert.ExampleIdeal.main_arg0) = m ((c.tc : Thread Cert.ExampleIdeal.nD Cert.ExampleIdeal.τ).loc Cert.ExampleIdeal.main_arg0)
      ∧ r.2.mem ((c.tc : Thread Cert.ExampleIdeal.nD Cert.ExampleIdeal.τ).loc Cert.ExampleIdeal.main_arg1) = m ((c.tc : Thread Cert.ExampleIdeal.nD Cert.ExampleIdeal.τ).loc Cert.ExampleIdeal.main_arg1))
      ∧ r.2.sem = fun _ => 0)

def quiescent_ExampleIdeal_pre_row_has_valid [hExampleIdeal : Cert.ExampleIdeal.Facts] [hPre_row_has_valid : Cert.Pre_row_has_valid.Facts] : Prop :=
  ∀ (m : (ℓ : Loc Cert.ExampleIdeal.nD Cert.ExampleIdeal.τ Cert.ExampleIdeal.sig) → Buf (Elt Ideal) ℓ) (g : Dev Cert.ExampleIdeal.nD → PrngReg), Pre_ExampleIdeal_row_has_valid m →
    θ_run (Cert.ExampleIdeal.defs (F := Ideal)) (onTc (τ := Cert.ExampleIdeal.τ) (Cert.ExampleIdeal.main (F := Ideal))) ⟨m, fun _ => 0, g⟩ (fun r => (∀ c : Dev Cert.ExampleIdeal.nD,
      r.2.mem ((c.tc : Thread Cert.ExampleIdeal.nD Cert.ExampleIdeal.τ).loc Cert.ExampleIdeal.main_arg0) = m ((c.tc : Thread Cert.ExampleIdeal.nD Cert.ExampleIdeal.τ).loc Cert.ExampleIdeal.main_arg0)
      ∧ r.2.mem ((c.tc : Thread Cert.ExampleIdeal.nD Cert.ExampleIdeal.τ).loc Cert.ExampleIdeal.main_arg1) = m ((c.tc : Thread Cert.ExampleIdeal.nD Cert.ExampleIdeal.τ).loc Cert.ExampleIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gather_GatherIdeal : Prop :=
  True

def algebraic_GatherIdeal_ExampleIdeal_pre_row_has_valid [hGatherIdeal : Cert.GatherIdeal.Facts] [hExampleIdeal : Cert.ExampleIdeal.Facts] [hPre_row_has_valid : Cert.Pre_row_has_valid.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.ExampleIdeal.nD Cert.ExampleIdeal.τ Cert.ExampleIdeal.sig) → Buf (Elt Ideal) ℓ) (g' : Dev Cert.ExampleIdeal.nD → PrngReg), Pre_GatherIdeal_row_has_valid m →
    (∀ c : Dev Cert.GatherIdeal.nD,
      m' ((c.tc : Thread Cert.ExampleIdeal.nD Cert.ExampleIdeal.τ).loc Cert.ExampleIdeal.main_arg0) = m ((c.tc : Thread Cert.GatherIdeal.nD Cert.GatherIdeal.τ).loc Cert.GatherIdeal.main_arg0)
      ∧ m' ((c.tc : Thread Cert.ExampleIdeal.nD Cert.ExampleIdeal.τ).loc Cert.ExampleIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.ExampleIdeal.defs (F := Ideal)) (onTc (τ := Cert.ExampleIdeal.τ) (Cert.ExampleIdeal.main (F := Ideal))) ⟨m', fun _ => 0, g'⟩ (fun r => ∀ c : Dev Cert.ExampleIdeal.nD,
          r.2.mem ((c.tc : Thread Cert.ExampleIdeal.nD Cert.ExampleIdeal.τ).loc Cert.ExampleIdeal.main_v20) = v0 c
          ∧ r.2.mem ((c.tc : Thread Cert.ExampleIdeal.nD Cert.ExampleIdeal.τ).loc Cert.ExampleIdeal.main_arg0) = m' ((c.tc : Thread Cert.ExampleIdeal.nD Cert.ExampleIdeal.τ).loc Cert.ExampleIdeal.main_arg0)
          ∧ r.2.mem ((c.tc : Thread Cert.ExampleIdeal.nD Cert.ExampleIdeal.τ).loc Cert.ExampleIdeal.main_arg1) = m' ((c.tc : Thread Cert.ExampleIdeal.nD Cert.ExampleIdeal.τ).loc Cert.ExampleIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hExampleIdeal : Cert.ExampleIdeal.Facts) (hPre_row_has_valid : Cert.Pre_row_has_valid.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherIdeal_pre_row_has_valid (hGatherIdeal := hGatherIdeal) (hPre_row_has_valid := hPre_row_has_valid)
    ∧ quiescent_ExampleIdeal (hExampleIdeal := hExampleIdeal)
    ∧ quiescent_ExampleIdeal_pre_row_has_valid (hExampleIdeal := hExampleIdeal) (hPre_row_has_valid := hPre_row_has_valid)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_ExampleIdeal_pre_row_has_valid (hGatherIdeal := hGatherIdeal) (hExampleIdeal := hExampleIdeal) (hPre_row_has_valid := hPre_row_has_valid)
-- ==== Pre_row_has_valid.lean ====
abbrev S1024x200x128 : Shape := ⟨3, ![1024, 200, 128]⟩
abbrev S1024x200 : Shape := ⟨2, ![1024, 200]⟩
abbrev S_ : Shape := ⟨0, ![]⟩
abbrev S1024 : Shape := ⟨1, ![1024]⟩

class Facts : Prop where
  reducesTo_S1024x200_S1024_d1 : S1024x200.ReducesTo [1] S1024
  h_S_ : 0 < S_.numel
  reducesTo_S1024_S_d0 : S1024.ReducesTo [0] S_

variable [Facts]

def fn {F : FTy → Type} [FloatOps F] (main_arg0 : FVec F S1024x200x128 .f32) (main_arg1 : IVec S1024x200 1) : IVec S_ 1 :=
  let main_c : IVec S_ 1 := constantI S_ 1 0#1
  let main_v0 : IVec S1024 1 := (fun x v => Host.reduce IntOp.ori x v reducesTo_S1024x200_S1024_d1 h_S_) main_arg1 main_c
  let main_c_0 : IVec S_ 1 := constantI S_ 1 1#1
  let main_v1 : IVec S_ 1 := (fun x v => Host.reduce IntOp.andi x v reducesTo_S1024_S_d0 h_S_) main_v0 main_c_0
  main_v1
-- ==== Kernel.lean ====
abbrev S1024x128 : Shape := ⟨2, ![1024, 128]⟩
abbrev S1024x200x128 : Shape := ⟨3, ![1024, 200, 128]⟩
abbrev S1024x200 : Shape := ⟨2, ![1024, 200]⟩
abbrev S204800x128 : Shape := ⟨2, ![204800, 128]⟩
abbrev S64x128 : Shape := ⟨2, ![64, 128]⟩
abbrev S64x200x128 : Shape := ⟨3, ![64, 200, 128]⟩
abbrev S64x1x128 : Shape := ⟨3, ![64, 1, 128]⟩

abbrev nBuf : Space → Nat
  | .hbm => 7
  | .vmem => 4
  | .smem => 0
  | _ => 0

abbrev bufTy : (tb : Table) → Fin (tcTables nBuf tb) → BufTy
  | .hbm, ⟨0, _⟩ => ⟨S1024x128, .f32⟩
  | .hbm, ⟨1, _⟩ => ⟨S1024x200x128, .f32⟩
  | .hbm, ⟨2, _⟩ => ⟨S1024x200, .i1⟩
  | .hbm, ⟨3, _⟩ => ⟨S1024x200, .i32⟩
  | .hbm, ⟨4, _⟩ => ⟨S204800x128, .f32⟩
  | .hbm, ⟨5, _⟩ => ⟨S1024x200x128, .f32⟩
  | .hbm, ⟨6, _⟩ => ⟨S204800x128, .f32⟩
  | .local _ .vmem, ⟨0, _⟩ => ⟨S64x128, .f32⟩
  | .local _ .vmem, ⟨1, _⟩ => ⟨S64x128, .f32⟩
  | .local _ .vmem, ⟨2, _⟩ => ⟨S64x200x128, .f32⟩
  | .local _ .vmem, ⟨3, _⟩ => ⟨S64x200x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x128 : Shape := ⟨2, ![1024, 128]⟩
abbrev S1024x200x128 : Shape := ⟨3, ![1024, 200, 128]⟩
abbrev S1024x200 : Shape := ⟨2, ![1024, 200]⟩
abbrev S204800x128 : Shape := ⟨2, ![204800, 128]⟩

abbrev nBuf : Space → Nat
  | .hbm => 5
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x200x128, .f32⟩
  | .hbm, ⟨2, _⟩ => ⟨S1024x200, .i1⟩
  | .hbm, ⟨3, _⟩ => ⟨S1024x200x128, .f32⟩
  | .hbm, ⟨4, _⟩ => ⟨S204800x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Gather.lean ====
abbrev S1024x200x128 : Shape := ⟨3, ![1024, 200, 128]⟩
abbrev S1024x200 : Shape := ⟨2, ![1024, 200]⟩
abbrev S204800x128 : Shape := ⟨2, ![204800, 128]⟩
abbrev S32x200 : Shape := ⟨2, ![32, 200]⟩
abbrev S6656 : Shape := ⟨1, ![6656]⟩
abbrev S224 : Shape := ⟨1, ![224]⟩
abbrev S4x200x128 : Shape := ⟨3, ![4, 200, 128]⟩
abbrev S4 : Shape := ⟨1, ![4]⟩
abbrev S_ : Shape := ⟨0, ![]⟩
abbrev S16 : Shape := ⟨1, ![16]⟩
abbrev S1x16 : Shape := ⟨2, ![1, 16]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1x72x128 : Shape := ⟨3, ![1, 72, 128]⟩
abbrev S72x128 : Shape := ⟨2, ![72, 128]⟩
abbrev S72 : Shape := ⟨1, ![72]⟩
abbrev S1x200x128 : Shape := ⟨3, ![1, 200, 128]⟩
abbrev S200x128 : Shape := ⟨2, ![200, 128]⟩

abbrev nBuf : Table → Nat
  | .hbm => 5
  | .local .scVector .vmem => 4
  | _ => 0

abbrev bufTy : (tb : Table) → Fin (nBuf tb) → BufTy
  | .hbm, ⟨0, _⟩ => ⟨S1024x200x128, .f32⟩
  | .hbm, ⟨1, _⟩ => ⟨S1024x200, .i1⟩
  | .hbm, ⟨2, _⟩ => ⟨S1024x200, .i32⟩
  | .hbm, ⟨3, _⟩ => ⟨S204800x128, .f32⟩
  | .hbm, ⟨4, _⟩ => ⟨S204800x128, .f32⟩
  | .local .scVector .vmem, ⟨0, _⟩ => ⟨S32x200, .i32⟩
  | .local .scVector .vmem, ⟨1, _⟩ => ⟨S6656, .i32⟩
  | .local .scVector .vmem, ⟨2, _⟩ => ⟨S224, .i32⟩
  | .local .scVector .vmem, ⟨3, _⟩ => ⟨S4x200x128, .f32⟩
  | _, _ => ⟨S1024x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_142_r0 : BitVec 32 := 0#32
  ![v2.toNat, 0]

def k0_chk1 (v22 : IVec S16 32) : Prop :=
  (∀ a x, ((![v22] : Fin 1 → IVec S16 32) a x).toNat < S224.size a)
theorem k0_idx1_inb : ∀ (v22 : IVec S16 32) (k0_hw1 : k0_chk1 v22), ∀ a x, ((![v22] : Fin 1 → IVec S16 32) a x).toNat < S224.size a := fun v22 k0_hw1 => k0_hw1

def k0_chk2 (v39 : IVec S16 32) : Prop :=
  (∀ a x, ((![v39] : Fin 1 → IVec S16 32) a x).toNat < S224.size a)
theorem k0_idx2_inb : ∀ (v39 : IVec S16 32) (k0_hw2 : k0_chk2 v39), ∀ a x, ((![v39] : Fin 1 → IVec S16 32) a x).toNat < S224.size a := fun v39 k0_hw2 => k0_hw2

def k0_chk3 (v56 : IVec S16 32) : Prop :=
  (∀ a x, ((![v56] : Fin 1 → IVec S16 32) a x).toNat < S224.size a)
theorem k0_idx3_inb : ∀ (v56 : IVec S16 32) (k0_hw3 : k0_chk3 v56), ∀ a x, ((![v56] : Fin 1 → IVec S16 32) a x).toNat < S224.size a := fun v56 k0_hw3 => k0_hw3

def k0_chk4 (v73 : IVec S16 32) : Prop :=
  (∀ a x, ((![v73] : Fin 1 → IVec S16 32) a x).toNat < S224.size a)
theorem k0_idx4_inb : ∀ (v73 : IVec S16 32) (k0_hw4 : k0_chk4 v73), ∀ a x, ((![v73] : Fin 1 → IVec S16 32) a x).toNat < S224.size a := fun v73 k0_hw4 => k0_hw4

def k0_chk5 (v90 : IVec S16 32) : Prop :=
  (∀ a x, ((![v90] : Fin 1 → IVec S16 32) a x).toNat < S224.size a)
theorem k0_idx5_inb : ∀ (v90 : IVec S16 32) (k0_hw5 : k0_chk5 v90), ∀ a x, ((![v90] : Fin 1 → IVec S16 32) a x).toNat < S224.size a := fun v90 k0_hw5 => k0_hw5

def k0_chk6 (v107 : IVec S16 32) : Prop :=
  (∀ a x, ((![v107] : Fin 1 → IVec S16 32) a x).toNat < S224.size a)
theorem k0_idx6_inb : ∀ (v107 : IVec S16 32) (k0_hw6 : k0_chk6 v107), ∀ a x, ((![v107] : Fin 1 → IVec S16 32) a x).toNat < S224.size a := fun v107 k0_hw6 => k0_hw6

def k0_chk7 (v124 : IVec S16 32) : Prop :=
  (∀ a x, ((![v124] : Fin 1 → IVec S16 32) a x).toNat < S224.size a)
theorem k0_idx7_inb : ∀ (v124 : IVec S16 32) (k0_hw7 : k0_chk7 v124), ∀ a x, ((![v124] : Fin 1 → IVec S16 32) a x).toNat < S224.size a := fun v124 k0_hw7 => k0_hw7

def k0_chk8 (v141 : IVec S16 32) : Prop :=
  (∀ a x, ((![v141] : Fin 1 → IVec S16 32) a x).toNat < S224.size a)
theorem k0_idx8_inb : ∀ (v141 : IVec S16 32) (k0_hw8 : k0_chk8 v141), ∀ a x, ((![v141] : Fin 1 → IVec S16 32) a x).toNat < S224.size a := fun v141 k0_hw8 => k0_hw8

def k0_chk9 (v158 : IVec S16 32) : Prop :=
  (∀ a x, ((![v158] : Fin 1 → IVec S16 32) a x).toNat < S224.size a)
theorem k0_idx9_inb : ∀ (v158 : IVec S16 32) (k0_hw9 : k0_chk9 v158), ∀ a x, ((![v158] : Fin 1 → IVec S16 32) a x).toNat < S224.size a := fun v158 k0_hw9 => k0_hw9

def k0_chk10 (v175 : IVec S16 32) : Prop :=
  (∀ a x, ((![v175] : Fin 1 → IVec S16 32) a x).toNat < S224.size a)
theorem k0_idx10_inb : ∀ (v175 : IVec S16 32) (k0_hw10 : k0_chk10 v175), ∀ a x, ((![v175] : Fin 1 → IVec S16 32) a x).toNat < S224.size a := fun v175 k0_hw10 => k0_hw10

def k0_chk11 (v192 : IVec S16 32) : Prop :=
  (∀ a x, ((![v192] : Fin 1 → IVec S16 32) a x).toNat < S224.size a)
theorem k0_idx11_inb : ∀ (v192 : IVec S16 32) (k0_hw11 : k0_chk11 v192), ∀ a x, ((![v192] : Fin 1 → IVec S16 32) a x).toNat < S224.size a := fun v192 k0_hw11 => k0_hw11

def k0_chk12 (v209 : IVec S16 32) : Prop :=
  (∀ a x, ((![v209] : Fin 1 → IVec S16 32) a x).toNat < S224.size a)
theorem k0_idx12_inb : ∀ (v209 : IVec S16 32) (k0_hw12 : k0_chk12 v209), ∀ a x, ((![v209] : Fin 1 → IVec S16 32) a x).toNat < S224.size a := fun v209 k0_hw12 => k0_hw12

def k0_chk13 (v229 : IVec S16 32) : Prop :=
  (∀ a x, ((![v229] : Fin 1 → IVec S16 32) a x).toNat < S224.size a)
theorem k0_idx13_inb : ∀ (v229 : IVec S16 32) (k0_hw13 : k0_chk13 v229), ∀ a x, ((![v229] : Fin 1 → IVec S16 32) a x).toNat < S224.size a := fun v229 k0_hw13 => k0_hw13

def k0_chk14 (v251 : IVec S16 32) : Prop :=
  (∀ a x, ((![v251] : Fin 1 → IVec S16 32) a x).toNat < S224.size a)
theorem k0_idx14_inb : ∀ (v251 : IVec S16 32) (k0_hw14 : k0_chk14 v251), ∀ a x, ((![v251] : Fin 1 → IVec S16 32) a x).toNat < S224.size a := fun v251 k0_hw14 => k0_hw14

def k0_chk15 (v266 : IVec S16 32) : Prop :=
  (∀ a x, ((![v266] : Fin 1 → IVec S16 32) a x).toNat < S224.size a)
theorem k0_idx15_inb : ∀ (v266 : IVec S16 32) (k0_hw15 : k0_chk15 v266), ∀ a x, ((![v266] : Fin 1 → IVec S16 32) a x).toNat < S224.size a := fun v266 k0_hw15 => k0_hw15

def k0_chk16 (v281 : IVec S16 32) : Prop :=
  (∀ a x, ((![v281] : Fin 1 → IVec S16 32) a x).toNat < S224.size a)
theorem k0_idx16_inb : ∀ (v281 : IVec S16 32) (k0_hw16 : k0_chk16 v281), ∀ a x, ((![v281] : Fin 1 → IVec S16 32) a x).toNat < S224.size a := fun v281 k0_hw16 => k0_hw16

def k0_chk17 (v296 : IVec S16 32) : Prop :=
  (∀ a x, ((![v296] : Fin 1 → IVec S16 32) a x).toNat < S224.size a)
theorem k0_idx17_inb : ∀ (v296 : IVec S16 32) (k0_hw17 : k0_chk17 v296), ∀ a x, ((![v296] : Fin 1 → IVec S16 32) a x).toNat < S224.size a := fun v296 k0_hw17 => k0_hw17

def k0_chk18 (v311 : IVec S16 32) : Prop :=
  (∀ a x, ((![v311] : Fin 1 → IVec S16 32) a x).toNat < S224.size a)
theorem k0_idx18_inb : ∀ (v311 : IVec S16 32) (k0_hw18 : k0_chk18 v311), ∀ a x, ((![v311] : Fin 1 → IVec S16 32) a x).toNat < S224.size a := fun v311 k0_hw18 => k0_hw18

def k0_chk19 (v326 : IVec S16 32) : Prop :=
  (∀ a x, ((![v326] : Fin 1 → IVec S16 32) a x).toNat < S224.size a)
theorem k0_idx19_inb : ∀ (v326 : IVec S16 32) (k0_hw19 : k0_chk19 v326), ∀ a x, ((![v326] : Fin 1 → IVec S16 32) a x).toNat < S224.size a := fun v326 k0_hw19 => k0_hw19

def k0_chk20 (v341 : IVec S16 32) : Prop :=
  (∀ a x, ((![v341] : Fin 1 → IVec S16 32) a x).toNat < S224.size a)
theorem k0_idx20_inb : ∀ (v341 : IVec S16 32) (k0_hw20 : k0_chk20 v341), ∀ a x, ((![v341] : Fin 1 → IVec S16 32) a x).toNat < S224.size a := fun v341 k0_hw20 => k0_hw20

def k0_chk21 (v356 : IVec S16 32) : Prop :=
  (∀ a x, ((![v356] : Fin 1 → IVec S16 32) a x).toNat < S224.size a)
theorem k0_idx21_inb : ∀ (v356 : IVec S16 32) (k0_hw21 : k0_chk21 v356), ∀ a x, ((![v356] : Fin 1 → IVec S16 32) a x).toNat < S224.size a := fun v356 k0_hw21 => k0_hw21

def k0_chk22 (v371 : IVec S16 32) : Prop :=
  (∀ a x, ((![v371] : Fin 1 → IVec S16 32) a x).toNat < S224.size a)
theorem k0_idx22_inb : ∀ (v371 : IVec S16 32) (k0_hw22 : k0_chk22 v371), ∀ a x, ((![v371] : Fin 1 → IVec S16 32) a x).toNat < S224.size a := fun v371 k0_hw22 => k0_hw22

def k0_chk23 (v386 : IVec S16 32) : Prop :=
  (∀ a x, ((![v386] : Fin 1 → IVec S16 32) a x).toNat < S224.size a)
theorem k0_idx23_inb : ∀ (v386 : IVec S16 32) (k0_hw23 : k0_chk23 v386), ∀ a x, ((![v386] : Fin 1 → IVec S16 32) a x).toNat < S224.size a := fun v386 k0_hw23 => k0_hw23

def k0_chk24 (v401 : IVec S16 32) : Prop :=
  (∀ a x, ((![v401] : Fin 1 → IVec S16 32) a x).toNat < S224.size a)
theorem k0_idx24_inb : ∀ (v401 : IVec S16 32) (k0_hw24 : k0_chk24 v401), ∀ a x, ((![v401] : Fin 1 → IVec S16 32) a x).toNat < S224.size a := fun v401 k0_hw24 => k0_hw24

def k0_chk25 (v416 : IVec S16 32) : Prop :=
  (∀ a x, ((![v416] : Fin 1 → IVec S16 32) a x).toNat < S224.size a)
theorem k0_idx25_inb : ∀ (v416 : IVec S16 32) (k0_hw25 : k0_chk25 v416), ∀ a x, ((![v416] : Fin 1 → IVec S16 32) a x).toNat < S224.size a := fun v416 k0_hw25 => k0_hw25

def k0_chk26 (v431 : IVec S16 32) : Prop :=
  (∀ a x, ((![v431] : Fin 1 → IVec S16 32) a x).toNat < S224.size a)
theorem k0_idx26_inb : ∀ (v431 : IVec S16 32) (k0_hw26 : k0_chk26 v431), ∀ a x, ((![v431] : Fin 1 → IVec S16 32) a x).toNat < S224.size a := fun v431 k0_hw26 => k0_hw26
@[reducible] def k0_t1_loop : Scf.Loop 32 :=
  let c1_i32_82 : BitVec 32 := 1#32
  let c31_i32 : BitVec 32 := 31#32
  let v447 : BitVec 32 := Scalar.addi c1_i32_82 c31_i32
  let c1_i32_83 : BitVec 32 := 1#32
  ⟨c1_i32_82, v447, c1_i32_83⟩
def k0_off2 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v508 : Index := Scalar.indexCast arg12
  let c0_143 : Index := 0#32
  ![v508.toNat, 0]

def k0_chk27 (v523 : IVec S16 32) : Prop :=
  (∀ a x, ((![v523] : Fin 1 → IVec S16 32) a x).toNat < S224.size a)
theorem k0_idx27_inb : ∀ (v523 : IVec S16 32) (k0_hw27 : k0_chk27 v523), ∀ a x, ((![v523] : Fin 1 → IVec S16 32) a x).toNat < S224.size a := fun v523 k0_hw27 => k0_hw27
def k0_off3 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v525 : Index := Scalar.indexCast arg12
  let c16_146 : Index := 16#32
  ![v525.toNat, 16]

def k0_chk28 (v540 : IVec S16 32) : Prop :=
  (∀ a x, ((![v540] : Fin 1 → IVec S16 32) a x).toNat < S224.size a)
theorem k0_idx28_inb : ∀ (v540 : IVec S16 32) (k0_hw28 : k0_chk28 v540), ∀ a x, ((![v540] : Fin 1 → IVec S16 32) a x).toNat < S224.size a := fun v540 k0_hw28 => k0_hw28
def k0_off4 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v542 : Index := Scalar.indexCast arg12
  let c32_149 : Index := 32#32
  ![v542.toNat, 32]

def k0_chk29 (v557 : IVec S16 32) : Prop :=
  (∀ a x, ((![v557] : Fin 1 → IVec S16 32) a x).toNat < S224.size a)
theorem k0_idx29_inb : ∀ (v557 : IVec S16 32) (k0_hw29 : k0_chk29 v557), ∀ a x, ((![v557] : Fin 1 → IVec S16 32) a x).toNat < S224.size a := fun v557 k0_hw29 => k0_hw29
def k0_off5 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v559 : Index := Scalar.indexCast arg12
  let c48_152 : Index := 48#32
  ![v559.toNat, 48]

def k0_chk30 (v574 : IVec S16 32) : Prop :=
  (∀ a x, ((![v574] : Fin 1 → IVec S16 32) a x).toNat < S224.size a)
theorem k0_idx30_inb : ∀ (v574 : IVec S16 32) (k0_hw30 : k0_chk30 v574), ∀ a x, ((![v574] : Fin 1 → IVec S16 32) a x).toNat < S224.size a := fun v574 k0_hw30 => k0_hw30
def k0_off6 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v576 : Index := Scalar.indexCast arg12
  let c64_155 : Index := 64#32
  ![v576.toNat, 64]

def k0_chk31 (v591 : IVec S16 32) : Prop :=
  (∀ a x, ((![v591] : Fin 1 → IVec S16 32) a x).toNat < S224.size a)
theorem k0_idx31_inb : ∀ (v591 : IVec S16 32) (k0_hw31 : k0_chk31 v591), ∀ a x, ((![v591] : Fin 1 → IVec S16 32) a x).toNat < S224.size a := fun v591 k0_hw31 => k0_hw31
def k0_off7 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v593 : Index := Scalar.indexCast arg12
  let c80_158 : Index := 80#32
  ![v593.toNat, 80]

def k0_chk32 (v608 : IVec S16 32) : Prop :=
  (∀ a x, ((![v608] : Fin 1 → IVec S16 32) a x).toNat < S224.size a)
theorem k0_idx32_inb : ∀ (v608 : IVec S16 32) (k0_hw32 : k0_chk32 v608), ∀ a x, ((![v608] : Fin 1 → IVec S16 32) a x).toNat < S224.size a := fun v608 k0_hw32 => k0_hw32
def k0_off8 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v610 : Index := Scalar.indexCast arg12
  let c96_161 : Index := 96#32
  ![v610.toNat, 96]

def k0_chk33 (v625 : IVec S16 32) : Prop :=
  (∀ a x, ((![v625] : Fin 1 → IVec S16 32) a x).toNat < S224.size a)
theorem k0_idx33_inb : ∀ (v625 : IVec S16 32) (k0_hw33 : k0_chk33 v625), ∀ a x, ((![v625] : Fin 1 → IVec S16 32) a x).toNat < S224.size a := fun v625 k0_hw33 => k0_hw33
def k0_off9 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v627 : Index := Scalar.indexCast arg12
  let c112_164 : Index := 112#32
  ![v627.toNat, 112]

def k0_chk34 (v642 : IVec S16 32) : Prop :=
  (∀ a x, ((![v642] : Fin 1 → IVec S16 32) a x).toNat < S224.size a)
theorem k0_idx34_inb : ∀ (v642 : IVec S16 32) (k0_hw34 : k0_chk34 v642), ∀ a x, ((![v642] : Fin 1 → IVec S16 32) a x).toNat < S224.size a := fun v642 k0_hw34 => k0_hw34
def k0_off10 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v644 : Index := Scalar.indexCast arg12
  let c128_167 : Index := 128#32
  ![v644.toNat, 128]

def k0_chk35 (v659 : IVec S16 32) : Prop :=
  (∀ a x, ((![v659] : Fin 1 → IVec S16 32) a x).toNat < S224.size a)
theorem k0_idx35_inb : ∀ (v659 : IVec S16 32) (k0_hw35 : k0_chk35 v659), ∀ a x, ((![v659] : Fin 1 → IVec S16 32) a x).toNat < S224.size a := fun v659 k0_hw35 => k0_hw35
def k0_off11 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v661 : Index := Scalar.indexCast arg12
  let c144_170 : Index := 144#32
  ![v661.toNat, 144]

def k0_chk36 (v676 : IVec S16 32) : Prop :=
  (∀ a x, ((![v676] : Fin 1 → IVec S16 32) a x).toNat < S224.size a)
theorem k0_idx36_inb : ∀ (v676 : IVec S16 32) (k0_hw36 : k0_chk36 v676), ∀ a x, ((![v676] : Fin 1 → IVec S16 32) a x).toNat < S224.size a := fun v676 k0_hw36 => k0_hw36
def k0_off12 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v678 : Index := Scalar.indexCast arg12
  let c160_173 : Index := 160#32
  ![v678.toNat, 160]

def k0_chk37 (v693 : IVec S16 32) : Prop :=
  (∀ a x, ((![v693] : Fin 1 → IVec S16 32) a x).toNat < S224.size a)
theorem k0_idx37_inb : ∀ (v693 : IVec S16 32) (k0_hw37 : k0_chk37 v693), ∀ a x, ((![v693] : Fin 1 → IVec S16 32) a x).toNat < S224.size a := fun v693 k0_hw37 => k0_hw37
def k0_off13 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v695 : Index := Scalar.indexCast arg12
  let c176_176 : Index := 176#32
  ![v695.toNat, 176]

def k0_chk38 (v710 : IVec S16 32) : Prop :=
  (∀ a x, ((![v710] : Fin 1 → IVec S16 32) a x).toNat < S224.size a)
theorem k0_idx38_inb : ∀ (v710 : IVec S16 32) (k0_hw38 : k0_chk38 v710), ∀ a x, ((![v710] : Fin 1 → IVec S16 32) a x).toNat < S224.size a := fun v710 k0_hw38 => k0_hw38
def k0_off14 (k0_t1 : Fin k0_t1_loop.trips) : Fin 2 → Nat :=
  let c1_i32_82 : BitVec 32 := 1#32
  let c1_i32_83 : BitVec 32 := 1#32
  let arg12 : BitVec 32 := Scf.iv c1_i32_82 c1_i32_83 k0_t1
  let v712 : Index := Scalar.indexCast arg12
  let c184_179 : Index := 184#32
  ![v712.toNat, 184]

def k0_chk39 (v730 : IVec S16 32) : Prop :=
  (∀ a x, ((![v730] : Fin 1 → IVec S16 32) a x).toNat < S224.size a)
theorem k0_idx39_inb : ∀ (v730 : IVec S16 32) (k0_hw39 : k0_chk39 v730), ∀ a x, ((![v730] : Fin 1 → IVec S16 32) a x).toNat < S224.size a := fun v730 k0_hw39 => k0_hw39

def k0_chk40 (v752 : IVec S16 32) : Prop :=
  (∀ a x, ((![v752] : Fin 1 → IVec S16 32) a x).toNat < S224.size a)
theorem k0_idx40_inb : ∀ (v752 : IVec S16 32) (k0_hw40 : k0_chk40 v752), ∀ a x, ((![v752] : Fin 1 → IVec S16 32) a x).toNat < S224.size a := fun v752 k0_hw40 => k0_hw40
def k0_off15 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32 : BitVec 32 := 208#32
  let v755 : BitVec 32 := Scalar.muli arg12 c208_i32
  let c0_i32_188 : BitVec 32 := 0#32
  let v756 : BitVec 32 := Scalar.addi v755 c0_i32_188
  let v757 : Index := Scalar.indexCast v756
  ![v757.toNat]

def k0_chk41 (v770 : IVec S16 32) : Prop :=
  (∀ a x, ((![v770] : Fin 1 → IVec S16 32) a x).toNat < S224.size a)
theorem k0_idx41_inb : ∀ (v770 : IVec S16 32) (k0_hw41 : k0_chk41 v770), ∀ a x, ((![v770] : Fin 1 → IVec S16 32) a x).toNat < S224.size a := fun v770 k0_hw41 => k0_hw41
def k0_off16 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_191 : BitVec 32 := 208#32
  let v773 : BitVec 32 := Scalar.muli arg12 c208_i32_191
  let c16_i32_192 : BitVec 32 := 16#32
  let v774 : BitVec 32 := Scalar.addi v773 c16_i32_192
  let v775 : Index := Scalar.indexCast v774
  ![v775.toNat]

def k0_chk42 (v788 : IVec S16 32) : Prop :=
  (∀ a x, ((![v788] : Fin 1 → IVec S16 32) a x).toNat < S224.size a)
theorem k0_idx42_inb : ∀ (v788 : IVec S16 32) (k0_hw42 : k0_chk42 v788), ∀ a x, ((![v788] : Fin 1 → IVec S16 32) a x).toNat < S224.size a := fun v788 k0_hw42 => k0_hw42
def k0_off17 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_195 : BitVec 32 := 208#32
  let v791 : BitVec 32 := Scalar.muli arg12 c208_i32_195
  let c32_i32_196 : BitVec 32 := 32#32
  let v792 : BitVec 32 := Scalar.addi v791 c32_i32_196
  let v793 : Index := Scalar.indexCast v792
  ![v793.toNat]

def k0_chk43 (v806 : IVec S16 32) : Prop :=
  (∀ a x, ((![v806] : Fin 1 → IVec S16 32) a x).toNat < S224.size a)
theorem k0_idx43_inb : ∀ (v806 : IVec S16 32) (k0_hw43 : k0_chk43 v806), ∀ a x, ((![v806] : Fin 1 → IVec S16 32) a x).toNat < S224.size a := fun v806 k0_hw43 => k0_hw43
def k0_off18 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_199 : BitVec 32 := 208#32
  let v809 : BitVec 32 := Scalar.muli arg12 c208_i32_199
  let c48_i32_200 : BitVec 32 := 48#32
  let v810 : BitVec 32 := Scalar.addi v809 c48_i32_200
  let v811 : Index := Scalar.indexCast v810
  ![v811.toNat]

def k0_chk44 (v824 : IVec S16 32) : Prop :=
  (∀ a x, ((![v824] : Fin 1 → IVec S16 32) a x).toNat < S224.size a)
theorem k0_idx44_inb : ∀ (v824 : IVec S16 32) (k0_hw44 : k0_chk44 v824), ∀ a x, ((![v824] : Fin 1 → IVec S16 32) a x).toNat < S224.size a := fun v824 k0_hw44 => k0_hw44
def k0_off19 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_203 : BitVec 32 := 208#32
  let v827 : BitVec 32 := Scalar.muli arg12 c208_i32_203
  let c64_i32_204 : BitVec 32 := 64#32
  let v828 : BitVec 32 := Scalar.addi v827 c64_i32_204
  let v829 : Index := Scalar.indexCast v828
  ![v829.toNat]

def k0_chk45 (v842 : IVec S16 32) : Prop :=
  (∀ a x, ((![v842] : Fin 1 → IVec S16 32) a x).toNat < S224.size a)
theorem k0_idx45_inb : ∀ (v842 : IVec S16 32) (k0_hw45 : k0_chk45 v842), ∀ a x, ((![v842] : Fin 1 → IVec S16 32) a x).toNat < S224.size a := fun v842 k0_hw45 => k0_hw45
def k0_off20 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_207 : BitVec 32 := 208#32
  let v845 : BitVec 32 := Scalar.muli arg12 c208_i32_207
  let c80_i32_208 : BitVec 32 := 80#32
  let v846 : BitVec 32 := Scalar.addi v845 c80_i32_208
  let v847 : Index := Scalar.indexCast v846
  ![v847.toNat]

def k0_chk46 (v860 : IVec S16 32) : Prop :=
  (∀ a x, ((![v860] : Fin 1 → IVec S16 32) a x).toNat < S224.size a)
theorem k0_idx46_inb : ∀ (v860 : IVec S16 32) (k0_hw46 : k0_chk46 v860), ∀ a x, ((![v860] : Fin 1 → IVec S16 32) a x).toNat < S224.size a := fun v860 k0_hw46 => k0_hw46
def k0_off21 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_211 : BitVec 32 := 208#32
  let v863 : BitVec 32 := Scalar.muli arg12 c208_i32_211
  let c96_i32_212 : BitVec 32 := 96#32
  let v864 : BitVec 32 := Scalar.addi v863 c96_i32_212
  let v865 : Index := Scalar.indexCast v864
  ![v865.toNat]

def k0_chk47 (v878 : IVec S16 32) : Prop :=
  (∀ a x, ((![v878] : Fin 1 → IVec S16 32) a x).toNat < S224.size a)
theorem k0_idx47_inb : ∀ (v878 : IVec S16 32) (k0_hw47 : k0_chk47 v878), ∀ a x, ((![v878] : Fin 1 → IVec S16 32) a x).toNat < S224.size a := fun v878 k0_hw47 => k0_hw47
def k0_off22 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_215 : BitVec 32 := 208#32
  let v881 : BitVec 32 := Scalar.muli arg12 c208_i32_215
  let c112_i32_216 : BitVec 32 := 112#32
  let v882 : BitVec 32 := Scalar.addi v881 c112_i32_216
  let v883 : Index := Scalar.indexCast v882
  ![v883.toNat]

def k0_chk48 (v896 : IVec S16 32) : Prop :=
  (∀ a x, ((![v896] : Fin 1 → IVec S16 32) a x).toNat < S224.size a)
theorem k0_idx48_inb : ∀ (v896 : IVec S16 32) (k0_hw48 : k0_chk48 v896), ∀ a x, ((![v896] : Fin 1 → IVec S16 32) a x).toNat < S224.size a := fun v896 k0_hw48 => k0_hw48
def k0_off23 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_219 : BitVec 32 := 208#32
  let v899 : BitVec 32 := Scalar.muli arg12 c208_i32_219
  let c128_i32_220 : BitVec 32 := 128#32
  let v900 : BitVec 32 := Scalar.addi v899 c128_i32_220
  let v901 : Index := Scalar.indexCast v900
  ![v901.toNat]

def k0_chk49 (v914 : IVec S16 32) : Prop :=
  (∀ a x, ((![v914] : Fin 1 → IVec S16 32) a x).toNat < S224.size a)
theorem k0_idx49_inb : ∀ (v914 : IVec S16 32) (k0_hw49 : k0_chk49 v914), ∀ a x, ((![v914] : Fin 1 → IVec S16 32) a x).toNat < S224.size a := fun v914 k0_hw49 => k0_hw49
def k0_off24 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_223 : BitVec 32 := 208#32
  let v917 : BitVec 32 := Scalar.muli arg12 c208_i32_223
  let c144_i32_224 : BitVec 32 := 144#32
  let v918 : BitVec 32 := Scalar.addi v917 c144_i32_224
  let v919 : Index := Scalar.indexCast v918
  ![v919.toNat]

def k0_chk50 (v932 : IVec S16 32) : Prop :=
  (∀ a x, ((![v932] : Fin 1 → IVec S16 32) a x).toNat < S224.size a)
theorem k0_idx50_inb : ∀ (v932 : IVec S16 32) (k0_hw50 : k0_chk50 v932), ∀ a x, ((![v932] : Fin 1 → IVec S16 32) a x).toNat < S224.size a := fun v932 k0_hw50 => k0_hw50
def k0_off25 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_227 : BitVec 32 := 208#32
  let v935 : BitVec 32 := Scalar.muli arg12 c208_i32_227
  let c160_i32_228 : BitVec 32 := 160#32
  let v936 : BitVec 32 := Scalar.addi v935 c160_i32_228
  let v937 : Index := Scalar.indexCast v936
  ![v937.toNat]

def k0_chk51 (v950 : IVec S16 32) : Prop :=
  (∀ a x, ((![v950] : Fin 1 → IVec S16 32) a x).toNat < S224.size a)
theorem k0_idx51_inb : ∀ (v950 : IVec S16 32) (k0_hw51 : k0_chk51 v950), ∀ a x, ((![v950] : Fin 1 → IVec S16 32) a x).toNat < S224.size a := fun v950 k0_hw51 => k0_hw51
def k0_off26 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_231 : BitVec 32 := 208#32
  let v953 : BitVec 32 := Scalar.muli arg12 c208_i32_231
  let c176_i32_232 : BitVec 32 := 176#32
  let v954 : BitVec 32 := Scalar.addi v953 c176_i32_232
  let v955 : Index := Scalar.indexCast v954
  ![v955.toNat]

def k0_chk52 (v968 : IVec S16 32) : Prop :=
  (∀ a x, ((![v968] : Fin 1 → IVec S16 32) a x).toNat < S224.size a)
theorem k0_idx52_inb : ∀ (v968 : IVec S16 32) (k0_hw52 : k0_chk52 v968), ∀ a x, ((![v968] : Fin 1 → IVec S16 32) a x).toNat < S224.size a := fun v968 k0_hw52 => k0_hw52
def k0_off27 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_235 : BitVec 32 := 208#32
  let v971 : BitVec 32 := Scalar.muli arg12 c208_i32_235
  let c192_i32_236 : BitVec 32 := 192#32
  let v972 : BitVec 32 := Scalar.addi v971 c192_i32_236
  let v973 : Index := Scalar.indexCast v972
  ![v973.toNat]
def k0_cond1 (k0_t1 : Fin k0_t1_loop.trips) : BitVec 1 :=
  let c1_i32_82 : BitVec 32 := 1#32
  let c1_i32_83 : BitVec 32 := 1#32
  let arg12 : BitVec 32 := Scf.iv c1_i32_82 c1_i32_83 k0_t1
  let c4_i32_237 : BitVec 32 := 4#32
  let v975 : BitVec 1 := Scalar.cmpi .sge arg12 c4_i32_237
  let v976 : BitVec 32 := Scalar.extui v975
  let c0_i32_238 : BitVec 32 := 0#32
  let v977 : BitVec 1 := Scalar.cmpi .ne v976 c0_i32_238
  v977

def k0_off28 (k0_t1 : Fin k0_t1_loop.trips) : Fin 3 → Nat :=
  let c1_i32_82 : BitVec 32 := 1#32
  let c1_i32_83 : BitVec 32 := 1#32
  let arg12 : BitVec 32 := Scf.iv c1_i32_82 c1_i32_83 k0_t1
  let c4_i32 : BitVec 32 := 4#32
  let v506 : BitVec 32 := Scalar.remsi arg12 c4_i32
  let c0_i32_273 : BitVec 32 := 0#32
  let c0_i32_274 : BitVec 32 := 0#32
  ![v506.toNat, 0, 0]
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c200_i32_272 : BitVec 32 := 200#32
  let v1022 : BitVec 32 := Scalar.muli v2 c200_i32_272
  let c0_i32_275 : BitVec 32 := 0#32
  ![v1022.toNat, 0]
def k0_off30 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c4_i32 : BitVec 32 := 4#32
  let v506 : BitVec 32 := Scalar.remsi arg12 c4_i32
  ![v506.toNat]
def k0_off31 (k0_t1 : Fin k0_t1_loop.trips) : Fin 3 → Nat :=
  let c1_i32_82 : BitVec 32 := 1#32
  let c1_i32_83 : BitVec 32 := 1#32
  let arg12 : BitVec 32 := Scf.iv c1_i32_82 c1_i32_83 k0_t1
  let c4_i32 : BitVec 32 := 4#32
  let v506 : BitVec 32 := Scalar.remsi arg12 c4_i32
  let c0_i32_240 : BitVec 32 := 0#32
  let c0_i32_241 : BitVec 32 := 0#32
  ![v506.toNat, 0, 0]
def k0_off32 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_239 : BitVec 32 := 208#32
  let v978 : BitVec 32 := Scalar.muli arg12 c208_i32_239
  ![v978.toNat]
def k0_off33 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c4_i32 : BitVec 32 := 4#32
  let v506 : BitVec 32 := Scalar.remsi arg12 c4_i32
  ![v506.toNat]
def k0_off34 (k0_t1 : Fin k0_t1_loop.trips) : Fin 3 → Nat :=
  let c1_i32_82 : BitVec 32 := 1#32
  let c1_i32_83 : BitVec 32 := 1#32
  let arg12 : BitVec 32 := Scf.iv c1_i32_82 c1_i32_83 k0_t1
  let c4_i32 : BitVec 32 := 4#32
  let v506 : BitVec 32 := Scalar.remsi arg12 c4_i32
  let c128_i32_246 : BitVec 32 := 128#32
  let c0_i32_247 : BitVec 32 := 0#32
  ![v506.toNat, 128, 0]
def k0_off35 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c208_i32_244 : BitVec 32 := 208#32
  let v985 : BitVec 32 := Scalar.muli arg12 c208_i32_244
  let c128_i32_245 : BitVec 32 := 128#32
  let v986 : BitVec 32 := Scalar.addi v985 c128_i32_245
  ![v986.toNat]
def k0_off36 (k0_t1 : Fin k0_t1_loop.trips) : Fin 3 → Nat :=
  let c1_i32_82 : BitVec 32 := 1#32
  let c1_i32_83 : BitVec 32 := 1#32
  let arg12 : BitVec 32 := Scf.iv c1_i32_82 c1_i32_83 k0_t1
  let c1_i32_250 : BitVec 32 := 1#32
  let v993 : BitVec 32 := Scalar.subi arg12 c1_i32_250
  let c4_i32_251 : BitVec 32 := 4#32
  let v994 : BitVec 32 := Scalar.remsi v993 c4_i32_251
  let c0_i32_254 : BitVec 32 := 0#32
  let c0_i32_255 : BitVec 32 := 0#32
  ![v994.toNat, 0, 0]
def k0_off37 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c1_i32_252 : BitVec 32 := 1#32
  let v995 : BitVec 32 := Scalar.subi arg12 c1_i32_252
  let c208_i32_253 : BitVec 32 := 208#32
  let v996 : BitVec 32 := Scalar.muli v995 c208_i32_253
  ![v996.toNat]
def k0_off38 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c1_i32_250 : BitVec 32 := 1#32
  let v993 : BitVec 32 := Scalar.subi arg12 c1_i32_250
  let c4_i32_251 : BitVec 32 := 4#32
  let v994 : BitVec 32 := Scalar.remsi v993 c4_i32_251
  ![v994.toNat]
def k0_off39 (k0_t1 : Fin k0_t1_loop.trips) : Fin 3 → Nat :=
  let c1_i32_82 : BitVec 32 := 1#32
  let c1_i32_83 : BitVec 32 := 1#32
  let arg12 : BitVec 32 := Scf.iv c1_i32_82 c1_i32_83 k0_t1
  let c1_i32_250 : BitVec 32 := 1#32
  let v993 : BitVec 32 := Scalar.subi arg12 c1_i32_250
  let c4_i32_251 : BitVec 32 := 4#32
  let v994 : BitVec 32 := Scalar.remsi v993 c4_i32_251
  let c128_i32_260 : BitVec 32 := 128#32
  let c0_i32_261 : BitVec 32 := 0#32
  ![v994.toNat, 128, 0]
def k0_off40 (k0_t1 : Fin k0_t1_loop.trips) : Fin 1 → Nat :=
  let c1_i32_82 : BitVec 32 := 1#32
  let c1_i32_83 : BitVec 32 := 1#32
  let arg12 : BitVec 32 := Scf.iv c1_i32_82 c1_i32_83 k0_t1
  let c1_i32_252 : BitVec 32 := 1#32
  let v995 : BitVec 32 := Scalar.subi arg12 c1_i32_252
  let c208_i32_258 : BitVec 32 := 208#32
  let v1003 : BitVec 32 := Scalar.muli v995 c208_i32_258
  let c128_i32_259 : BitVec 32 := 128#32
  let v1004 : BitVec 32 := Scalar.addi v1003 c128_i32_259
  ![v1004.toNat]
def k0_off41 (k0_t1 : Fin k0_t1_loop.trips) : Fin 3 → Nat :=
  let c1_i32_82 : BitVec 32 := 1#32
  let c1_i32_83 : BitVec 32 := 1#32
  let arg12 : BitVec 32 := Scf.iv c1_i32_82 c1_i32_83 k0_t1
  let c1_i32_250 : BitVec 32 := 1#32
  let v993 : BitVec 32 := Scalar.subi arg12 c1_i32_250
  let c4_i32_251 : BitVec 32 := 4#32
  let v994 : BitVec 32 := Scalar.remsi v993 c4_i32_251
  let c0_i32_266 : BitVec 32 := 0#32
  let c0_i32_267 : BitVec 32 := 0#32
  ![v994.toNat, 0, 0]
def k0_off42 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_82 : BitVec 32 := 1#32
  let c1_i32_83 : BitVec 32 := 1#32
  let arg12 : BitVec 32 := Scf.iv c1_i32_82 c1_i32_83 k0_t1
  let c1_i32_264 : BitVec 32 := 1#32
  let v1011 : BitVec 32 := Scalar.subi arg12 c1_i32_264
  let v1012 : BitVec 32 := Scalar.addi v2 v1011
  let c200_i32_265 : BitVec 32 := 200#32
  let v1013 : BitVec 32 := Scalar.muli v1012 c200_i32_265
  let c0_i32_268 : BitVec 32 := 0#32
  ![v1013.toNat, 0]
def k0_off43 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32_96 : BitVec 32 := 31#32
  let v460 : BitVec 32 := Scalar.addi v2 c31_i32_96
  let c200_i32_97 : BitVec 32 := 200#32
  let v461 : BitVec 32 := Scalar.muli v460 c200_i32_97
  let c0_i32_102 : BitVec 32 := 0#32
  ![v461.toNat, 0]
def k0_off44 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c200_i32_106 : BitVec 32 := 200#32
  let v470 : BitVec 32 := Scalar.muli v2 c200_i32_106
  let c0_i32_111 : BitVec 32 := 0#32
  ![v470.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ExampleIdeal.lean ====
abbrev S1024x200x128 : Shape := ⟨3, ![1024, 200, 128]⟩
abbrev S1024x200 : Shape := ⟨2, ![1024, 200]⟩
abbrev S_ : Shape := ⟨0, ![]⟩
abbrev S1024 : Shape := ⟨1, ![1024]⟩
abbrev S200 : Shape := ⟨1, ![200]⟩
abbrev S1x200 : Shape := ⟨2, ![1, 200]⟩
abbrev S1024x1 : Shape := ⟨2, ![1024, 1]⟩
abbrev S1024x200x1 : Shape := ⟨3, ![1024, 200, 1]⟩
abbrev S1 : Shape := ⟨1, ![1]⟩
abbrev S1x1x1 : Shape := ⟨3, ![1, 1, 1]⟩
abbrev S204800x128 : Shape := ⟨2, ![204800, 128]⟩

abbrev nBuf : Space → Nat
  | .hbm => 97
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S1024x200, .i1⟩
  | .hbm, ⟨2, _⟩ => ⟨S1024x200, .i32⟩
  | .hbm, ⟨3, _⟩ => ⟨S_, .i32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S1024x200, .i32⟩
  | .hbm, ⟨8, _⟩ => ⟨S1024x200, .i32⟩
  | .hbm, ⟨9, _⟩ => ⟨S1024x200, .i32⟩
  | .hbm, ⟨10, _⟩ => ⟨S_, .i32⟩
  | .hbm, ⟨11, _⟩ => ⟨S1024x200, .i32⟩
  | .hbm, ⟨12, _⟩ => ⟨S1024x200, .i32⟩
  | .hbm, ⟨13, _⟩ => ⟨S200, .i32⟩
  | .hbm, ⟨14, _⟩ => ⟨S1x200, .i32⟩
  | .hbm, ⟨15, _⟩ => ⟨S1024x200, .i32⟩
  | .hbm, ⟨16, _⟩ => ⟨S1024x200, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S200, .i32⟩
  | .hbm, ⟨26, _⟩ => ⟨S1x200, .i32⟩
  | .hbm, ⟨27, _⟩ => ⟨S_, .i32⟩
  | .hbm, ⟨28, _⟩ => ⟨S1024x1, .i32⟩
  | .hbm, ⟨29, _⟩ => ⟨S1024x1, .i1⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S1024x200, .i32⟩
  | .hbm, ⟨34, _⟩ => ⟨S1024x200, .i32⟩
  | .hbm, ⟨35, _⟩ => ⟨S1024x200, .i32⟩
  | .hbm, ⟨36, _⟩ => ⟨S_, .i32⟩
  | .hbm, ⟨37, _⟩ => ⟨S1024x200, .i32⟩
  | .hbm, ⟨38, _⟩ => ⟨S1024x200, .i1⟩
  | .hbm, ⟨39, _⟩ => ⟨S_, .i32⟩
  | .hbm, ⟨40, _⟩ => ⟨S1024x200, .i32⟩
  | .hbm, ⟨41, _⟩ => ⟨S1024x200, .i1⟩
  | .hbm, ⟨42, _⟩ => ⟨S_, .i32⟩
  | .hbm, ⟨43, _⟩ => ⟨S1024x1, .i32⟩
  | .hbm, ⟨44, _⟩ => ⟨S1024x1, .i1⟩
  | .hbm, ⟨45, _⟩ => ⟨S1024x200, .i1⟩
  | .hbm, ⟨46, _⟩ => ⟨S1024x200, .i1⟩
  | .hbm, ⟨47, _⟩ => ⟨S1024x200, .i1⟩
  | .hbm, ⟨48, _⟩ => ⟨S1024x200, .i32⟩
  | .hbm, ⟨49, _⟩ => ⟨S1024x200, .i32⟩
  | .hbm, ⟨50, _⟩ => ⟨S1024x200, .i32⟩
  | .hbm, ⟨51, _⟩ => ⟨S_, .i32⟩
  | .hbm, ⟨52, _⟩ => ⟨S1024x200, .i32⟩
  | .hbm, ⟨53, _⟩ => ⟨S1024x200, .i1⟩
  | .hbm, ⟨54, _⟩ => ⟨S_, .i32⟩
  | .hbm, ⟨55, _⟩ => ⟨S1024x200, .i32⟩
  | .hbm, ⟨56, _⟩ => ⟨S1024x200, .i32⟩
  | .hbm, ⟨57, _⟩ => ⟨S1024x200, .i32⟩
  | .hbm, ⟨58, _⟩ => ⟨S1024x200x1, .i32⟩
  | .hbm, ⟨59, _⟩ => ⟨S1, .i32⟩
  | .hbm, ⟨60, _⟩ => ⟨S_, .i32⟩
  | .hbm, ⟨61, _⟩ => ⟨S1024x200x1, .i32⟩
  | .hbm, ⟨62, _⟩ => ⟨S1024x200x1, .i1⟩
  | .hbm, ⟨63, _⟩ => ⟨S1x1x1, .i32⟩
  | .hbm, ⟨64, _⟩ => ⟨S1024x200x1, .i32⟩
  | .hbm, ⟨65, _⟩ => ⟨S1024x200x1, .i1⟩
  | .hbm, ⟨66, _⟩ => ⟨S1024x200x1, .i1⟩
  | .hbm, ⟨67, _⟩ => ⟨S_, .i1⟩
  | .hbm, ⟨68, _⟩ => ⟨S1024x200, .i1⟩
  | .hbm, ⟨69, _⟩ => ⟨S1024x200, .i32⟩
  | .hbm, ⟨70, _⟩ => ⟨S_, .i32⟩
  | .hbm, ⟨71, _⟩ => ⟨S1024x200, .i32⟩
  | .hbm, ⟨72, _⟩ => ⟨S1024x200, .i32⟩
  | .hbm, ⟨73, _⟩ => ⟨S1024x200x1, .i32⟩
  | .hbm, ⟨74, _⟩ => ⟨S_, .i32⟩
  | .hbm, ⟨75, _⟩ => ⟨S1024x200x1, .i32⟩
  | .hbm, ⟨76, _⟩ => ⟨S1024x200x1, .i1⟩
  | .hbm, ⟨77, _⟩ => ⟨S_, .i32⟩
  | .hbm, ⟨78, _⟩ => ⟨S1024x200x1, .i32⟩
  | .hbm, ⟨79, _⟩ => ⟨S1024x200x1, .i32⟩
  | .hbm, ⟨80, _⟩ => ⟨S1024x200x1, .i32⟩
  | .hbm, ⟨81, _⟩ => ⟨S1, .i32⟩
  | .hbm, ⟨82, _⟩ => ⟨S_, .i32⟩
  | .hbm, ⟨83, _⟩ => ⟨S1024x200x1, .i32⟩
  | .hbm, ⟨84, _⟩ => ⟨S1024x200x1, .i1⟩
  | .hbm, ⟨85, _⟩ => ⟨S1x1x1, .i32⟩
  | .hbm, ⟨86, _⟩ => ⟨S1024x200x1, .i32⟩
  | .hbm, ⟨87, _⟩ => ⟨S1024x200x1, .i1⟩
  | .hbm, ⟨88, _⟩ => ⟨S1024x200x1, .i1⟩
  | .hbm, ⟨89, _⟩ => ⟨S_, .i1⟩
  | .hbm, ⟨90, _⟩ => ⟨S1024x200, .i1⟩
  | .hbm, ⟨91, _⟩ => ⟨S1024x200x128, .f32⟩
  | .hbm, ⟨92, _⟩ => ⟨S1024x200x128, .i1⟩
  | .hbm, ⟨93, _⟩ => ⟨S_, .f32⟩
  | .hbm, ⟨94, _⟩ => ⟨S1024x200x128, .f32⟩
  | .hbm, ⟨95, _⟩ => ⟨S1024x200x128, .f32⟩
  | .hbm, ⟨96, _⟩ => ⟨S204800x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_v0 : Ref sig .tc := ⟨.hbm, 18, rfl⟩
abbrev main_call1_v1_0 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_c_1 : Ref sig .tc := ⟨.hbm, 36, rfl⟩
abbrev main_call2_v7 : Ref sig .tc := ⟨.hbm, 37, rfl⟩
abbrev main_call2_v8 : Ref sig .tc := ⟨.hbm, 38, rfl⟩
abbrev main_call2_c_2 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_v15 : Ref sig .tc := ⟨.hbm, 47, rfl⟩
abbrev main_call2_v16 : Ref sig .tc := ⟨.hbm, 48, rfl⟩
abbrev main_call2_v17 : Ref sig .tc := ⟨.hbm, 49, rfl⟩
abbrev main_v16 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_c_4 : Ref sig .tc := ⟨.hbm, 70, rfl⟩
abbrev main_call3_v14 : Ref sig .tc := ⟨.hbm, 71, rfl⟩
abbrev main_v17 : Ref sig .tc := ⟨.hbm, 72, rfl⟩
abbrev main_v18 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_c_1 : Ref sig .tc := ⟨.hbm, 81, rfl⟩
abbrev main_call4_c_2 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_c_3 : Ref sig .tc := ⟨.hbm, 89, rfl⟩
abbrev main_call4_v11 : Ref sig .tc := ⟨.hbm, 90, rfl⟩
abbrev main_call4_v12 : Ref sig .tc := ⟨.hbm, 91, rfl⟩
abbrev main_call4_v13 : Ref sig .tc := ⟨.hbm, 92, rfl⟩
abbrev main_call4_cst : Ref sig .tc := ⟨.hbm, 93, rfl⟩
abbrev main_call4_v14 : Ref sig .tc := ⟨.hbm, 94, rfl⟩
abbrev main_v19 : Ref sig .tc := ⟨.hbm, 95, rfl⟩
abbrev main_v20 : Ref sig .tc := ⟨.hbm, 96, rfl⟩

abbrev nD : Nat := 1
abbrev τ : Topo := Topo.v7x

variable {F : FTy → Type} [FloatOps F]
-- ==== Proof.Context.lean ====
/-
  The repeated context. The TensorCore call of `kernel` writes, in blocks of 64 rows, every row of its argument 200
  times over (`rep`); the reference broadcasts the rows along a new axis. Both then lay the [1024, 200, 128] array out
  as [204800, 128] by the same reshape.
-/
module

public import proofs.«01_k».proof.Defs
public import proofs.«01_k».proof.Proof.Gen.Kernel.Frame
public import proofs.«01_k».proof.Proof.Gen.KernelIdeal.Frame
public import proofs.«01_k».proof.Proof.Gen.ReferenceIdeal
public import Idealize.ShloMosaic.Lib.Pipeline.Value
public import Idealize.ShloMosaic.Lib.Pipeline.ValueKit
public import Idealize.ShloMosaic.Lib.Claim
public import Idealize.ShloMosaic.Lib.Quiescent

@[expose] public section

noncomputable section

open Idealize.ShloMosaic Idealize.ShloMosaic.TcCoe Idealize.SL.Sem
open Idealize.ShloMosaic.Pipeline (Dat)

namespace Cert.KernelIdeal.Context

open Cert.KernelIdeal Cert.KernelIdeal.Gen

variable {F : FTy → Type} [FloatOps F]
variable (m : (ℓ : Loc nD τ sig) → Buf (Elt F) ℓ) (ρ : Dev nD → PrngReg)

/-- Every row of `x`, 200 times over. -/
def rep {α : Type} (x : S1024x128.Idx → α) : S1024x200x128.Idx → α :=
  fun i => x (fun a => match a with | ⟨0, _⟩ => i 0 | ⟨1, _⟩ => i 2)

/-- The body's payload: row `y 0` of the loaded block at every middle index. -/
theorem pay_apply (x : Vec F S64x128 .f32) (y : S64x200x128.Idx) (k : S64x128.Idx)
    (h0 : (k 0).val = (y 0).val) (h1 : (k 1).val = (y 2).val) : k0_pay1 x y = x k := by
  unfold k0_pay1
  rw [shapeCast_self]
  refine (broadcastTo_apply _ _ y
    (fun a : Fin S64x1x128.rank => match a with | ⟨0, _⟩ => y 0 | ⟨1, _⟩ => (⟨0, Nat.one_pos⟩ : Fin 1) | ⟨2, _⟩ => y 2) (fun a => ?_)).trans ?_
  · match a with
    | ⟨0, _⟩ => rfl
    | ⟨1, _⟩ => rfl
    | ⟨2, _⟩ => rfl
  refine shapeCast_apply _ _ _ k ?_
  rw [Shape.rowMajor_val_two, Shape.rowMajor_val_three]
  show (k 0).val * 128 + (k 1).val = ((y 0).val * 1 + 0) * 128 + (y 2).val
  omega

/-- The result array of the call ends holding every row of the argument 200 times over. -/
theorem final (c : Dev nD) : (dats m 0 c).arrAt 1 cfg0.N = rep (m ((c : Thread nD τ).loc main_arg0)) := by
  have e0 : ∀ t : Fin cfg0.N, win0_0.index t = ![(grid0.coords t 0).val, 0] :=
    (by decide +kernel : ∀ t : Fin grid0.N, _)
  have e1 : ∀ t : Fin cfg0.N, win0_1.index t = ![(grid0.coords t 0).val, 0, 0] :=
    (by decide +kernel : ∀ t : Fin grid0.N, _)
  refine (dats m 0 c).arrAt_eq_of_covers 1 _ (by decide +kernel) fun t hf y => ?_
  blk_simp
  rw [after0_1]
  frame_out
  refine (pay_apply _ y (fun a => match a with | ⟨0, _⟩ => y 0 | ⟨1, _⟩ => y 2) rfl rfl).trans ?_
  blk_simp [iblk]
  rw [V_main_arg0]
  unfold rep
  refine congrArg (m ((c : Thread nD τ).loc main_arg0)) (Shape.idx_ext₂ ?_ ?_)
  · blk_simp [e0, e1]
  · blk_simp [e0, e1]

/-- The result: the repeated rows laid out as one list of 204800 rows. -/
abbrev out (x : S1024x128.Idx → Elt F .f32) : S204800x128.Idx → Elt F .f32 :=
  shapeCast S204800x128 (rep x) shapeCasts_S1024x200x128_S204800x128

/-- What the run leaves in the result array: the call's result array, laid out anew. -/
theorem tail (c : Dev nD) :
    Pipeline.afterTail₀ cfgs (dats m) 0 (V0 m) [hostOps1] c main_v3 = out (m ((c : Thread nD τ).loc main_arg0)) := by
  unfold Pipeline.afterTail₀
  simp only [hostOps1, List.flatten_cons, List.flatten_nil, List.append_nil, StableHlo.after_cons, StableHlo.after_nil]
  rw [StableHlo.reshape_result]
  have h := Pipeline.withArrays_arr (win := spec0) (by decide) c (V0 m c) (fun w => (dats m 0 c).arrAt w cfg0.N) 1
  rw [final] at h
  exact congrArg (fun a : S1024x200x128.Idx → Elt F .f32 => shapeCast S204800x128 a shapeCasts_S1024x200x128_S204800x128) h

/-- The run, read at the result and at the arguments. -/
theorem run : θ_run defs (onTc (τ := τ) (main (F := F))) ⟨m, fun _ => 0, ρ⟩ fun r => ∀ c : Dev nD,
      r.2.mem ((c : Thread nD τ).loc main_v3) = out (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun _ h c => ⟨((h.1 c).2 main_v3 (Pipeline.mem_restRefs_of main_v3 (by decide) (by decide))).trans (tail m c), h.2.1 c⟩)
    (θ_run_and (run_main m ρ) (frame m ρ))

end Cert.KernelIdeal.Context

namespace Cert.Proof.ContextClaims

/-- The reference's run leaves its arguments alone; it has no semaphore. -/
theorem reference_frame : Cert.quiescent_ReferenceIdeal := by
  intro m ρ _
  have h : θ_run Cert.ReferenceIdeal.defs (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
    hlo_run
  exact (θ_run Cert.ReferenceIdeal.defs _ _).mono
    (fun r h => ⟨h, Idealize.ShloMosaic.sem_eq_zero_of_no_sems (by decide) r.2⟩) h

/-- The kernel's result and the reference's are the same rows in the same order. -/
theorem algebraic : Cert.algebraic_KernelIdeal_ReferenceIdeal := by
  pair_intro
  · run_from Cert.KernelIdeal.Context.run m g
  · hlo_run
    refine congrArg (fun a => shapeCast Cert.KernelIdeal.S204800x128 a Cert.KernelIdeal.Gen.shapeCasts_S1024x200x128_S204800x128)
      (funext fun i => ?_)
    refine broadcastInDim_apply _ _ _ i _ fun a => ?_
    match a with
    | ⟨0, _⟩ => rfl
    | ⟨1, _⟩ => rfl

end Cert.Proof.ContextClaims

end
-- ==== Proof.Rows.lean ====
/-
  One row of the mask, compacted and read cyclically. A row `r` of 200 mask words is taken in thirteen chunks of 16
  lanes (the last one starts at column 184 and only its upper eight lanes count). Each chunk scatters the columns of
  its valid lanes behind those already found; afterwards the list holds, at place `p`, the `p`-th valid column.
-/
module

public import Idealize.ShloMosaic.Lib.SparseCore.Ops
public import Idealize.ShloMosaic.Lib.Pipeline.ValueKit
public import Mathlib.Data.Nat.Count

@[expose] public section

noncomputable section

open Idealize.ShloMosaic

namespace Cert.Rows

/-- Sixteen lanes; the words of a list of columns; one row's piece as loaded. -/
abbrev L16 : Shape := ⟨1, ![16]⟩
abbrev L224 : Shape := ⟨1, ![224]⟩
abbrev L1x16 : Shape := ⟨2, ![1, 16]⟩

/-- Lane `k`; place `p` of a list. -/
def ln (k : Fin 16) : L16.Idx := Shape.ofLane (d := ![16]) k
def pl (p : Fin 224) : L224.Idx := Shape.ofLane (d := ![224]) p

/-! ## Counting within a chunk -/

section Chunk

variable (v : IVec L16 1)

/-- Lane `k` is valid. -/
def on (k : ℕ) : Prop := ∃ h : k < 16, v (ln ⟨k, h⟩) = 1#1

instance : DecidablePred (on v) := fun k => by unfold on; exact inferInstance

theorem on_iff (i : L16.Idx) : on v (i 0).val ↔ v i = 1#1 := by
  have e : ln ⟨(i 0).val, (i 0).isLt⟩ = i := by
    funext a; match a with | ⟨0, _⟩ => rfl
  constructor
  · rintro ⟨h, hv⟩; rw [← e]; exact hv
  · intro hv; exact ⟨(i 0).isLt, by rw [e]; exact hv⟩

theorem not_on_of_le {k : ℕ} (h : 16 ≤ k) : ¬ on v k := fun ⟨h', _⟩ => absurd h' (by omega)

/-- The running sum of the first `k + 1` words. -/
def psum (w : ℕ → BitVec 32) : ℕ → BitVec 32
  | 0 => w 0
  | k + 1 => psum w k + w (k + 1)

theorem filter_lanes : ∀ j : Fin 16, (List.finRange 16).filter (fun k => decide (0 < k.val ∧ k.val ≤ j.val))
    = (List.range j.val).map fun k => Fin.ofNat 16 (k + 1) := by decide

theorem foldl_psum (w : ℕ → BitVec 32) (j : ℕ) :
    (List.range j).foldl (fun r k => r + w (k + 1)) (w 0) = psum w j := by
  induction j with
  | zero => rfl
  | succ j ih => rw [List.range_succ, List.foldl_append, ih]; rfl

/-- The sum scan of sixteen lanes is the running sum. -/
theorem scan_eq (x : IVec L16 32) (w : ℕ → BitVec 32)
    (hw : ∀ k : Fin 16, x (ln k) = w k.val) (i : L16.Idx) :
    scan (d := ![16]) .sum x i = psum w (i 0).val := by
  have hw' : ∀ k, k < 15 → x (ln (Fin.ofNat 16 (k + 1))) = w (k + 1) := fun k hk => by
    rw [hw]; congr 1; simp only [Fin.ofNat]; omega
  show ((List.finRange 16).filter fun k => decide (0 < k.val ∧ k.val ≤ (i 0).val)).foldl
      (fun r k => r + x (ln k)) (x (ln ⟨0, _⟩)) = _
  rw [filter_lanes (i 0), List.foldl_map, hw, ← foldl_psum]
  apply List.foldl_ext
  intro a k hk
  rw [hw' k (by have := List.mem_range.1 hk; have := (i 0).isLt; simp at this; omega)]

/-- How many of the lanes below `k` are valid. -/
abbrev cnt (k : ℕ) : ℕ := Nat.count (on v) k

theorem cnt_le (k : ℕ) : cnt v k ≤ k := Nat.count_le (p := on v)

theorem cnt_succ_on {k : ℕ} (h : on v k) : cnt v (k + 1) = cnt v k + 1 := by
  rw [cnt, Nat.count_succ, if_pos h]

theorem cnt_succ_off {k : ℕ} (h : ¬ on v k) : cnt v (k + 1) = cnt v k := by
  rw [cnt, Nat.count_succ, if_neg h, Nat.add_zero]

theorem cnt_grow (j k : ℕ) : cnt v (j + k) ≤ cnt v j + k := by
  rw [cnt, Nat.count_add]; exact Nat.add_le_add_left (Nat.count_le _) _

/-- The lanes' numbers, and the constants the chunk uses. -/
abbrev lane : IVec L16 32 := iota .scVector L16 32 [0] (by decide)
abbrev zeros : IVec L16 32 := broadcast L16 0#32
abbrev ones : IVec L16 32 := broadcast L16 1#32

theorem lane_apply (i : L16.Idx) : lane i = BitVec.ofNat 32 (i 0).val := by
  show BitVec.ofNat 32 (0 * 16 + (i 0).val) = _
  rw [Nat.zero_mul, Nat.zero_add]

/-- The inclusive counts of a chunk. -/
abbrev inc : IVec L16 32 := scan (d := ![16]) .sum (select v ones zeros)

theorem inc_apply (i : L16.Idx) : inc v i = BitVec.ofNat 32 (cnt v ((i 0).val + 1)) := by
  rw [inc, scan_eq _ (fun k => if on v k then 1#32 else 0#32)]
  · generalize (i 0).val = k
    have hs : ∀ k, (if on v k then 1#32 else 0#32) = BitVec.ofNat 32 (cnt v (k + 1) - cnt v k) := fun k => by
      by_cases h : on v k
      · rw [if_pos h, cnt_succ_on v h, Nat.add_sub_cancel_left]
      · rw [if_neg h, cnt_succ_off v h, Nat.sub_self]
    induction k with
    | zero => rw [psum, hs]; simp [cnt]
    | succ k ih =>
      rw [psum, ih, hs, ← BitVec.ofNat_add]
      congr 1
      have := Nat.count_monotone (on v) (Nat.le_succ (k + 1))
      simp only [cnt, Nat.succ_eq_add_one] at *; omega
  · intro k
    have : on v k.val ↔ _ := on_iff v (ln k)
    show Scalar.select (v _) 1#32 0#32 = _
    rw [Scalar.select]
    by_cases h : v (ln k) = 1#1
    · rw [if_pos (show _ = (1 : BitVec 1) from h), if_pos (this.2 h)]
    · rw [if_neg (show ¬ _ = (1 : BitVec 1) from h), if_neg (fun h' => h (this.1 h'))]

/-- The last inclusive count, at every lane. -/
abbrev tot : IVec L16 32 :=
  broadcast L16 (extractAt ![0] (extractStridedSlice (⟨1, ![1]⟩ : Shape) ![15] (inc v) (by decide)) (by decide))

theorem tot_apply (i : L16.Idx) : tot v i = BitVec.ofNat 32 (cnt v 16) := by
  have e : tot v i = inc v (ln ⟨15, by decide⟩) := by
    simp only [tot, broadcast, extractAt, extractStridedSlice]
    congr 1
    funext a; match a with | ⟨0, _⟩ => rfl
  rw [e, inc_apply]; rfl

/-- Where each lane of a chunk is put: valid lanes in order, then the others. -/
def place (k : ℕ) : ℕ := if on v k then cnt v k else cnt v 16 + k - cnt v k

theorem place_lt {k : ℕ} (hk : k < 16) : place v k < 16 := by
  unfold place
  have h1 := cnt_le v k
  have h2 := cnt_grow v (k + 1) (15 - k)
  rw [show k + 1 + (15 - k) = 16 by omega] at h2
  split_ifs with h
  · omega
  · have := cnt_succ_off v h; omega

theorem place_on_inj {k j : ℕ} (hj : j < 16) (hk : on v k) (h : place v j = place v k) : j = k := by
  have hk16 : k < 16 := hk.1
  rw [place, place, if_pos hk] at h
  have h1 : cnt v (k + 1) ≤ cnt v 16 := Nat.count_monotone _ (by omega)
  rw [cnt_succ_on v hk] at h1
  by_cases hj' : on v j
  · rw [if_pos hj'] at h; exact Nat.count_injective hj' hk h
  · rw [if_neg hj'] at h; have := cnt_le v j; omega

/-- The index vector of a chunk behind `carry`. -/
abbrev chunkIdx (carry : IVec L16 32) : IVec L16 32 :=
  addi carry (select v (subi (inc v) ones) (subi (addi (tot v) lane) (inc v)))

abbrev nextCarry (carry : IVec L16 32) : IVec L16 32 := addi carry (tot v)

theorem sub_ofNat {a b : ℕ} (h : b ≤ a) : BitVec.ofNat 32 a - BitVec.ofNat 32 b = BitVec.ofNat 32 (a - b) := by
  obtain ⟨c, rfl⟩ := Nat.exists_eq_add_of_le h
  rw [BitVec.ofNat_add, Nat.add_sub_cancel_left, BitVec.add_comm, BitVec.add_sub_cancel]

theorem chunkIdx_apply {carry : IVec L16 32} {C : ℕ} (hc : carry = broadcast L16 (BitVec.ofNat 32 C)) (i : L16.Idx) :
    chunkIdx v carry i = BitVec.ofNat 32 (C + place v (i 0).val) := by
  subst hc
  show BitVec.ofNat 32 C + Scalar.select (v i) (inc v i - 1#32) (tot v i + lane i - inc v i) = _
  rw [inc_apply, tot_apply, lane_apply, BitVec.ofNat_add, place]
  congr 1
  rw [Scalar.select]
  have hon := on_iff v i
  by_cases h : v i = 1#1
  · have h' := hon.2 h
    rw [if_pos (show _ = (1 : BitVec 1) from h), if_pos h', cnt_succ_on v h', sub_ofNat (by omega), Nat.add_sub_cancel]
  · have h' : ¬ on v (i 0).val := fun h' => h (hon.1 h')
    rw [if_neg (show ¬ _ = (1 : BitVec 1) from h), if_neg h', cnt_succ_off v h', ← BitVec.ofNat_add,
      sub_ofNat (by have := cnt_le v (i 0).val; omega)]

theorem nextCarry_eq {carry : IVec L16 32} {C : ℕ} (hc : carry = broadcast L16 (BitVec.ofNat 32 C)) :
    nextCarry v carry = broadcast L16 (BitVec.ofNat 32 (C + cnt v 16)) := by
  subst hc
  funext i
  show BitVec.ofNat 32 C + tot v i = _
  rw [tot_apply, ← BitVec.ofNat_add]; rfl

theorem chunkIdx_toNat {carry : IVec L16 32} {C : ℕ} (hc : carry = broadcast L16 (BitVec.ofNat 32 C)) (hC : C ≤ 200)
    (i : L16.Idx) : (chunkIdx v carry i).toNat = C + place v (i 0).val := by
  have := place_lt v (show (i 0).val < 16 from (i 0).isLt)
  rw [chunkIdx_apply v hc, BitVec.toNat_ofNat, Nat.mod_eq_of_lt (by omega)]

end Chunk

/-! ## A scatter, read at one place -/

theorem fold_miss {ι α β : Type} (hit : ι → α → Prop) [∀ k j, Decidable (hit k j)] (y : ι → β) (j : α)
    (l : List ι) (f : α → β) (h : ∀ k ∈ l, ¬ hit k j) :
    l.foldl (fun g k => fun j => if hit k j then y k else g j) f j = f j := by
  induction l generalizing f with
  | nil => rfl
  | cons k l ih =>
    rw [List.foldl_cons, ih _ fun k' hk' => h k' (List.mem_cons_of_mem _ hk')]
    exact if_neg (h k List.mem_cons_self)

theorem fold_hit {ι α β : Type} (hit : ι → α → Prop) [∀ k j, Decidable (hit k j)] (y : ι → β) (j : α) (k₀ : ι)
    (l : List ι) (f : α → β) (hm : k₀ ∈ l) (h0 : hit k₀ j) (h : ∀ k ∈ l, hit k j → k = k₀) :
    l.foldl (fun g k => fun j => if hit k j then y k else g j) f j = y k₀ := by
  induction l generalizing f with
  | nil => cases hm
  | cons k l ih =>
    rw [List.foldl_cons]
    by_cases hl : k₀ ∈ l
    · exact ih _ hl fun k' hk' => h k' (List.mem_cons_of_mem _ hk')
    · obtain rfl : k₀ = k := (List.mem_cons.1 hm).resolve_right hl
      rw [fold_miss hit y j l _ fun k' hk' hh => hl (h k' (List.mem_cons_of_mem _ hk') hh ▸ hk')]
      exact if_pos h0

variable {F : FTy → Type}

/-- The word at place `p` of a list of columns. -/
def wordAt (g : Vec F L224 .i32) (p : ℕ) : BitVec 32 :=
  if h : p < 224 then g (pl ⟨p, h⟩) else 0#32

theorem wordAt_idx (g : Vec F L224 .i32) (j : L224.Idx) : wordAt g (j 0).val = g j := by
  have e : pl ⟨(j 0).val, (j 0).isLt⟩ = j := by
    funext a; match a with | ⟨0, _⟩ => rfl
  rw [wordAt, dif_pos (show (j 0).val < 224 from (j 0).isLt)]
  exact congrArg g e

section Store

variable [FloatOps F] (v : IVec L16 1) {carry : IVec L16 32} {C : ℕ} (hc : carry = broadcast L16 (BitVec.ofNat 32 C)) (hC : C ≤ 200)
  (g : Vec F L224 .i32) (val : IVec L16 32) (idx : IVec L16 32) (hidx : idx = chunkIdx v carry)
  (h : ∀ a x, ((![idx] : Fin 1 → IVec L16 32) a x).toNat < L224.size a)
include hc hC hidx

/-- The chunk's scatter as a fold whose lane `k` hits place `C + place k`. -/
theorem wordAt_store (p : ℕ) (hp : p < 224) :
    wordAt (F := F) (storeIdx (d := ![16]) g ![idx] val (fun _ => 1#1) false h) p
      = (List.finRange 16).foldl (fun g k => fun j : ℕ => if j = C + place v k.val then
          val (ln k) else g j) (wordAt g) p := by
  rw [wordAt, dif_pos hp]
  have key : ∀ [∀ (k : Fin 16) (j : L224.Idx), Decidable (∀ a, (j a).val = (idxAt (s := L224) ![idx] h (ln k) a).val)]
      (l : List (Fin 16)) (g : Vec F L224 .i32) (g' : ℕ → BitVec 32),
      (∀ p (hp : p < 224), g (pl ⟨p, hp⟩) = g' p) →
      (l.foldl (fun (g : Vec F L224 .i32) k =>
          fun j => if (∀ a, (j a).val = (idxAt (s := L224) ![idx] h (ln k) a).val) then
            val (ln k) else g j) g) (pl ⟨p, hp⟩)
      = l.foldl (fun g k => fun j : ℕ => if j = C + place v k.val then
          val (ln k) else g j) g' p := by
    intro _ l
    induction l with
    | nil => intro g g' hg; exact hg p hp
    | cons k l ih =>
      intro g g' hg
      rw [List.foldl_cons, List.foldl_cons]
      apply ih
      intro q hq
      have e : (∀ a, ((pl ⟨q, hq⟩ : L224.Idx) a).val
          = (idxAt (s := L224) ![idx] h (ln k) a).val) ↔ q = C + place v k.val := by
        have := chunkIdx_toNat v hc hC (ln k)
        rw [← hidx] at this
        constructor
        · intro ha; exact (ha 0).trans this
        · intro ha a; match a with | ⟨0, _⟩ => exact ha.trans this.symm
      by_cases hh : q = C + place v k.val
      · rw [if_pos hh]; exact if_pos (e.2 hh)
      · rw [if_neg hh]; exact (if_neg (fun h' => hh (e.1 h'))).trans (hg q hq)
  exact @key (fun _ _ => _) (List.finRange 16) g (wordAt g) fun p hp => by rw [wordAt, dif_pos hp]

theorem wordAt_store_below (p : ℕ) (hp : p < C) :
    wordAt (F := F) (storeIdx (d := ![16]) g ![idx] val (fun _ => 1#1) false h) p = wordAt g p := by
  rw [wordAt_store v hc hC g val idx hidx h p (by omega)]
  exact fold_miss (fun (k : Fin 16) (j : ℕ) => j = C + place v k.val) _ _ _ _ fun k _ => by omega

theorem wordAt_store_on (k : ℕ) (hk : on v k) :
    wordAt (F := F) (storeIdx (d := ![16]) g ![idx] val (fun _ => 1#1) false h) (C + cnt v k)
      = val (ln ⟨k, hk.1⟩) := by
  have hpl : place v k = cnt v k := by rw [place, if_pos hk]
  have := place_lt v hk.1
  rw [wordAt_store v hc hC g val idx hidx h _ (by omega)]
  refine fold_hit (fun (k : Fin 16) (j : ℕ) => j = C + place v k.val) _ _ ⟨k, hk.1⟩ _ _ (List.mem_finRange _)
    (by rw [hpl]) fun k' _ hk' => ?_
  apply Fin.ext
  refine place_on_inj v k'.isLt hk ?_
  rw [hpl]
  change C + cnt v k = _ at hk'
  omega

theorem wordAt_store_none (h0 : C = 0) (hv : cnt v 16 = 0) :
    wordAt (F := F) (storeIdx (d := ![16]) g ![idx] val (fun _ => 1#1) false h) 0
      = val (ln ⟨0, by decide⟩) := by
  have hoff : ∀ k, k < 16 → cnt v k = 0 := fun k hk =>
    Nat.le_zero.1 (le_of_le_of_eq (Nat.count_monotone (on v) hk.le) hv)
  have hno : ∀ k, k < 16 → ¬ on v k := fun k hk h' => by
    have := cnt_succ_on v h'
    have := Nat.count_monotone (on v) (show k + 1 ≤ 16 by omega)
    simp only [cnt] at *; omega
  have hpl : ∀ k, k < 16 → place v k = k := fun k hk => by
    rw [place, if_neg (hno k hk), hv, hoff k hk]; omega
  rw [wordAt_store v hc hC g val idx hidx h _ (by omega)]
  refine fold_hit (fun (k : Fin 16) (j : ℕ) => j = C + place v k.val) _ _ ⟨0, by decide⟩ _ _ (List.mem_finRange _)
    (by rw [hpl 0 (by omega), h0]) fun k' _ hk' => ?_
  apply Fin.ext
  have := hpl k'.val k'.isLt
  show k'.val = 0
  omega

end Store

/-! ## The list after the chunks so far -/

/-- The list `g` after the columns below `n`, the last chunk started at column `s`: place `count` of a valid column
    holds it, and with none valid the first place holds `s`. -/
structure Listed (b : ℕ → Prop) [DecidablePred b] (n s : ℕ) (g : Vec F L224 .i32) : Prop where
  valid : ∀ j < n, b j → wordAt g (Nat.count b j) = BitVec.ofNat 32 j
  none : 0 < n → Nat.count b n = 0 → wordAt g 0 = BitVec.ofNat 32 s

/-- What a chunk's valid lanes are: those of the columns `s ..< s + 16` that are valid and not below `n`. -/
def Covers (b : ℕ → Prop) (n s : ℕ) (v : IVec L16 1) : Prop :=
  s ≤ n ∧ n ≤ s + 16 ∧ ∀ k, k < 16 → (on v k ↔ n ≤ s + k ∧ b (s + k))

section Step

variable [FloatOps F] {b : ℕ → Prop} [DecidablePred b] {n s : ℕ} {v : IVec L16 1} (hv : Covers b n s v)
include hv

theorem count_chunk (k : ℕ) (hk : k ≤ 16) (hk' : n ≤ s + k) : Nat.count b (s + k) = Nat.count b n + cnt v k := by
  induction k with
  | zero =>
    obtain rfl : s = n := by have := hv.1; omega
    simp [cnt]
  | succ k ih =>
    have hkv := hv.2.2 k (by omega)
    rcases Nat.lt_or_ge (s + k) n with h | h
    · have hn : n = s + (k + 1) := by omega
      have hz : ∀ j, j ≤ k + 1 → cnt v j = 0 := by
        intro j
        induction j with
        | zero => intro _; rfl
        | succ j ihj =>
          intro hj
          rw [cnt_succ_off v (fun h' => by have := ((hv.2.2 j (by omega)).1 h').1; omega)]
          exact ihj (by omega)
      rw [hn, hz _ le_rfl]; rfl
    · rw [← Nat.add_assoc, Nat.count_succ, ih (by omega) h]
      by_cases hb : b (s + k)
      · rw [if_pos hb, cnt_succ_on v (hkv.2 ⟨h, hb⟩)]; omega
      · rw [if_neg hb, cnt_succ_off v (fun h' => hb (hkv.1 h').2), Nat.add_zero]

/-- The carried count after a chunk. -/
theorem carry_step {carry : IVec L16 32} (hc : carry = broadcast L16 (BitVec.ofNat 32 (Nat.count b n))) :
    nextCarry v carry = broadcast L16 (BitVec.ofNat 32 (Nat.count b (s + 16))) := by
  rw [nextCarry_eq v hc, count_chunk hv 16 le_rfl hv.2.1]

/-- One more chunk of the row. -/
theorem listed_step (hn : n ≤ 200) {carry : IVec L16 32}
    (hc : carry = broadcast L16 (BitVec.ofNat 32 (Nat.count b n)))
    {g : Vec F L224 .i32} {val idx : IVec L16 32} (hidx : idx = chunkIdx v carry)
    (hval : val = addi lane (broadcast L16 (BitVec.ofNat 32 s)))
    (h : ∀ a x, ((![idx] : Fin 1 → IVec L16 32) a x).toNat < L224.size a) {s₀ : ℕ} (hg : Listed b n s₀ g) :
    Listed (F := F) b (s + 16) s (storeIdx (d := ![16]) g ![idx] val (fun _ => 1#1) false h) := by
  have hC : Nat.count b n ≤ 200 := le_trans (Nat.count_le b) hn
  have hvl : ∀ k : Fin 16, val (ln k) = BitVec.ofNat 32 (s + k.val) := fun k => by
    rw [hval]
    show lane _ + BitVec.ofNat 32 s = _
    rw [lane_apply, ← BitVec.ofNat_add, Nat.add_comm]; rfl
  constructor
  · intro j hj hb
    rcases Nat.lt_or_ge j n with h' | h'
    · rw [wordAt_store_below v hc hC g val idx hidx h]
      · exact hg.valid j h' hb
      · have := Nat.count_monotone b (show j + 1 ≤ n by omega)
        rw [Nat.count_succ, if_pos hb] at this; omega
    · obtain ⟨k, rfl⟩ := Nat.exists_eq_add_of_le (hv.1.trans h')
      have hon := (hv.2.2 k (by omega)).2 ⟨h', hb⟩
      rw [count_chunk hv k (by omega) h', wordAt_store_on v hc hC g val idx hidx h k hon, hvl]
  · intro _ h0
    rw [count_chunk hv 16 le_rfl hv.2.1] at h0
    rw [wordAt_store_none v hc hC g val idx hidx h (by omega) (by omega), hvl]
    rfl

theorem chunk_inb (hn : n ≤ 200) {carry : IVec L16 32}
    (hc : carry = broadcast L16 (BitVec.ofNat 32 (Nat.count b n))) {idx : IVec L16 32} (hidx : idx = chunkIdx v carry) :
    ∀ a x, ((![idx] : Fin 1 → IVec L16 32) a x).toNat < L224.size a := by
  intro a x
  match a with
  | ⟨0, _⟩ =>
    show (idx x).toNat < 224
    have := place_lt v (show (x 0).val < 16 from (x 0).isLt)
    rw [hidx, chunkIdx_toNat v hc (le_trans (Nat.count_le b) hn)]
    have : Nat.count b n ≤ 200 := le_trans (Nat.count_le b) hn
    omega

end Step

/-! ## The row -/

section Row

variable (b : ℕ → Prop) [DecidablePred b]

/-- How many entries the list has: the row's valid columns, one if there is none. -/
def len : ℕ := max (Nat.count b 200) 1

/-- The column at place `p` of the list: the valid column with `p` valid ones before it (184 if there is none). -/
def sel (p : ℕ) : ℕ := ((List.range 200).find? fun j => decide (b j ∧ Nat.count b j = p)).getD 184

theorem len_pos : 0 < len b := Nat.lt_of_lt_of_le Nat.one_pos (le_max_right _ _)
theorem len_le : len b ≤ 200 := max_le (Nat.count_le b) (by omega)

theorem exists_nth (n : ℕ) {p : ℕ} (hp : p < Nat.count b n) : ∃ j < n, b j ∧ Nat.count b j = p := by
  induction n with
  | zero => simp at hp
  | succ n ih =>
    by_cases h : p < Nat.count b n
    · obtain ⟨j, hj, h'⟩ := ih h; exact ⟨j, by omega, h'⟩
    · rw [Nat.count_succ] at hp
      by_cases hb : b n
      · rw [if_pos hb] at hp; exact ⟨n, by omega, hb, by omega⟩
      · rw [if_neg hb] at hp; omega

theorem sel_spec {p : ℕ} (hp : p < Nat.count b 200) : sel b p < 200 ∧ b (sel b p) ∧ Nat.count b (sel b p) = p := by
  obtain ⟨j, hj, hb, hc⟩ := exists_nth b 200 hp
  unfold sel
  cases hf : (List.range 200).find? fun j => decide (b j ∧ Nat.count b j = p) with
  | none => exact absurd (decide_eq_true (And.intro hb hc)) (List.find?_eq_none.1 hf j (List.mem_range.2 hj))
  | some k =>
    have h1 := List.find?_some hf
    have h2 := List.mem_of_find?_eq_some hf
    exact ⟨List.mem_range.1 h2, of_decide_eq_true h1⟩

theorem sel_none {p : ℕ} (h : Nat.count b 200 = 0) : sel b p = 184 := by
  unfold sel
  rw [List.find?_eq_none.2]
  · rfl
  · intro j hj h'
    have := List.mem_range.1 hj
    have hb := (of_decide_eq_true h').1
    have := Nat.count_monotone b (show j + 1 ≤ 200 by omega)
    rw [Nat.count_succ, if_pos hb] at this; omega

theorem sel_lt {p : ℕ} (hp : p < len b) : sel b p < 200 := by
  unfold len at hp
  by_cases h : Nat.count b 200 = 0
  · rw [sel_none b h]; omega
  · exact (sel_spec b (by omega)).1

/-- The finished list holds the selected columns. -/
theorem Listed.word {g : Vec F L224 .i32} (hg : Listed b 200 184 g) {p : ℕ} (hp : p < len b) :
    wordAt g p = BitVec.ofNat 32 (sel b p) := by
  unfold len at hp
  by_cases h : Nat.count b 200 = 0
  · obtain rfl : p = 0 := by omega
    rw [sel_none b h]
    exact hg.none (by omega) h
  · have := sel_spec b (p := p) (by omega)
    rw [← hg.valid _ this.1 this.2.1, this.2.2]

/-- The list's length, as the kernel counts it. -/
theorem len_vec {carry : IVec L16 32} (hc : carry = broadcast L16 (BitVec.ofNat 32 (Nat.count b 200))) :
    maxsi carry ones = broadcast L16 (BitVec.ofNat 32 (len b)) := by
  subst hc
  funext i
  have h200 : Nat.count b 200 ≤ 200 := Nat.count_le b
  show (if (1#32).slt (BitVec.ofNat 32 (Nat.count b 200)) then _ else _) = BitVec.ofNat 32 (len b)
  unfold len
  rw [BitVec.slt_eq_decide, BitVec.toInt_ofNat', BitVec.toInt_ofNat']
  by_cases h : 1 < Nat.count b 200
  · rw [if_pos (by simp [Int.bmod]; omega), max_eq_left h.le]; rfl
  · rw [if_neg (by simp [Int.bmod]; omega), max_eq_right (by omega)]; rfl

variable [FloatOps F]

/-- The reciprocal of the list's length, the small shift, and the lanes' numbers, as floats. -/
abbrev recip (nv : IVec L16 32) : FVec F L16 .f32 := divf (broadcast L16 (Scalar.ofBits .f32 0x3F800000#32)) (sitofp .f32 nv)
abbrev shift : FVec F L16 .f32 := broadcast L16 (Scalar.ofBits .f32 0x39800000#32)
abbrev laneF : FVec F L16 .f32 := sitofp .f32 lane

/-- The float constant of chunk `c`'s first column. -/
def colF : ℕ → BitVec 32
  | 0 => 0x00000000#32 | 1 => 0x41800000#32 | 2 => 0x42000000#32 | 3 => 0x42400000#32 | 4 => 0x42800000#32
  | 5 => 0x42A00000#32 | 6 => 0x42C00000#32 | 7 => 0x42E00000#32 | 8 => 0x43000000#32 | 9 => 0x43100000#32
  | 10 => 0x43200000#32 | 11 => 0x43300000#32 | _ => 0x43400000#32

/-- The places chunk `c`'s columns read: the column less `nv` times its rounded quotient, kept within the list. -/
abbrev spot (nv : IVec L16 32) (cst first : BitVec 32) : IVec L16 32 :=
  minsi (maxsi (subi (addi lane (broadcast L16 first))
    (muli nv (fptosi 32 (addf (mulf (addf (laneF (F := F)) (broadcast L16 (Scalar.ofBits .f32 cst))) (recip nv)) shift))))
    zeros) (subi nv ones)

/-- Clamped, the place is within the list. -/
theorem clamp_lt (x : BitVec 32) {n : ℕ} (h0 : 0 < n) (hn : n ≤ 200) :
    (IntOp.minsi (IntOp.maxsi x 0#32) (BitVec.ofNat 32 n - 1#32)).toNat < n := by
  rw [show BitVec.ofNat 32 n - 1#32 = BitVec.ofNat 32 (n - 1) from sub_ofNat h0]
  have e1 : (BitVec.ofNat 32 (n - 1)).toInt = (n - 1 : ℕ) := by
    rw [BitVec.toInt_ofNat']; simp [Int.bmod]; omega
  have e2 : (BitVec.ofNat 32 (n - 1)).toNat = n - 1 := by rw [BitVec.toNat_ofNat]; omega
  show (if (IntOp.maxsi x 0#32).slt _ then _ else _ : BitVec 32).toNat < n
  split_ifs with h
  · rw [BitVec.slt_eq_decide, e1, decide_eq_true_eq] at h
    have hnn : 0 ≤ (IntOp.maxsi x 0#32).toInt := by
      show 0 ≤ (if (0#32).slt x then x else 0#32 : BitVec 32).toInt
      split_ifs with h'
      · rw [BitVec.slt_eq_decide, decide_eq_true_eq] at h'
        simp at h'; omega
      · decide
    have e3 : (IntOp.maxsi x 0#32).toInt = ((IntOp.maxsi x 0#32).toNat : ℤ) := by
      rw [BitVec.toInt_eq_toNat_bmod] at hnn ⊢
      have := (IntOp.maxsi x 0#32).isLt
      simp only [Int.bmod] at hnn ⊢
      split_ifs at hnn ⊢ <;> omega
    omega
  · omega

theorem spot_lt {nv : IVec L16 32} (hnv : nv = broadcast L16 (BitVec.ofNat 32 (len b))) (cst first : BitVec 32) (i : L16.Idx) :
    (spot (F := F) nv cst first i).toNat < len b := by
  subst hnv; exact clamp_lt _ (len_pos b) (len_le b)

theorem spot_inb {nv : IVec L16 32} (hnv : nv = broadcast L16 (BitVec.ofNat 32 (len b))) {cst first : BitVec 32}
    {idx : IVec L16 32} (hidx : idx = spot (F := F) nv cst first) :
    ∀ a x, ((![idx] : Fin 1 → IVec L16 32) a x).toNat < L224.size a := by
  intro a x
  match a with
  | ⟨0, _⟩ =>
    show (idx x).toNat < 224
    have := spot_lt (F := F) b hnv cst first x
    have := len_le b
    rw [hidx]; omega

variable (F) in
/-- The list's place that column `j` reads. -/
def placeOf (j : ℕ) : ℕ :=
  (spot (F := F) (broadcast L16 (BitVec.ofNat 32 (len b))) (colF (j / 16)) (BitVec.ofNat 32 (16 * (j / 16)))
    (ln ⟨j % 16, Nat.mod_lt _ (by decide)⟩)).toNat

variable (F) in
/-- The column that output column `j` takes its line from. -/
def colOf (j : ℕ) : ℕ := sel b (placeOf F b j)

theorem placeOf_lt (j : ℕ) : placeOf F b j < len b := spot_lt b rfl _ _ _

theorem colOf_lt (j : ℕ) : colOf F b j < 200 := sel_lt b (placeOf_lt b j)

/-- The words the kernel stores for chunk `c`: `base` plus the columns. -/
theorem gather_chunk {g : Vec F L224 .i32} (hg : Listed b 200 184 g) {nv idx : IVec L16 32}
    (hnv : nv = broadcast L16 (BitVec.ofNat 32 (len b))) {c : ℕ} {cst first : BitVec 32}
    (hcst : cst = colF c) (hfirst : first = BitVec.ofNat 32 (16 * c)) (hidx : idx = spot (F := F) nv cst first)
    (h : ∀ a x, ((![idx] : Fin 1 → IVec L16 32) a x).toNat < L224.size a) (i : L16.Idx) :
    loadIdx (F := F) (e := .i32) g ![idx] h i = BitVec.ofNat 32 (colOf F b (16 * c + (i 0).val)) := by
  have hi : (i 0).val < 16 := (i 0).isLt
  have e := spot_lt (F := F) b hnv cst first i
  show g (idxAt ![idx] h i) = _
  rw [← wordAt_idx g]
  show wordAt g (idx i).toNat = _
  rw [hidx, hg.word b e, colOf]
  congr 2
  subst hnv hcst hfirst
  unfold placeOf
  have e1 : (16 * c + (i 0).val) / 16 = c := by omega
  have e2 : (16 * c + (i 0).val) % 16 = (i 0).val := by omega
  have e3 : ln ⟨(i 0).val, hi⟩ = i := by funext a; match a with | ⟨0, _⟩ => rfl
  simp only [e1, e2, e3]

end Row

/-! ## A row's chunks as the kernel loads them -/

section Load

variable [FloatOps F] (r : ℕ → BitVec 32)

/-- Column `j` of the row is valid. -/
def bit (j : ℕ) : Prop := (0#32).slt (r j) = true

instance : DecidablePred (bit r) := fun j => by unfold bit; exact inferInstance

/-- The sixteen words from column `s` on, as loaded. -/
def ldOf (s : ℕ) : Vec F L1x16 .i32 := fun x => r (s + (x 1).val)

theorem cast16 : L1x16.ShapeCasts L16 := by decide

/-- Which lanes of a loaded chunk are valid; of the last chunk only the upper eight lanes count. -/
abbrev vld (ld : Vec F L1x16 .i32) : IVec L16 1 := cmpi .sgt (shapeCast L16 ld cast16) zeros
abbrev vldLast (ld : Vec F L1x16 .i32) : IVec L16 1 := andi (vld (F := F) ld) (cmpi .sge lane (broadcast L16 8#32))

theorem vld_on (s k : ℕ) (hk : k < 16) : on (vld (F := F) (ldOf (F := F) r s)) k ↔ bit r (s + k) := by
  have e := on_iff (vld (F := F) (ldOf (F := F) r s)) (ln ⟨k, hk⟩)
  have e' : shapeCast L16 (ldOf (F := F) r s) cast16 (ln ⟨k, hk⟩) = r (s + k) := by
    rw [shapeCast_apply _ cast16 (ln ⟨k, hk⟩) (fun a => match a with | ⟨0, _⟩ => ⟨0, Nat.one_pos⟩ | ⟨1, _⟩ => ⟨k, hk⟩)]
    · rfl
    · rw [Shape.rowMajor_val_two]
      rfl
  refine e.trans ?_
  show BitVec.ofBool ((0#32).slt _) = 1#1 ↔ _
  rw [e', bit]
  cases (0#32).slt (r (s + k)) <;> decide

theorem vldLast_on (s k : ℕ) (hk : k < 16) : on (vldLast (F := F) (ldOf (F := F) r s)) k ↔ 8 ≤ k ∧ bit r (s + k) := by
  rw [← vld_on (F := F) r s k hk]
  have e := on_iff (vldLast (F := F) (ldOf (F := F) r s)) (ln ⟨k, hk⟩)
  have e2 := on_iff (vld (F := F) (ldOf (F := F) r s)) (ln ⟨k, hk⟩)
  have e3 : (cmpi .sge lane (broadcast L16 8#32) : IVec L16 1) (ln ⟨k, hk⟩) = BitVec.ofBool (decide (8 ≤ k)) := by
    show BitVec.ofBool ((8#32).sle (lane (ln ⟨k, hk⟩))) = _
    rw [lane_apply]
    show BitVec.ofBool ((8#32).sle (BitVec.ofNat 32 k)) = _
    congr 1
    interval_cases k <;> decide
  change on _ k ↔ _ at e
  change on _ k ↔ _ at e2
  rw [e, e2]
  show (vld (F := F) (ldOf (F := F) r s) (ln ⟨k, hk⟩)) &&& _ = 1#1 ↔ _
  rw [e3]
  by_cases h8 : 8 ≤ k
  · simp only [h8, true_and, decide_true]
    generalize vld (F := F) (ldOf (F := F) r s) (ln ⟨k, hk⟩) = z
    revert z; decide
  · simp only [h8, false_and, decide_false, iff_false]
    generalize vld (F := F) (ldOf (F := F) r s) (ln ⟨k, hk⟩) = z
    revert z; decide

theorem covers_full (s : ℕ) : Covers (bit r) s s (vld (F := F) (ldOf (F := F) r s)) :=
  ⟨le_rfl, by omega, fun k hk => by rw [vld_on r s k hk]; exact ⟨fun h => ⟨by omega, h⟩, fun h => h.2⟩⟩

theorem covers_last : Covers (bit r) 192 184 (vldLast (F := F) (ldOf (F := F) r 184)) :=
  ⟨by omega, by omega, fun k hk => by
    rw [vldLast_on r 184 k hk]; exact ⟨fun h => ⟨by omega, h.2⟩, fun h => ⟨by omega, h.2⟩⟩⟩

variable (F) in
/-- The count carried into chunk `c`. -/
def carry : ℕ → IVec L16 32
  | 0 => zeros
  | c + 1 => nextCarry (vld (F := F) (ldOf (F := F) r (16 * c))) (carry c)

theorem carry_eq : ∀ c, carry F r c = broadcast L16 (BitVec.ofNat 32 (Nat.count (bit r) (16 * c)))
  | 0 => rfl
  | c + 1 => carry_step (covers_full r (16 * c)) (carry_eq c)

variable (F) in
/-- The list's length, as the kernel has it. -/
abbrev nvOf : IVec L16 32 := maxsi (nextCarry (vldLast (F := F) (ldOf (F := F) r 184)) (carry F r 12)) ones

theorem nvOf_eq : nvOf F r = broadcast L16 (BitVec.ofNat 32 (len (bit r))) :=
  len_vec (bit r) (carry_step (covers_last (F := F) r) (carry_eq r 12))

/-- The list before chunk `c` of the row. -/
def Upto (c : ℕ) (g : Vec F L224 .i32) : Prop := Listed (bit r) (16 * c) (16 * (c - 1)) g
/-- The finished list. -/
def Full (g : Vec F L224 .i32) : Prop := Listed (bit r) 200 184 g

theorem upto_zero (g : Vec F L224 .i32) : Upto r 0 g :=
  ⟨fun _ h => absurd h (by omega), fun h => absurd h (by omega)⟩

theorem full_inb (c : ℕ) (hc : c < 12) {idx : IVec L16 32}
    (hidx : idx = chunkIdx (vld (F := F) (ldOf (F := F) r (16 * c))) (carry F r c)) :
    ∀ a x, ((![idx] : Fin 1 → IVec L16 32) a x).toNat < L224.size a :=
  chunk_inb (covers_full r (16 * c)) (by omega) (carry_eq r c) hidx

theorem last_inb {idx : IVec L16 32}
    (hidx : idx = chunkIdx (vldLast (F := F) (ldOf (F := F) r 184)) (carry F r 12)) :
    ∀ a x, ((![idx] : Fin 1 → IVec L16 32) a x).toNat < L224.size a :=
  chunk_inb (covers_last r) (by omega) (carry_eq r 12) hidx

theorem upto_step (c : ℕ) (hc : c < 12) {g : Vec F L224 .i32} (hg : Upto r c g) {val idx : IVec L16 32}
    (hidx : idx = chunkIdx (vld (F := F) (ldOf (F := F) r (16 * c))) (carry F r c))
    (hval : val = addi lane (broadcast L16 (BitVec.ofNat 32 (16 * c))))
    (h : ∀ a x, ((![idx] : Fin 1 → IVec L16 32) a x).toNat < L224.size a) :
    Upto (F := F) r (c + 1) (storeIdx (d := ![16]) g ![idx] val (fun _ => 1#1) false h) :=
  listed_step (covers_full r (16 * c)) (by omega) (carry_eq r c) hidx hval h hg

theorem full_step {g : Vec F L224 .i32} (hg : Upto r 12 g) {val idx : IVec L16 32}
    (hidx : idx = chunkIdx (vldLast (F := F) (ldOf (F := F) r 184)) (carry F r 12))
    (hval : val = addi lane (broadcast L16 184#32))
    (h : ∀ a x, ((![idx] : Fin 1 → IVec L16 32) a x).toNat < L224.size a) :
    Full (F := F) r (storeIdx (d := ![16]) g ![idx] val (fun _ => 1#1) false h) :=
  listed_step (covers_last r) (by omega) (carry_eq r 12) hidx hval h hg

end Load

end Cert.Rows
-- ==== Proof.GatherIdealRun.Base.lean ====
/-
  The SparseCore call of `GatherIdeal` as its proof sees it: the program, the resource algebra, the buffers of a tile, and
  the steps a tile's straight-line code is made of (a load of sixteen mask words, a scatter into the list of columns,
  an indexed load from it, a store into the list of table rows).
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton
public import proofs.«01_k».proof.Proof.Rows

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

variable (F) in
abbrev MM : Type _ := MT nD τ sig (HIx 1) (Elt F) ℕ UU ℕ

abbrev EH : Emb UH (MM F) := embL

/-! ## A tile and its buffers -/

/-- The mask words, the list of table rows, the list of columns, and the four slots of lines. -/
abbrev mB : Memref sig .scVector .vmem S32x200 .i32 := Memref.whole cc0_scratch0
abbrev gB : Memref sig .scVector .vmem S6656 .i32 := Memref.whole cc0_scratch1
abbrev cB : Memref sig .scVector .vmem S224 .i32 := Memref.whole cc0_scratch2
abbrev rB : Memref sig .scVector .vmem S4x200x128 .f32 := Memref.whole cc0_scratch3

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev mLoc (d : Dev nD) (L : grid0.Coords) : Loc nD τ sig := (thr d L).loc cc0_scratch0
abbrev gLoc (d : Dev nD) (L : grid0.Coords) : Loc nD τ sig := (thr d L).loc cc0_scratch1
abbrev cLoc (d : Dev nD) (L : grid0.Coords) : Loc nD τ sig := (thr d L).loc cc0_scratch2
abbrev rLoc (d : Dev nD) (L : grid0.Coords) : Loc nD τ sig := (thr d L).loc cc0_scratch3

/-- Row `k` of the fetched mask, by column. -/
def maskRow (f : S32x200.Idx → BitVec 32) (k j : ℕ) : BitVec 32 :=
  if h : k < 32 ∧ j < 200 then f (fun a => match a with | ⟨0, _⟩ => ⟨k, h.1⟩ | ⟨1, _⟩ => ⟨j, h.2⟩) else 0#32

/-- The word at place `p` of the list of table rows. -/
def listAt (f : S6656.Idx → BitVec 32) (p : ℕ) : BitVec 32 :=
  if h : p < 6656 then f (fun a => match a with | ⟨0, _⟩ => ⟨p, h⟩) else 0#32

variable [FloatOps F] (d : Dev nD) (L : grid0.Coords)

theorem read_ld (f : Buf (Elt F) (mLoc d L)) {o : Fin 2 → ℕ} (inb : ∀ a, o a + S1x16.size a ≤ S32x200.size a) {k s : ℕ}
    (ho : o = ![k, s]) :
    (mB.access (Rect.unit (s := S32x200) o S1x16.size inb)).read (Elt F) f = ldOf (F := F) (maskRow f k) s := by
  subst ho
  funext x
  have h0 : k + 1 ≤ 32 := inb 0
  have h1 : s + 16 ≤ 200 := inb 1
  have hx0 : (x 0).val < 1 := (x 0).isLt
  have hx1 : (x 1).val < 16 := (x 1).isLt
  refine (View.read_apply _ _).trans ((cast_eq _ _).trans ?_)
  show f _ = maskRow f k (s + (x 1).val)
  rw [maskRow, dif_pos ⟨by omega, by omega⟩]
  congr 1
  funext a
  match a with
  | ⟨0, _⟩ => exact Fin.ext (show k + 1 * (x 0).val = k by omega)
  | ⟨1, _⟩ => exact Fin.ext (show s + 1 * (x 1).val = s + (x 1).val by omega)

variable {α : Type} {Q : α → sProp (MM F)}

abbrev PTile (F : FTy → Type) (L : grid0.Coords) : Type → Type 1 :=
  Prog (TpuEff nD τ sig (Elt F) Λ₀ (.scVector (cV L) (jV L)))

/-- What a tile's program does, on tile `L` of device `d`. -/
abbrev Run (p : PTile F L α) (Q : α → sProp (MM F)) : sProp (MM F) :=
  wp frame (wpE (defs₀ (F := F)) 𝒱₀ (thr d L) none) Set.univ p Q

/-- Sixteen mask words are loaded. -/
theorem run_ld {f : Buf (Elt F) (mLoc d L)} {o : Fin 2 → ℕ} {inb : ∀ a, o a + S1x16.size a ≤ S32x200.size a}
    {hl} {kk : Vec F S1x16 .i32 → PTile F L α} (k s : ℕ) (ho : o = ![k, s]) :
    (mLoc d L ↦{fullShare} f : sProp (MM F))
      ⊢ iprop(((mLoc d L ↦{fullShare} f) -∗ Run d L (kk (ldOf (F := F) (maskRow f k) s)) Q)
        -∗ Run d L (Prog.lift (.load mB (Rect.unit (s := S32x200) o S1x16.size inb).toLoadRect hl) >>= kk) Q) := by
  rw [← read_ld d L f inb ho]
  exact wp_load_rect (defs := defs₀ (F := F)) 𝒱₀ (thr d L) none Set.univ (Q := Q) (m := mB)
    (r := Rect.unit (s := S32x200) o S1x16.size inb) (hl := hl) (k := kk) (S := Finset.univ) (q := fullShare) (f := f)
    (Finset.subset_univ _)

/-- The end of a stretch of code. -/
theorem run_ret (b : α) {a : α} (h : a = b) : Q b ⊢ Run d L (pure a) Q := by
  subst h
  exact le_wp_ret frame (wpE (defs₀ (F := F)) 𝒱₀ (thr d L) none) Set.univ a Q

/-- A check that holds. -/
theorem run_assume {P : Prop} {dec : Decidable P} {kk : PLift P → PTile F L α} (h : P) :
    Run d L (kk ⟨h⟩) Q ⊢ Run d L (Prog.lift (.assume P dec) >>= kk) Q :=
  wp_assume 𝒱₀ (thr d L) none Set.univ h

/-- A load whose value is not used. -/
theorem run_skip {cs : CoreSpace} {s : Shape} {e : EltTy} {m : Memref sig .scVector cs s e} {r : LoadRect s}
    {hl : m.view.LoadsAt r} {kk : (r.shape.Idx → Elt F e) → PTile F L α} {S} {q : PosShare TreeShare}
    {f : Buf (Elt F) (m.view.loc (thr d L))} (hS : m.view.setOn r.set ⊆ S) :
    (m.view.loc (thr d L) ↦[S]{q} f : sProp (MM F))
      ⊢ iprop(((m.view.loc (thr d L) ↦[S]{q} f) -∗ Run d L (kk (m.view.readAt (Elt F) r f)) Q)
        -∗ Run d L (Prog.lift (.load m r hl) >>= kk) Q) :=
  wp_load (defs := defs₀ (F := F)) 𝒱₀ (thr d L) none Set.univ hS

/-- The zero store at the head of a row: some list. -/
theorem run_zero {f : Buf (Elt F) (cLoc d L)} {r : Rect S224} {w : r.shape.Idx → Elt F .i32} {hx hm} {kk : PUnit → PTile F L α} :
    (cLoc d L ↦{fullShare} f : sProp (MM F))
      ⊢ iprop((∀ f' : Buf (Elt F) (cLoc d L), (cLoc d L ↦{fullShare} f') -∗ Run d L (kk ⟨⟩) Q)
        -∗ Run d L (Prog.lift (.store cB r w Finset.univ hx hm) >>= kk) Q) := by
  iintro H Hk
  iapply (wp_store (defs := defs₀ (F := F)) 𝒱₀ (thr d L) none Set.univ (Q := Q) (m := cB) (r := r) (Mk := Finset.univ)
    (hx := hx) (hm := hm) (k := kk) (f := f) (S := Finset.univ) (Finset.subset_univ _)) $$ H
  iintro H
  iapply Hk $$ H

/-- A scatter into the list of columns. -/
theorem run_scat {f : Buf (Elt F) (cLoc d L)} {idx val : IVec S16 32}
    {h : ∀ a x, ((![idx] : Fin 1 → IVec S16 32) a x).toNat < S224.size a} {hs} {kk : PUnit → PTile F L α} :
    (cLoc d L ↦{fullShare} f : sProp (MM F))
      ⊢ iprop(((cLoc d L ↦{fullShare} (storeIdx (F := F) (s := S224) (e := .i32) (d := ![16]) f ![idx] val (fun _ => 1#1) false h))
          -∗ Run d L (kk ⟨⟩) Q)
        -∗ Run d L (SparseCore.vectorStoreIdx (F := F) cB ![idx] val (fun _ => 1#1) false h hs >>= kk) Q) := by
  have hset : (cB.access (.whole S224)).set = Finset.univ := by
    rw [Memref.access, View.set_slice, Rect.set_whole]; exact View.set_whole _
  have hw := SparseCore.wp_vectorStoreIdx (defs := defs₀ (F := F)) 𝒱₀ (thr d L) none Set.univ (Q := Q) (base := cB)
    (idxs := ![idx]) (v := val) (mask := fun _ => 1#1) (add := false) (h := h) (hs := hs) (k := kk) (f := f)
  rw [hset] at hw
  have e1 : (cB.access (.whole S224)).read (Elt F) f = f := by
    funext x
    refine (View.read_apply _ _).trans ((cast_eq _ _).trans ?_)
    congr 1
    funext a
    match a with
    | ⟨0, _⟩ => exact Fin.ext (show 0 + 1 * (x 0).val = (x 0).val by omega)
  rw [e1] at hw
  have e2 : ∀ g : S224.Idx → Elt F .i32, (cB.access (.whole S224)).write (Elt F) f g Finset.univ = g := by
    intro g
    funext x
    have e : (cB.access (.whole S224)).emb x = x := by
      funext a
      match a with
      | ⟨0, _⟩ => exact Fin.ext (show 0 + 1 * (x 0).val = (x 0).val by omega)
    have := View.write_emb_of_mem (Val := Elt F) (v := cB.access (.whole S224)) f g (M := Finset.univ) (Finset.mem_univ x)
    rw [e] at this
    exact this.trans (cast_eq _ _)
  rw [e2] at hw
  exact hw

/-- An indexed load from the list of columns. -/
theorem run_pick {f : Buf (Elt F) (cLoc d L)} {idx : IVec S16 32}
    {h : ∀ a x, ((![idx] : Fin 1 → IVec S16 32) a x).toNat < S224.size a} {hl} {kk : Vec F S16 .i32 → PTile F L α} :
    (cLoc d L ↦{fullShare} f : sProp (MM F))
      ⊢ iprop(((cLoc d L ↦{fullShare} f) -∗ Run d L (kk (loadIdx (F := F) (s := S224) (e := .i32) f ![idx] h)) Q)
        -∗ Run d L (SparseCore.vectorLoadIdx (F := F) cB ![idx] h hl >>= kk) Q) := by
  have hw := SparseCore.wp_vectorLoadIdx (defs := defs₀ (F := F)) 𝒱₀ (thr d L) none Set.univ (Q := Q) (base := cB)
    (idxs := ![idx]) (h := h) (hl := hl) (k := kk) (S := Finset.univ) (q := fullShare) (f := f) (Finset.subset_univ _)
  have e1 : (cB.access (.whole S224)).read (Elt F) f = f := by
    funext x
    refine (View.read_apply _ _).trans ((cast_eq _ _).trans ?_)
    congr 1
    funext a
    match a with
    | ⟨0, _⟩ => exact Fin.ext (show 0 + 1 * (x 0).val = (x 0).val by omega)
  rw [e1] at hw
  exact hw

/-! ## The list of table rows -/

/-- The places of `S6656` from `a` on below `b`. -/
def span (a b : ℕ) : Finset S6656.Idx := Finset.univ.filter fun x => a ≤ (x 0).val ∧ (x 0).val < b

theorem mem_span {a b : ℕ} {x : S6656.Idx} : x ∈ span a b ↔ a ≤ (x 0).val ∧ (x 0).val < b := by
  simp [span]

theorem listAt_idx (f : S6656.Idx → BitVec 32) (x : S6656.Idx) : listAt f (x 0).val = f x := by
  rw [listAt, dif_pos (show (x 0).val < 6656 from (x 0).isLt)]
  congr 1
  funext a; match a with | ⟨0, _⟩ => rfl

theorem set_unit_list {off : Fin 1 → ℕ} {size : Fin 1 → ℕ} (inb : ∀ a, off a + size a ≤ S6656.size a) {p n : ℕ}
    (ho : off = ![p]) (hs : size = ![n]) :
    (gB.access (Rect.unit (s := S6656) off size inb)).set = span p (p + n) := by
  subst ho hs
  ext x
  refine (iff_of_eq (congrArg (x ∈ ·) (View.set_slice_whole _ _))).trans ?_
  rw [Rect.mem_set_unit, mem_span]
  constructor
  · intro h; exact h 0
  · intro h a; match a with | ⟨0, _⟩ => exact h

/-- The list `f` holds the table rows of row `k`'s first `16 * c` lines: `base` plus the columns. -/
def Rowed (b : ℕ → Prop) [DecidablePred b] (base : BitVec 32) (k c : ℕ) (f : S6656.Idx → BitVec 32) : Prop :=
  ∀ p < 16 * c, listAt f (208 * k + p) = BitVec.ofNat 32 (colOf F b p) + base

theorem chunk_sub {k c : ℕ} (hc : c < 13) {S : Finset S6656.Idx} (hS : ∀ x, x ∈ span (208 * k) (208 * k + 208) → x ∈ S)
    {off : Fin 1 → ℕ} (inb : ∀ a, off a + S16.size a ≤ S6656.size a) (ho : off = ![208 * k + 16 * c]) :
    (gB.access (Rect.unit (s := S6656) off S16.size inb)).set ⊆ S := by
  intro x hx'
  rw [set_unit_list inb ho (size := S16.size) (n := 16) rfl, mem_span] at hx'
  exact hS x (mem_span.2 (by omega))

/-- The sixteen table rows of chunk `c` of row `k` are stored. -/
theorem run_put {b : ℕ → Prop} [DecidablePred b] {base : BitVec 32} {k c : ℕ} (hk : k < 32) (hc : c < 13)
    {f : Buf (Elt F) (gLoc d L)} {S : Finset S6656.Idx} (hS : ∀ x, x ∈ span (208 * k) (208 * k + 208) → x ∈ S)
    {off : Fin 1 → ℕ} {inb : ∀ a, off a + S16.size a ≤ S6656.size a}
    (ho : off = ![208 * k + 16 * c]) {w : Vec F S16 .i32} {hx hm}
    (hw : ∀ i : S16.Idx, w i = BitVec.ofNat 32 (colOf F b (16 * c + (i 0).val)) + base) (hf : Rowed (F := F) b base k c f)
    {kk : PUnit → PTile F L α} :
    (gLoc d L ↦[S]{fullShare} f : sProp (MM F))
      ⊢ iprop((∀ f' : Buf (Elt F) (gLoc d L), ⌜Rowed (F := F) b base k (c + 1) f'⌝ -∗ (gLoc d L ↦[S]{fullShare} f') -∗ Run d L (kk ⟨⟩) Q)
        -∗ Run d L (Prog.lift (.store gB (Rect.unit (s := S6656) off S16.size inb) w Finset.univ hx hm) >>= kk) Q) := by
  have hset := set_unit_list inb ho (size := S16.size) (n := 16) rfl
  have hsub := chunk_sub hc hS inb ho
  iintro H Hk
  iapply (wp_store (defs := defs₀ (F := F)) 𝒱₀ (thr d L) none Set.univ (Q := Q) (m := gB)
    (r := Rect.unit (s := S6656) off S16.size inb) (w := w) (Mk := Finset.univ)
    (hx := hx) (hm := hm) (k := kk) (f := f) (S := S) hsub) $$ H
  iintro H
  iapply Hk $$ [] H
  ipureintro
  intro p hp
  by_cases hlt : p < 16 * c
  · rw [← hf p hlt]
    have hlt' : 208 * k + p < 6656 := by omega
    rw [listAt, dif_pos hlt', listAt, dif_pos hlt']
    apply View.write_of_not_mem
    intro hmem
    have := hmem
    change _ ∈ (gB.access (Rect.unit (s := S6656) off S16.size inb)).set at this
    rw [hset] at this
    rw [mem_span] at this
    change 208 * k + 16 * c ≤ 208 * k + p ∧ _ at this
    omega
  · have hi : p - 16 * c < 16 := by omega
    have hlt' : 208 * k + p < 6656 := by omega
    subst ho
    have e : (gB.access (Rect.unit (s := S6656) ![208 * k + 16 * c] S16.size inb)).emb (ln ⟨p - 16 * c, hi⟩)
        = (fun a => match a with | ⟨0, _⟩ => ⟨208 * k + p, hlt'⟩ : S6656.Idx) := by
      funext a
      match a with
      | ⟨0, _⟩ => exact Fin.ext (show 208 * k + 16 * c + 1 * (p - 16 * c) = 208 * k + p by omega)
    have hwr := View.write_emb_of_mem (Val := Elt F) (v := gB.access (Rect.unit (s := S6656) ![208 * k + 16 * c] S16.size inb)) f w
      (M := Finset.univ) (Finset.mem_univ (ln ⟨p - 16 * c, hi⟩))
    rw [e] at hwr
    rw [listAt, dif_pos hlt']
    refine (hwr.trans (cast_eq _ _)).trans ((hw _).trans ?_)
    show BitVec.ofNat 32 (colOf F b (16 * c + (p - 16 * c))) + base = _
    rw [show 16 * c + (p - 16 * c) = p by omega]

end Cert.Proof.GatherIdealRun
-- ==== Proof.GatherIdealRun.RowA.lean ====
/-
  Row `k + 1` of a tile, first half: the mask words of the row are read sixteen at a time and the columns of its valid
  ones are listed in order.
-/
module

public import proofs.«01_k».proof.Proof.GatherIdealRun.Base

@[expose] public section

noncomputable section

namespace Cert.Proof.GatherIdealRun

open Cert.GatherIdeal Cert.GatherIdeal.Gen Cert.Rows

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- The list of columns before chunk `c` of a row with mask words `r`, and the finished list. -/
def Part (r : ℕ → BitVec 32) (c : ℕ) : sProp (MM F) :=
  iprop(∃ g : Buf (Elt F) (cLoc d L), ⌜Upto (F := F) r c g⌝ ∗ (cLoc d L ↦{fullShare} g))
def Done (r : ℕ → BitVec 32) : sProp (MM F) :=
  iprop(∃ g : Buf (Elt F) (cLoc d L), ⌜Full (F := F) r g⌝ ∗ (cLoc d L ↦{fullShare} g))

variable {α : Type} {Q : α → sProp (MM F)}

theorem run_chunk {r : ℕ → BitVec 32} (c : ℕ) (hc : c < 12) {idx val : IVec S16 32}
    (hidx : idx = chunkIdx (vld (F := F) (ldOf (F := F) r (16 * c))) (carry F r c))
    (hval : val = addi lane (broadcast L16 (BitVec.ofNat 32 (16 * c))))
    {h : ∀ a x, ((![idx] : Fin 1 → IVec S16 32) a x).toNat < S224.size a} {hs} {kk : PUnit → PTile F L α} :
    Part d L r c ⊢ iprop((Part d L r (c + 1) -∗ Run d L (kk ⟨⟩) Q)
        -∗ Run d L (SparseCore.vectorStoreIdx (F := F) cB ![idx] val (fun _ => 1#1) false h hs >>= kk) Q) := by
  unfold Part
  iintro ⟨%g, %hg, H⟩ Hk
  iapply (run_scat d L) $$ H
  iintro H
  iapply Hk
  iexists _
  isplitr
  · ipureintro
    exact upto_step r c hc hg hidx hval h
  · iexact H

theorem run_chunk_last {r : ℕ → BitVec 32} {idx val : IVec S16 32}
    (hidx : idx = chunkIdx (vldLast (F := F) (ldOf (F := F) r 184)) (carry F r 12))
    (hval : val = addi lane (broadcast L16 184#32))
    {h : ∀ a x, ((![idx] : Fin 1 → IVec S16 32) a x).toNat < S224.size a} {hs} {kk : PUnit → PTile F L α} :
    Part d L r 12 ⊢ iprop((Done d L r -∗ Run d L (kk ⟨⟩) Q)
        -∗ Run d L (SparseCore.vectorStoreIdx (F := F) cB ![idx] val (fun _ => 1#1) false h hs >>= kk) Q) := by
  unfold Part Done
  iintro ⟨%g, %hg, H⟩ Hk
  iapply (run_scat d L) $$ H
  iintro H
  iapply Hk
  iexists _
  isplitr
  · ipureintro
    exact full_step r hg hidx hval h
  · iexact H

/-- The head of a row: the first list words are zeroed; nothing of the row is listed yet. -/
theorem run_head {r : ℕ → BitVec 32} {rr : LoadRect S224} {hl : cB.view.LoadsAt rr} {r' : Rect S224} {w : r'.shape.Idx → Elt F .i32} {hx hm}
    {kk : PUnit → PTile F L α} :
    iprop(∃ g : Buf (Elt F) (cLoc d L), cLoc d L ↦{fullShare} g) ⊢ iprop((Part d L r 0 -∗ Run d L (kk ⟨⟩) Q)
        -∗ Run d L (Prog.lift (.load cB rr hl) >>= fun _ => Prog.lift (.store cB r' w Finset.univ hx hm) >>= kk) Q) := by
  unfold Part
  iintro ⟨%g, H⟩ Hk
  iapply (run_skip (F := F) d L (m := cB) (r := rr) (S := Finset.univ) (q := fullShare) (f := g) (Finset.subset_univ _)) $$ H
  iintro H
  iapply (run_zero d L) $$ H
  iintro %f' H
  iapply Hk
  iexists f'
  isplitr
  · ipureintro
    exact upto_zero r f'
  · iexact H

/-! ## The parts of row `k + 1` -/

variable (k : Fin k0_t1_loop.trips) {f : Buf (Elt F) (mLoc d L)}

theorem run_part1 {Q : (Σ' (_ : BitVec 32) (_ : IVec S16 32) (_ : IVec S16 1), IVec S16 32) → sProp (MM F)} :
    iprop((mLoc d L ↦{fullShare} f) ∗ (∃ g : Buf (Elt F) (cLoc d L), cLoc d L ↦{fullShare} g))
      ⊢ iprop(((mLoc d L ↦{fullShare} f) ∗ Part d L (maskRow f (k + 1)) 2 -∗
          Q ⟨Scf.iv 1#32 1#32 k, (carry F (maskRow f (k + 1)) 2), vld (F := F) (ldOf (F := F) (maskRow f (k + 1)) 32), (addi lane (broadcast L16 32#32))⟩)
        -∗ Run d L (k0_part1 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones 1#32 1#32 k) Q) := by
  rw [k0_part1_eq_skeleton]
  unfold k0_part1_skel
  iintro ⟨Hm, Hc⟩ Hk
  iapply (run_head d L (r := (maskRow f (k + 1)))) $$ Hc
  iintro Hc
  iapply (run_ld d L (f := f) (k + 1) 0 (k0_off2_eq k)) $$ Hm
  iintro Hm
  iapply (run_assume d L (full_inb (F := F) (maskRow f (k + 1)) 0 (by decide) rfl))
  iapply (run_chunk d L 0 (by decide) rfl rfl) $$ Hc
  iintro Hc
  iapply (run_ld d L (f := f) (k + 1) 16 (k0_off3_eq k)) $$ Hm
  iintro Hm
  iapply (run_assume d L (full_inb (F := F) (maskRow f (k + 1)) 1 (by decide) rfl))
  iapply (run_chunk d L 1 (by decide) rfl rfl) $$ Hc
  iintro Hc
  iapply (run_ld d L (f := f) (k + 1) 32 (k0_off4_eq k)) $$ Hm
  iintro Hm
  iapply (run_ret (Q := Q) d L ⟨Scf.iv 1#32 1#32 k, (carry F (maskRow f (k + 1)) 2), vld (F := F) (ldOf (F := F) (maskRow f (k + 1)) 32), (addi lane (broadcast L16 32#32))⟩ rfl)
  iapply Hk $$ [Hm Hc]
  isplitl [Hm]
  · iexact Hm
  · iexact Hc

theorem run_part2 {Q : (Σ' (_ : IVec S16 32), IVec S16 32) → sProp (MM F)} :
    iprop((mLoc d L ↦{fullShare} f) ∗ Part d L (maskRow f (k + 1)) 2)
      ⊢ iprop(((mLoc d L ↦{fullShare} f) ∗ Part d L (maskRow f (k + 1)) 5 -∗
          Q ⟨(carry F (maskRow f (k + 1)) 4), k0_pay28 zeros ones (ldOf (F := F) (maskRow f (k + 1)) 64)⟩)
        -∗ Run d L (k0_part2 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k)
          (carry F (maskRow f (k + 1)) 2) (vld (F := F) (ldOf (F := F) (maskRow f (k + 1)) 32)) (addi lane (broadcast L16 32#32))) Q) := by
  rw [k0_part2_eq_skeleton]
  unfold k0_part2_skel
  iintro ⟨Hm, Hc⟩ Hk
  iapply (run_assume d L (full_inb (F := F) (maskRow f (k + 1)) 2 (by decide) rfl))
  iapply (run_chunk d L 2 (by decide) rfl rfl) $$ Hc
  iintro Hc
  iapply (run_ld d L (f := f) (k + 1) 48 (k0_off5_eq k)) $$ Hm
  iintro Hm
  iapply (run_assume d L (full_inb (F := F) (maskRow f (k + 1)) 3 (by decide) rfl))
  iapply (run_chunk d L 3 (by decide) rfl rfl) $$ Hc
  iintro Hc
  iapply (run_ld d L (f := f) (k + 1) 64 (k0_off6_eq k)) $$ Hm
  iintro Hm
  iapply (run_assume d L (full_inb (F := F) (maskRow f (k + 1)) 4 (by decide) rfl))
  iapply (run_chunk d L 4 (by decide) rfl rfl) $$ Hc
  iintro Hc
  iapply (run_ret (Q := Q) d L ⟨(carry F (maskRow f (k + 1)) 4), k0_pay28 zeros ones (ldOf (F := F) (maskRow f (k + 1)) 64)⟩ rfl)
  iapply Hk $$ [Hm Hc]
  isplitl [Hm]
  · iexact Hm
  · iexact Hc

theorem run_part3 {Q : (Σ' (_ : IVec S16 32) (_ : IVec S16 1) (_ : IVec S16 32) (_ : IVec S16 32), IVec S1 32) → sProp (MM F)} :
    iprop((mLoc d L ↦{fullShare} f) ∗ Part d L (maskRow f (k + 1)) 5)
      ⊢ iprop(((mLoc d L ↦{fullShare} f) ∗ Part d L (maskRow f (k + 1)) 7 -∗
          Q ⟨(carry F (maskRow f (k + 1)) 7), vld (F := F) (ldOf (F := F) (maskRow f (k + 1)) 112), (addi lane (broadcast L16 112#32)),
            k0_pay45 zeros ones (ldOf (F := F) (maskRow f (k + 1)) 112), k0_pay46 zeros ones (ldOf (F := F) (maskRow f (k + 1)) 112)⟩)
        -∗ Run d L (k0_part3 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (carry F (maskRow f (k + 1)) 4) (k0_pay28 zeros ones (ldOf (F := F) (maskRow f (k + 1)) 64))) Q) := by
  rw [k0_part3_eq_skeleton]
  unfold k0_part3_skel
  iintro ⟨Hm, Hc⟩ Hk
  iapply (run_ld d L (f := f) (k + 1) 80 (k0_off7_eq k)) $$ Hm
  iintro Hm
  iapply (run_assume d L (full_inb (F := F) (maskRow f (k + 1)) 5 (by decide) rfl))
  iapply (run_chunk d L 5 (by decide) rfl rfl) $$ Hc
  iintro Hc
  iapply (run_ld d L (f := f) (k + 1) 96 (k0_off8_eq k)) $$ Hm
  iintro Hm
  iapply (run_assume d L (full_inb (F := F) (maskRow f (k + 1)) 6 (by decide) rfl))
  iapply (run_chunk d L 6 (by decide) rfl rfl) $$ Hc
  iintro Hc
  iapply (run_ld d L (f := f) (k + 1) 112 (k0_off9_eq k)) $$ Hm
  iintro Hm
  iapply (run_ret (Q := Q) d L ⟨(carry F (maskRow f (k + 1)) 7), vld (F := F) (ldOf (F := F) (maskRow f (k + 1)) 112), (addi lane (broadcast L16 112#32)),
            k0_pay45 zeros ones (ldOf (F := F) (maskRow f (k + 1)) 112), k0_pay46 zeros ones (ldOf (F := F) (maskRow f (k + 1)) 112)⟩ rfl)
  iapply Hk $$ [Hm Hc]
  isplitl [Hm]
  · iexact Hm
  · iexact Hc

theorem run_part4 {Q : (Σ' (_ : IVec S16 32), Vec F S16 .i32) → sProp (MM F)} :
    iprop((mLoc d L ↦{fullShare} f) ∗ Part d L (maskRow f (k + 1)) 7)
      ⊢ iprop(((mLoc d L ↦{fullShare} f) ∗ Part d L (maskRow f (k + 1)) 10 -∗
          Q ⟨(carry F (maskRow f (k + 1)) 10), k0_pay62 (ldOf (F := F) (maskRow f (k + 1)) 160)⟩)
        -∗ Run d L (k0_part4 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (carry F (maskRow f (k + 1)) 7) (vld (F := F) (ldOf (F := F) (maskRow f (k + 1)) 112)) (addi lane (broadcast L16 112#32))
          (k0_pay45 zeros ones (ldOf (F := F) (maskRow f (k + 1)) 112)) (k0_pay46 zeros ones (ldOf (F := F) (maskRow f (k + 1)) 112))) Q) := by
  rw [k0_part4_eq_skeleton]
  unfold k0_part4_skel
  iintro ⟨Hm, Hc⟩ Hk
  iapply (run_assume d L (full_inb (F := F) (maskRow f (k + 1)) 7 (by decide) rfl))
  iapply (run_chunk d L 7 (by decide) rfl rfl) $$ Hc
  iintro Hc
  iapply (run_ld d L (f := f) (k + 1) 128 (k0_off10_eq k)) $$ Hm
  iintro Hm
  iapply (run_assume d L (full_inb (F := F) (maskRow f (k + 1)) 8 (by decide) rfl))
  iapply (run_chunk d L 8 (by decide) rfl rfl) $$ Hc
  iintro Hc
  iapply (run_ld d L (f := f) (k + 1) 144 (k0_off11_eq k)) $$ Hm
  iintro Hm
  iapply (run_assume d L (full_inb (F := F) (maskRow f (k + 1)) 9 (by decide) rfl))
  iapply (run_chunk d L 9 (by decide) rfl rfl) $$ Hc
  iintro Hc
  iapply (run_ld d L (f := f) (k + 1) 160 (k0_off12_eq k)) $$ Hm
  iintro Hm
  iapply (run_ret (Q := Q) d L ⟨(carry F (maskRow f (k + 1)) 10), k0_pay62 (ldOf (F := F) (maskRow f (k + 1)) 160)⟩ rfl)
  iapply Hk $$ [Hm Hc]
  isplitl [Hm]
  · iexact Hm
  · iexact Hc

theorem run_part5 {Q : (Σ' (_ : IVec S16 32) (_ : IVec S16 1) (_ : IVec S16 32) (_ : IVec S16 32), BitVec 32) → sProp (MM F)} :
    iprop((mLoc d L ↦{fullShare} f) ∗ Part d L (maskRow f (k + 1)) 10)
      ⊢ iprop(((mLoc d L ↦{fullShare} f) ∗ Part d L (maskRow f (k + 1)) 12 -∗
          Q ⟨(carry F (maskRow f (k + 1)) 12), vldLast (F := F) (ldOf (F := F) (maskRow f (k + 1)) 184), (addi lane (broadcast L16 184#32)),
            k0_pay77 lane zeros ones (ldOf (F := F) (maskRow f (k + 1)) 184), extractAt ![0] (k0_pay78 lane zeros ones (ldOf (F := F) (maskRow f (k + 1)) 184)) inpos_S1_p0⟩)
        -∗ Run d L (k0_part5 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (carry F (maskRow f (k + 1)) 10) (k0_pay62 (ldOf (F := F) (maskRow f (k + 1)) 160))) Q) := by
  rw [k0_part5_eq_skeleton]
  unfold k0_part5_skel
  iintro ⟨Hm, Hc⟩ Hk
  iapply (run_assume d L (full_inb (F := F) (maskRow f (k + 1)) 10 (by decide) rfl))
  iapply (run_chunk d L 10 (by decide) rfl rfl) $$ Hc
  iintro Hc
  iapply (run_ld d L (f := f) (k + 1) 176 (k0_off13_eq k)) $$ Hm
  iintro Hm
  iapply (run_assume d L (full_inb (F := F) (maskRow f (k + 1)) 11 (by decide) rfl))
  iapply (run_chunk d L 11 (by decide) rfl rfl) $$ Hc
  iintro Hc
  iapply (run_ld d L (f := f) (k + 1) 184 (k0_off14_eq k)) $$ Hm
  iintro Hm
  iapply (run_ret (Q := Q) d L ⟨(carry F (maskRow f (k + 1)) 12), vldLast (F := F) (ldOf (F := F) (maskRow f (k + 1)) 184), (addi lane (broadcast L16 184#32)),
            k0_pay77 lane zeros ones (ldOf (F := F) (maskRow f (k + 1)) 184), extractAt ![0] (k0_pay78 lane zeros ones (ldOf (F := F) (maskRow f (k + 1)) 184)) inpos_S1_p0⟩ rfl)
  iapply Hk $$ [Hm Hc]
  isplitl [Hm]
  · iexact Hm
  · iexact Hc

end Cert.Proof.GatherIdealRun
-- ==== Proof.GatherIdealRun.RowB.lean ====
/-
  Row `k + 1` of a tile, second half: the table rows of the row's 200 lines are computed from the list of columns,
  sixteen at a time.
-/
module

public import proofs.«01_k».proof.Proof.GatherIdealRun.RowA

@[expose] public section

noncomputable section

namespace Cert.Proof.GatherIdealRun

open Cert.GatherIdeal Cert.GatherIdeal.Gen Cert.Rows

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- The list of table rows with row `k`'s first `16 * c` computed, its places `S` held. -/
def Lines (r : ℕ → BitVec 32) (base : BitVec 32) (k : ℕ) (S : Finset S6656.Idx) (c : ℕ) : sProp (MM F) :=
  iprop(∃ f : Buf (Elt F) (gLoc d L), ⌜Rowed (F := F) (bit r) base k c f⌝ ∗ (gLoc d L ↦[S]{fullShare} f))

theorem lines_zero (r : ℕ → BitVec 32) (base : BitVec 32) (k : ℕ) (S : Finset S6656.Idx) :
    iprop(∃ f : Buf (Elt F) (gLoc d L), gLoc d L ↦[S]{fullShare} f) ⊢ Lines d L r base k S 0 := by
  unfold Lines
  iintro ⟨%f, H⟩
  iexists f
  isplitr
  · ipureintro
    intro p hp
    omega
  · iexact H

variable {α : Type} {Q : α → sProp (MM F)}

/-- Sixteen table rows: the columns are looked up in the list, the row's first table row is added, and the sum is
    stored. -/
theorem run_line {r : ℕ → BitVec 32} {base : BitVec 32} {k : ℕ} {S : Finset S6656.Idx} (c : ℕ) (hc : c < 13) (hk : k < 32)
    (hS : ∀ x, x ∈ span (208 * k) (208 * k + 208) → x ∈ S) {idx : IVec S16 32}
    (hidx : idx = spot (F := F) (nvOf F r) (colF c) (BitVec.ofNat 32 (16 * c)))
    {h : ∀ a x, ((![idx] : Fin 1 → IVec S16 32) a x).toNat < S224.size a} {hl} {pay : Vec F S16 .i32 → Vec F S16 .i32} (hpay : ∀ w, pay w = addi w (broadcast L16 base))
    {off : Fin 1 → ℕ} {inb : ∀ a, off a + S16.size a ≤ S6656.size a} {n : ℕ} (ho : off = ![n])
    (hn : n = 208 * k + 16 * c)
    {hl' : gB.view.LoadsAt (Rect.unit (s := S6656) off S16.size inb).toLoadRect} {hx hm} {kk : PUnit → PTile F L α} :
    iprop(Done d L r ∗ Lines d L r base k S c)
      ⊢ iprop((Done d L r ∗ Lines d L r base k S (c + 1) -∗ Run d L (kk ⟨⟩) Q)
        -∗ Run d L (SparseCore.vectorLoadIdx (F := F) cB ![idx] h hl >>= fun w =>
          Prog.lift (.load gB (Rect.unit (s := S6656) off S16.size inb).toLoadRect hl') >>= fun _ =>
          Prog.lift (.store gB (Rect.unit (s := S6656) off S16.size inb) (pay w) Finset.univ hx hm) >>= kk) Q) := by
  subst hn
  unfold Done Lines
  iintro ⟨⟨%g, %hg, Hc⟩, ⟨%f, %hf, Hg⟩⟩ Hk
  iapply (run_pick d L) $$ Hc
  iintro Hc
  iapply (wp_load_rect (defs := defs₀ (F := F)) 𝒱₀ (thr d L) none Set.univ (Q := Q) (m := gB)
    (r := Rect.unit (s := S6656) off S16.size inb) (q := fullShare) (f := f) (chunk_sub hc hS inb ho)) $$ Hg
  iintro Hg
  iapply (run_put d L (b := bit r) (base := base) hk hc hS ho (fun i => ?_) hf) $$ Hg
  · rw [hpay]
    show loadIdx (F := F) (e := .i32) g ![idx] h i + base = _
    rw [gather_chunk (bit r) hg (nvOf_eq r) rfl rfl hidx h i]
  · iintro %f' %hf' Hg
    iapply Hk
    isplitl [Hc]
    · iexists g
      isplitr
      · ipureintro; exact hg
      · iexact Hc
    · iexists f'
      isplitr
      · ipureintro; exact hf'
      · iexact Hg

/-! ## The parts of row `k + 1` -/

variable (k : Fin k0_t1_loop.trips) (v2 : BitVec 32) {r : ℕ → BitVec 32} {S : Finset S6656.Idx}

/-- The first table row of row `k + 1`'s batch entry, as the kernel has it. -/
abbrev baseOf (v2 : BitVec 32) (k : Fin k0_t1_loop.trips) : BitVec 32 := Scalar.muli (Scalar.addi v2 (Scf.iv 1#32 1#32 k)) 200#32

theorem k_lt : (k : ℕ) + 1 < 32 := by
  have : (k : ℕ) < k0_t1_loop.trips := k.isLt
  have e : k0_t1_loop.trips = 31 := by decide
  omega

theorem run_part6 (hS : ∀ x, x ∈ span (208 * (k + 1)) (208 * (k + 1) + 208) → x ∈ S) {Q : (Σ' (_ : IVec S16 32) (_ : IVec S16 32) (_ : FVec F S16 .f32) (_ : FVec F S16 .f32) (_ : FVec F S16 .f32) (v770 : IVec S16 32), k0_chk41 v770) → sProp (MM F)} :
    iprop(Part d L r 12 ∗ Lines d L r (baseOf v2 k) (k + 1) S 0)
      ⊢ iprop((Done d L r ∗ Lines d L r (baseOf v2 k) (k + 1) S 1 -∗
          Q ⟨(nvOf F r), (broadcast L16 (baseOf v2 k)), (recip (F := F) (nvOf F r)), shift, laneF,
            (spot (F := F) (nvOf F r) (colF 1) (BitVec.ofNat 32 (16 * 1))), (spot_inb (F := F) (bit r) (nvOf_eq r) (cst := colF 1) (first := BitVec.ofNat 32 (16 * 1)) rfl)⟩)
        -∗ Run d L (k0_part6 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          v2 lane zeros ones k (Scf.iv 1#32 1#32 k) (carry F r 12) (vldLast (F := F) (ldOf (F := F) r 184)) (addi lane (broadcast L16 184#32))
          (k0_pay77 lane zeros ones (ldOf (F := F) r 184)) (extractAt ![0] (k0_pay78 lane zeros ones (ldOf (F := F) r 184)) inpos_S1_p0)) Q) := by
  rw [k0_part6_eq_skeleton]
  unfold k0_part6_skel
  iintro ⟨Hc, Hg⟩ Hk
  iapply (run_assume d L (last_inb (F := F) r rfl))
  iapply (run_chunk_last d L rfl rfl) $$ Hc
  iintro Hc
  iapply (run_assume d L (spot_inb (F := F) (bit r) (nvOf_eq r) (cst := colF 0) (first := BitVec.ofNat 32 (16 * 0)) rfl))
  iapply (run_line d L (r := r) (base := baseOf v2 k) 0 (by decide) (k_lt k) hS rfl (fun _ => rfl) (k0_off15_eq k) (by omega)) $$ [Hc Hg]
  · isplitl [Hc]
    · iexact Hc
    · iexact Hg
  iintro ⟨Hc, Hg⟩
  iapply (run_assume d L (spot_inb (F := F) (bit r) (nvOf_eq r) (cst := colF 1) (first := BitVec.ofNat 32 (16 * 1)) rfl))
  iapply (run_ret (Q := Q) d L ⟨(nvOf F r), (broadcast L16 (baseOf v2 k)), (recip (F := F) (nvOf F r)), shift, laneF,
            (spot (F := F) (nvOf F r) (colF 1) (BitVec.ofNat 32 (16 * 1))), (spot_inb (F := F) (bit r) (nvOf_eq r) (cst := colF 1) (first := BitVec.ofNat 32 (16 * 1)) rfl)⟩ rfl)
  iapply Hk $$ [Hc Hg]
  isplitl [Hc]
  · iexact Hc
  · iexact Hg

theorem run_part7 (hS : ∀ x, x ∈ span (208 * (k + 1)) (208 * (k + 1) + 208) → x ∈ S) {Q : FVec F S16 .f32 → sProp (MM F)} :
    iprop(Done d L r ∗ Lines d L r (baseOf v2 k) (k + 1) S 1)
      ⊢ iprop((Done d L r ∗ Lines d L r (baseOf v2 k) (k + 1) S 4 -∗
          Q (k0_pay94 (F := F) laneF))
        -∗ Run d L (k0_part7 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (nvOf F r) (broadcast L16 (baseOf v2 k)) (recip (F := F) (nvOf F r)) shift laneF
          (spot (F := F) (nvOf F r) (colF 1) (BitVec.ofNat 32 (16 * 1))) (spot_inb (F := F) (bit r) (nvOf_eq r) (cst := colF 1) (first := BitVec.ofNat 32 (16 * 1)) rfl)) Q) := by
  rw [k0_part7_eq_skeleton]
  unfold k0_part7_skel
  iintro ⟨Hc, Hg⟩ Hk
  iapply (run_line d L (r := r) (base := baseOf v2 k) 1 (by decide) (k_lt k) hS rfl (fun _ => rfl) (k0_off16_eq k) (by omega)) $$ [Hc Hg]
  · isplitl [Hc]
    · iexact Hc
    · iexact Hg
  iintro ⟨Hc, Hg⟩
  iapply (run_assume d L (spot_inb (F := F) (bit r) (nvOf_eq r) (cst := colF 2) (first := BitVec.ofNat 32 (16 * 2)) rfl))
  iapply (run_line d L (r := r) (base := baseOf v2 k) 2 (by decide) (k_lt k) hS rfl (fun _ => rfl) (k0_off17_eq k) (by omega)) $$ [Hc Hg]
  · isplitl [Hc]
    · iexact Hc
    · iexact Hg
  iintro ⟨Hc, Hg⟩
  iapply (run_assume d L (spot_inb (F := F) (bit r) (nvOf_eq r) (cst := colF 3) (first := BitVec.ofNat 32 (16 * 3)) rfl))
  iapply (run_line d L (r := r) (base := baseOf v2 k) 3 (by decide) (k_lt k) hS rfl (fun _ => rfl) (k0_off18_eq k) (by omega)) $$ [Hc Hg]
  · isplitl [Hc]
    · iexact Hc
    · iexact Hg
  iintro ⟨Hc, Hg⟩
  iapply (run_ret (Q := Q) d L (k0_pay94 (F := F) laneF) rfl)
  iapply Hk $$ [Hc Hg]
  isplitl [Hc]
  · iexact Hc
  · iexact Hg

theorem run_part8 (hS : ∀ x, x ∈ span (208 * (k + 1)) (208 * (k + 1) + 208) → x ∈ S) {Q : (Σ' (v860 : IVec S16 32), k0_chk46 v860) → sProp (MM F)} :
    iprop(Done d L r ∗ Lines d L r (baseOf v2 k) (k + 1) S 4)
      ⊢ iprop((Done d L r ∗ Lines d L r (baseOf v2 k) (k + 1) S 6 -∗
          Q ⟨(spot (F := F) (nvOf F r) (colF 6) (BitVec.ofNat 32 (16 * 6))), (spot_inb (F := F) (bit r) (nvOf_eq r) (cst := colF 6) (first := BitVec.ofNat 32 (16 * 6)) rfl)⟩)
        -∗ Run d L (k0_part8 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (nvOf F r) (broadcast L16 (baseOf v2 k)) (recip (F := F) (nvOf F r)) shift laneF (k0_pay94 (F := F) laneF)) Q) := by
  rw [k0_part8_eq_skeleton]
  unfold k0_part8_skel
  iintro ⟨Hc, Hg⟩ Hk
  iapply (run_assume d L (spot_inb (F := F) (bit r) (nvOf_eq r) (cst := colF 4) (first := BitVec.ofNat 32 (16 * 4)) rfl))
  iapply (run_line d L (r := r) (base := baseOf v2 k) 4 (by decide) (k_lt k) hS rfl (fun _ => rfl) (k0_off19_eq k) (by omega)) $$ [Hc Hg]
  · isplitl [Hc]
    · iexact Hc
    · iexact Hg
  iintro ⟨Hc, Hg⟩
  iapply (run_assume d L (spot_inb (F := F) (bit r) (nvOf_eq r) (cst := colF 5) (first := BitVec.ofNat 32 (16 * 5)) rfl))
  iapply (run_line d L (r := r) (base := baseOf v2 k) 5 (by decide) (k_lt k) hS rfl (fun _ => rfl) (k0_off20_eq k) (by omega)) $$ [Hc Hg]
  · isplitl [Hc]
    · iexact Hc
    · iexact Hg
  iintro ⟨Hc, Hg⟩
  iapply (run_assume d L (spot_inb (F := F) (bit r) (nvOf_eq r) (cst := colF 6) (first := BitVec.ofNat 32 (16 * 6)) rfl))
  iapply (run_ret (Q := Q) d L ⟨(spot (F := F) (nvOf F r) (colF 6) (BitVec.ofNat 32 (16 * 6))), (spot_inb (F := F) (bit r) (nvOf_eq r) (cst := colF 6) (first := BitVec.ofNat 32 (16 * 6)) rfl)⟩ rfl)
  iapply Hk $$ [Hc Hg]
  isplitl [Hc]
  · iexact Hc
  · iexact Hg

theorem run_part9 (hS : ∀ x, x ∈ span (208 * (k + 1)) (208 * (k + 1) + 208) → x ∈ S) {Q : FVec F S16 .f32 → sProp (MM F)} :
    iprop(Done d L r ∗ Lines d L r (baseOf v2 k) (k + 1) S 6)
      ⊢ iprop((Done d L r ∗ Lines d L r (baseOf v2 k) (k + 1) S 9 -∗
          Q (k0_pay105 (F := F) laneF))
        -∗ Run d L (k0_part9 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (nvOf F r) (broadcast L16 (baseOf v2 k)) (recip (F := F) (nvOf F r)) shift laneF
          (spot (F := F) (nvOf F r) (colF 6) (BitVec.ofNat 32 (16 * 6))) (spot_inb (F := F) (bit r) (nvOf_eq r) (cst := colF 6) (first := BitVec.ofNat 32 (16 * 6)) rfl)) Q) := by
  rw [k0_part9_eq_skeleton]
  unfold k0_part9_skel
  iintro ⟨Hc, Hg⟩ Hk
  iapply (run_line d L (r := r) (base := baseOf v2 k) 6 (by decide) (k_lt k) hS rfl (fun _ => rfl) (k0_off21_eq k) (by omega)) $$ [Hc Hg]
  · isplitl [Hc]
    · iexact Hc
    · iexact Hg
  iintro ⟨Hc, Hg⟩
  iapply (run_assume d L (spot_inb (F := F) (bit r) (nvOf_eq r) (cst := colF 7) (first := BitVec.ofNat 32 (16 * 7)) rfl))
  iapply (run_line d L (r := r) (base := baseOf v2 k) 7 (by decide) (k_lt k) hS rfl (fun _ => rfl) (k0_off22_eq k) (by omega)) $$ [Hc Hg]
  · isplitl [Hc]
    · iexact Hc
    · iexact Hg
  iintro ⟨Hc, Hg⟩
  iapply (run_assume d L (spot_inb (F := F) (bit r) (nvOf_eq r) (cst := colF 8) (first := BitVec.ofNat 32 (16 * 8)) rfl))
  iapply (run_line d L (r := r) (base := baseOf v2 k) 8 (by decide) (k_lt k) hS rfl (fun _ => rfl) (k0_off23_eq k) (by omega)) $$ [Hc Hg]
  · isplitl [Hc]
    · iexact Hc
    · iexact Hg
  iintro ⟨Hc, Hg⟩
  iapply (run_ret (Q := Q) d L (k0_pay105 (F := F) laneF) rfl)
  iapply Hk $$ [Hc Hg]
  isplitl [Hc]
  · iexact Hc
  · iexact Hg

theorem run_part10 (hS : ∀ x, x ∈ span (208 * (k + 1)) (208 * (k + 1) + 208) → x ∈ S) {Q : (Σ' (v950 : IVec S16 32), k0_chk51 v950) → sProp (MM F)} :
    iprop(Done d L r ∗ Lines d L r (baseOf v2 k) (k + 1) S 9)
      ⊢ iprop((Done d L r ∗ Lines d L r (baseOf v2 k) (k + 1) S 11 -∗
          Q ⟨(spot (F := F) (nvOf F r) (colF 11) (BitVec.ofNat 32 (16 * 11))), (spot_inb (F := F) (bit r) (nvOf_eq r) (cst := colF 11) (first := BitVec.ofNat 32 (16 * 11)) rfl)⟩)
        -∗ Run d L (k0_part10 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones k (Scf.iv 1#32 1#32 k) (nvOf F r) (broadcast L16 (baseOf v2 k)) (recip (F := F) (nvOf F r)) shift laneF (k0_pay105 (F := F) laneF)) Q) := by
  rw [k0_part10_eq_skeleton]
  unfold k0_part10_skel
  iintro ⟨Hc, Hg⟩ Hk
  iapply (run_assume d L (spot_inb (F := F) (bit r) (nvOf_eq r) (cst := colF 9) (first := BitVec.ofNat 32 (16 * 9)) rfl))
  iapply (run_line d L (r := r) (base := baseOf v2 k) 9 (by decide) (k_lt k) hS rfl (fun _ => rfl) (k0_off24_eq k) (by omega)) $$ [Hc Hg]
  · isplitl [Hc]
    · iexact Hc
    · iexact Hg
  iintro ⟨Hc, Hg⟩
  iapply (run_assume d L (spot_inb (F := F) (bit r) (nvOf_eq r) (cst := colF 10) (first := BitVec.ofNat 32 (16 * 10)) rfl))
  iapply (run_line d L (r := r) (base := baseOf v2 k) 10 (by decide) (k_lt k) hS rfl (fun _ => rfl) (k0_off25_eq k) (by omega)) $$ [Hc Hg]
  · isplitl [Hc]
    · iexact Hc
    · iexact Hg
  iintro ⟨Hc, Hg⟩
  iapply (run_assume d L (spot_inb (F := F) (bit r) (nvOf_eq r) (cst := colF 11) (first := BitVec.ofNat 32 (16 * 11)) rfl))
  iapply (run_ret (Q := Q) d L ⟨(spot (F := F) (nvOf F r) (colF 11) (BitVec.ofNat 32 (16 * 11))), (spot_inb (F := F) (bit r) (nvOf_eq r) (cst := colF 11) (first := BitVec.ofNat 32 (16 * 11)) rfl)⟩ rfl)
  iapply Hk $$ [Hc Hg]
  isplitl [Hc]
  · iexact Hc
  · iexact Hg

end Cert.Proof.GatherIdealRun
-- ==== Proof.GatherIdealRun.RowC.lean ====
/-
  Row 0 of a tile, computed before the loop: its columns listed, then its table rows, as for the rows of the loop.
-/
module

public import proofs.«01_k».proof.Proof.GatherIdealRun.RowB

@[expose] public section

noncomputable section

namespace Cert.Proof.GatherIdealRun

open Cert.GatherIdeal Cert.GatherIdeal.Gen Cert.Rows

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

variable {f : Buf (Elt F) (mLoc d L)}

theorem run_part14 {Q : (Σ' (_ : IVec S16 32), IVec S16 32) → sProp (MM F)} :
    iprop((mLoc d L ↦{fullShare} f) ∗ Part d L (maskRow f 0) 1)
      ⊢ iprop(((mLoc d L ↦{fullShare} f) ∗ Part d L (maskRow f 0) 4 -∗
          Q ⟨(carry F (maskRow f 0) 3), k0_pay138 zeros ones (ldOf (F := F) (maskRow f 0) 48)⟩)
        -∗ Run d L (k0_part14 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (carry F (maskRow f 0) 1) (vld (F := F) (ldOf (F := F) (maskRow f 0) 16)) (addi lane (broadcast L16 16#32)) (k0_pay124 (ldOf (F := F) (maskRow f 0) 16)) 1#1) Q) := by
  rw [k0_part14_eq_skeleton]
  unfold k0_part14_skel
  iintro ⟨Hm, Hc⟩ Hk
  iapply (run_assume d L (full_inb (F := F) (maskRow f 0) 1 (by decide) rfl))
  iapply (run_chunk d L 1 (by decide) rfl rfl) $$ Hc
  iintro Hc
  iapply (run_ld d L (f := f) 0 32 rfl) $$ Hm
  iintro Hm
  iapply (run_assume d L (full_inb (F := F) (maskRow f 0) 2 (by decide) rfl))
  iapply (run_chunk d L 2 (by decide) rfl rfl) $$ Hc
  iintro Hc
  iapply (run_ld d L (f := f) 0 48 rfl) $$ Hm
  iintro Hm
  iapply (run_assume d L (full_inb (F := F) (maskRow f 0) 3 (by decide) rfl))
  iapply (run_chunk d L 3 (by decide) rfl rfl) $$ Hc
  iintro Hc
  iapply (run_ret (Q := Q) d L ⟨(carry F (maskRow f 0) 3), k0_pay138 zeros ones (ldOf (F := F) (maskRow f 0) 48)⟩ rfl)
  iapply Hk $$ [Hm Hc]
  isplitl [Hm]
  · iexact Hm
  · iexact Hc

theorem run_part15 {Q : (Σ' (_ : IVec S16 32) (_ : IVec S16 1) (_ : IVec S16 32) (_ : IVec S16 32), BitVec 1) → sProp (MM F)} :
    iprop((mLoc d L ↦{fullShare} f) ∗ Part d L (maskRow f 0) 4)
      ⊢ iprop(((mLoc d L ↦{fullShare} f) ∗ Part d L (maskRow f 0) 6 -∗
          Q ⟨(carry F (maskRow f 0) 6), vld (F := F) (ldOf (F := F) (maskRow f 0) 96), (addi lane (broadcast L16 96#32)),
            k0_pay155 zeros ones (ldOf (F := F) (maskRow f 0) 96), 1#1⟩)
        -∗ Run d L (k0_part15 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (carry F (maskRow f 0) 3) (k0_pay138 zeros ones (ldOf (F := F) (maskRow f 0) 48))) Q) := by
  rw [k0_part15_eq_skeleton]
  unfold k0_part15_skel
  iintro ⟨Hm, Hc⟩ Hk
  iapply (run_ld d L (f := f) 0 64 rfl) $$ Hm
  iintro Hm
  iapply (run_assume d L (full_inb (F := F) (maskRow f 0) 4 (by decide) rfl))
  iapply (run_chunk d L 4 (by decide) rfl rfl) $$ Hc
  iintro Hc
  iapply (run_ld d L (f := f) 0 80 rfl) $$ Hm
  iintro Hm
  iapply (run_assume d L (full_inb (F := F) (maskRow f 0) 5 (by decide) rfl))
  iapply (run_chunk d L 5 (by decide) rfl rfl) $$ Hc
  iintro Hc
  iapply (run_ld d L (f := f) 0 96 rfl) $$ Hm
  iintro Hm
  iapply (run_ret (Q := Q) d L ⟨(carry F (maskRow f 0) 6), vld (F := F) (ldOf (F := F) (maskRow f 0) 96), (addi lane (broadcast L16 96#32)),
            k0_pay155 zeros ones (ldOf (F := F) (maskRow f 0) 96), 1#1⟩ rfl)
  iapply Hk $$ [Hm Hc]
  isplitl [Hm]
  · iexact Hm
  · iexact Hc

theorem run_part16 {Q : (Σ' (_ : IVec S16 32), IVec S16 32) → sProp (MM F)} :
    iprop((mLoc d L ↦{fullShare} f) ∗ Part d L (maskRow f 0) 6)
      ⊢ iprop(((mLoc d L ↦{fullShare} f) ∗ Part d L (maskRow f 0) 9 -∗
          Q ⟨(carry F (maskRow f 0) 8), k0_pay169 zeros ones (ldOf (F := F) (maskRow f 0) 128)⟩)
        -∗ Run d L (k0_part16 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (carry F (maskRow f 0) 6) (vld (F := F) (ldOf (F := F) (maskRow f 0) 96)) (addi lane (broadcast L16 96#32))
          (k0_pay155 zeros ones (ldOf (F := F) (maskRow f 0) 96)) 1#1) Q) := by
  rw [k0_part16_eq_skeleton]
  unfold k0_part16_skel
  iintro ⟨Hm, Hc⟩ Hk
  iapply (run_assume d L (full_inb (F := F) (maskRow f 0) 6 (by decide) rfl))
  iapply (run_chunk d L 6 (by decide) rfl rfl) $$ Hc
  iintro Hc
  iapply (run_ld d L (f := f) 0 112 rfl) $$ Hm
  iintro Hm
  iapply (run_assume d L (full_inb (F := F) (maskRow f 0) 7 (by decide) rfl))
  iapply (run_chunk d L 7 (by decide) rfl rfl) $$ Hc
  iintro Hc
  iapply (run_ld d L (f := f) 0 128 rfl) $$ Hm
  iintro Hm
  iapply (run_assume d L (full_inb (F := F) (maskRow f 0) 8 (by decide) rfl))
  iapply (run_chunk d L 8 (by decide) rfl rfl) $$ Hc
  iintro Hc
  iapply (run_ret (Q := Q) d L ⟨(carry F (maskRow f 0) 8), k0_pay169 zeros ones (ldOf (F := F) (maskRow f 0) 128)⟩ rfl)
  iapply Hk $$ [Hm Hc]
  isplitl [Hm]
  · iexact Hm
  · iexact Hc

theorem run_part17 {Q : (Σ' (_ : IVec S16 32) (_ : IVec S16 1) (_ : IVec S16 32) (_ : IVec S16 32), BitVec 1) → sProp (MM F)} :
    iprop((mLoc d L ↦{fullShare} f) ∗ Part d L (maskRow f 0) 9)
      ⊢ iprop(((mLoc d L ↦{fullShare} f) ∗ Part d L (maskRow f 0) 11 -∗
          Q ⟨(carry F (maskRow f 0) 11), vld (F := F) (ldOf (F := F) (maskRow f 0) 176), (addi lane (broadcast L16 176#32)),
            k0_pay186 zeros ones (ldOf (F := F) (maskRow f 0) 176), 1#1⟩)
        -∗ Run d L (k0_part17 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (carry F (maskRow f 0) 8) (k0_pay169 zeros ones (ldOf (F := F) (maskRow f 0) 128))) Q) := by
  rw [k0_part17_eq_skeleton]
  unfold k0_part17_skel
  iintro ⟨Hm, Hc⟩ Hk
  iapply (run_ld d L (f := f) 0 144 rfl) $$ Hm
  iintro Hm
  iapply (run_assume d L (full_inb (F := F) (maskRow f 0) 9 (by decide) rfl))
  iapply (run_chunk d L 9 (by decide) rfl rfl) $$ Hc
  iintro Hc
  iapply (run_ld d L (f := f) 0 160 rfl) $$ Hm
  iintro Hm
  iapply (run_assume d L (full_inb (F := F) (maskRow f 0) 10 (by decide) rfl))
  iapply (run_chunk d L 10 (by decide) rfl rfl) $$ Hc
  iintro Hc
  iapply (run_ld d L (f := f) 0 176 rfl) $$ Hm
  iintro Hm
  iapply (run_ret (Q := Q) d L ⟨(carry F (maskRow f 0) 11), vld (F := F) (ldOf (F := F) (maskRow f 0) 176), (addi lane (broadcast L16 176#32)),
            k0_pay186 zeros ones (ldOf (F := F) (maskRow f 0) 176), 1#1⟩ rfl)
  iapply Hk $$ [Hm Hc]
  isplitl [Hm]
  · iexact Hm
  · iexact Hc

/-- The first table row of row 0's batch entry, as the kernel has it. -/
abbrev base0 (v2 : BitVec 32) : BitVec 32 := Scalar.muli (Scalar.addi v2 0#32) 200#32

/-- The rounded quotients of chunk `c`'s columns by the list's length. -/
abbrev quot (r : ℕ → BitVec 32) (c : ℕ) : IVec L16 32 :=
  fptosi 32 (addf (mulf (addf (laneF (F := F)) (broadcast L16 (Scalar.ofBits .f32 (colF c)))) (recip (F := F) (nvOf F r))) shift)

variable (v2 : BitVec 32)

theorem run_part18 {Q : (Σ' (_ : IVec S16 32) (_ : IVec S16 32) (_ : FVec F S16 .f32) (_ : FVec F S16 .f32) (_ : FVec F S16 .f32), IVec S16 32) → sProp (MM F)} :
    iprop((mLoc d L ↦{fullShare} f) ∗ Part d L (maskRow f 0) 11)
      ⊢ iprop(((mLoc d L ↦{fullShare} f) ∗ Done d L (maskRow f 0) -∗
          Q ⟨(nvOf F (maskRow f 0)), (broadcast L16 (base0 v2)), (recip (F := F) (nvOf F (maskRow f 0))), shift, laneF, quot (F := F) (maskRow f 0) 0⟩)
        -∗ Run d L (k0_part18 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          v2 lane zeros ones (carry F (maskRow f 0) 11) (vld (F := F) (ldOf (F := F) (maskRow f 0) 176)) (addi lane (broadcast L16 176#32))
          (k0_pay186 zeros ones (ldOf (F := F) (maskRow f 0) 176)) 1#1) Q) := by
  rw [k0_part18_eq_skeleton]
  unfold k0_part18_skel
  iintro ⟨Hm, Hc⟩ Hk
  iapply (run_assume d L (full_inb (F := F) (maskRow f 0) 11 (by decide) rfl))
  iapply (run_chunk d L 11 (by decide) rfl rfl) $$ Hc
  iintro Hc
  iapply (run_ld d L (f := f) 0 184 rfl) $$ Hm
  iintro Hm
  iapply (run_assume d L (last_inb (F := F) (maskRow f 0) rfl))
  iapply (run_chunk_last d L rfl rfl) $$ Hc
  iintro Hc
  iapply (run_ret (Q := Q) d L ⟨(nvOf F (maskRow f 0)), (broadcast L16 (base0 v2)), (recip (F := F) (nvOf F (maskRow f 0))), shift, laneF, quot (F := F) (maskRow f 0) 0⟩ rfl)
  iapply Hk $$ [Hm Hc]
  isplitl [Hm]
  · iexact Hm
  · iexact Hc

variable {r : ℕ → BitVec 32} {S : Finset S6656.Idx}

theorem run_part19 (hS : ∀ x, x ∈ span (208 * 0) (208 * 0 + 208) → x ∈ S) {Q : IVec S16 32 → sProp (MM F)} :
    iprop(Done d L r ∗ Lines d L r (base0 v2) 0 S 0)
      ⊢ iprop((Done d L r ∗ Lines d L r (base0 v2) 0 S 3 -∗
          Q (quot (F := F) r 3))
        -∗ Run d L (k0_part19 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (nvOf F r) (broadcast L16 (base0 v2)) (recip (F := F) (nvOf F r)) shift laneF (quot (F := F) r 0)) Q) := by
  rw [k0_part19_eq_skeleton]
  unfold k0_part19_skel
  iintro ⟨Hc, Hg⟩ Hk
  iapply (run_assume d L (spot_inb (F := F) (bit r) (nvOf_eq r) (cst := colF 0) (first := BitVec.ofNat 32 (16 * 0)) rfl))
  iapply (run_line d L (r := r) (base := base0 v2) 0 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 1) (first := BitVec.ofNat 32 (16 * 1)) rfl))
  iapply (run_line d L (r := r) (base := base0 v2) 1 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 2) (first := BitVec.ofNat 32 (16 * 2)) rfl))
  iapply (run_line d L (r := r) (base := base0 v2) 2 (by decide) (by decide) hS rfl (fun _ => rfl) rfl rfl) $$ [Hc Hg]
  · isplitl [Hc]
    · iexact Hc
    · iexact Hg
  iintro ⟨Hc, Hg⟩
  iapply (run_ret (Q := Q) d L (quot (F := F) r 3) rfl)
  iapply Hk $$ [Hc Hg]
  isplitl [Hc]
  · iexact Hc
  · iexact Hg

theorem run_part20 (hS : ∀ x, x ∈ span (208 * 0) (208 * 0 + 208) → x ∈ S) {Q : IVec S16 32 → sProp (MM F)} :
    iprop(Done d L r ∗ Lines d L r (base0 v2) 0 S 3)
      ⊢ iprop((Done d L r ∗ Lines d L r (base0 v2) 0 S 6 -∗
          Q (quot (F := F) r 6))
        -∗ Run d L (k0_part20 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (nvOf F r) (broadcast L16 (base0 v2)) (recip (F := F) (nvOf F r)) shift laneF (quot (F := F) r 3)) Q) := by
  rw [k0_part20_eq_skeleton]
  unfold k0_part20_skel
  iintro ⟨Hc, Hg⟩ Hk
  iapply (run_assume d L (spot_inb (F := F) (bit r) (nvOf_eq r) (cst := colF 3) (first := BitVec.ofNat 32 (16 * 3)) rfl))
  iapply (run_line d L (r := r) (base := base0 v2) 3 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 4) (first := BitVec.ofNat 32 (16 * 4)) rfl))
  iapply (run_line d L (r := r) (base := base0 v2) 4 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 5) (first := BitVec.ofNat 32 (16 * 5)) rfl))
  iapply (run_line d L (r := r) (base := base0 v2) 5 (by decide) (by decide) hS rfl (fun _ => rfl) rfl rfl) $$ [Hc Hg]
  · isplitl [Hc]
    · iexact Hc
    · iexact Hg
  iintro ⟨Hc, Hg⟩
  iapply (run_ret (Q := Q) d L (quot (F := F) r 6) rfl)
  iapply Hk $$ [Hc Hg]
  isplitl [Hc]
  · iexact Hc
  · iexact Hg

theorem run_part21 (hS : ∀ x, x ∈ span (208 * 0) (208 * 0 + 208) → x ∈ S) {Q : IVec S16 32 → sProp (MM F)} :
    iprop(Done d L r ∗ Lines d L r (base0 v2) 0 S 6)
      ⊢ iprop((Done d L r ∗ Lines d L r (base0 v2) 0 S 9 -∗
          Q (quot (F := F) r 9))
        -∗ Run d L (k0_part21 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (nvOf F r) (broadcast L16 (base0 v2)) (recip (F := F) (nvOf F r)) shift laneF (quot (F := F) r 6)) Q) := by
  rw [k0_part21_eq_skeleton]
  unfold k0_part21_skel
  iintro ⟨Hc, Hg⟩ Hk
  iapply (run_assume d L (spot_inb (F := F) (bit r) (nvOf_eq r) (cst := colF 6) (first := BitVec.ofNat 32 (16 * 6)) rfl))
  iapply (run_line d L (r := r) (base := base0 v2) 6 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 7) (first := BitVec.ofNat 32 (16 * 7)) rfl))
  iapply (run_line d L (r := r) (base := base0 v2) 7 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 8) (first := BitVec.ofNat 32 (16 * 8)) rfl))
  iapply (run_line d L (r := r) (base := base0 v2) 8 (by decide) (by decide) hS rfl (fun _ => rfl) rfl rfl) $$ [Hc Hg]
  · isplitl [Hc]
    · iexact Hc
    · iexact Hg
  iintro ⟨Hc, Hg⟩
  iapply (run_ret (Q := Q) d L (quot (F := F) r 9) rfl)
  iapply Hk $$ [Hc Hg]
  isplitl [Hc]
  · iexact Hc
  · iexact Hg

theorem run_part22 (hS : ∀ x, x ∈ span (208 * 0) (208 * 0 + 208) → x ∈ S) {Q : IVec S16 32 → sProp (MM F)} :
    iprop(Done d L r ∗ Lines d L r (base0 v2) 0 S 9)
      ⊢ iprop((Done d L r ∗ Lines d L r (base0 v2) 0 S 12 -∗
          Q (quot (F := F) r 12))
        -∗ Run d L (k0_part22 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          lane zeros ones (nvOf F r) (broadcast L16 (base0 v2)) (recip (F := F) (nvOf F r)) shift laneF (quot (F := F) r 9)) Q) := by
  rw [k0_part22_eq_skeleton]
  unfold k0_part22_skel
  iintro ⟨Hc, Hg⟩ Hk
  iapply (run_assume d L (spot_inb (F := F) (bit r) (nvOf_eq r) (cst := colF 9) (first := BitVec.ofNat 32 (16 * 9)) rfl))
  iapply (run_line d L (r := r) (base := base0 v2) 9 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 10) (first := BitVec.ofNat 32 (16 * 10)) rfl))
  iapply (run_line d L (r := r) (base := base0 v2) 10 (by decide) (by decide) hS rfl (fun _ => rfl) rfl rfl) $$ [Hc Hg]
  · isplitl [Hc]
    · iexact Hc
    · iexact Hg
  iintro ⟨Hc, Hg⟩
  iapply (run_assume d L (spot_inb (F := F) (bit r) (nvOf_eq r) (cst := colF 11) (first := BitVec.ofNat 32 (16 * 11)) rfl))
  iapply (run_line d L (r := r) (base := base0 v2) 11 (by decide) (by decide) hS rfl (fun _ => rfl) rfl rfl) $$ [Hc Hg]
  · isplitl [Hc]
    · iexact Hc
    · iexact Hg
  iintro ⟨Hc, Hg⟩
  iapply (run_ret (Q := Q) d L (quot (F := F) r 12) rfl)
  iapply Hk $$ [Hc Hg]
  isplitl [Hc]
  · iexact Hc
  · iexact Hg

end Cert.Proof.GatherIdealRun
-- ==== Proof.GatherIdealRun.Ring.lean ====
/-
  The transfers of a tile: the gathers of a row's lines into a slot, the copy of a slot to the result, and the waits.
  Each step is stated over a slot's number, a row's number and a semaphore, and gives back what the transfer leaves as
  lines of the table.
-/
module

public import proofs.«01_k».proof.Proof.GatherIdealRun.RowC

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## Places -/

/-- Lines `a` up to `b` of slot `s`. -/
def slotSet (s a b : ℕ) : Finset S4x200x128.Idx :=
  Finset.univ.filter fun x => (x 0).val = s ∧ a ≤ (x 1).val ∧ (x 1).val < b

theorem mem_slotSet {s a b : ℕ} {x : S4x200x128.Idx} : x ∈ slotSet s a b ↔ (x 0).val = s ∧ a ≤ (x 1).val ∧ (x 1).val < b := by
  simp [slotSet]

/-- Lines `a` up to `b` of the table or of the result. -/
def lineSet (a b : ℕ) : Finset S204800x128.Idx := Finset.univ.filter fun x => a ≤ (x 0).val ∧ (x 0).val < b

theorem mem_lineSet {a b : ℕ} {x : S204800x128.Idx} : x ∈ lineSet a b ↔ a ≤ (x 0).val ∧ (x 0).val < b := by
  simp [lineSet]

/-- The semaphore of slot `s`. -/
abbrev semOf (arr : DmaSems sig S4) (s : Fin 4) : DmaSem sig := arr.ix fun a => match a with | ⟨0, _⟩ => s

theorem sem_at (arr : DmaSems sig S4) (s : Fin 4) {o : Fin 1 → ℕ} {inb : ∀ a, o a + S1.size a ≤ S4.size a} {hq} (ho : o = ![s.val]) :
    ((arr.slice (Rect.unit (s := S4) o S1.size inb)).squeeze S_ hq).sem = semOf arr s := by
  subst ho
  show arr.ix _ = arr.ix _
  congr 1
  funext a
  match a with
  | ⟨0, _⟩ =>
    have hy : ∀ y : S1.Idx, (y 0).val = 0 := fun y => by have : (y 0).val < 1 := (y 0).isLt; omega
    exact Fin.ext (show s.val + 1 * ((Shape.reshapeEquiv _ _ : S1.Idx) 0).val = s.val by rw [hy]; omega)

/-! ## What a result line holds -/

/-- Mask word `j` of row `R`. -/
def mrow (mk : S1024x200.Idx → BitVec 32) (R j : ℕ) : BitVec 32 :=
  if h : R < 1024 ∧ j < 200 then mk (fun a => match a with | ⟨0, _⟩ => ⟨R, h.1⟩ | ⟨1, _⟩ => ⟨j, h.2⟩) else 0#32

/-- Line `n` of the table, at column `c`. -/
def tableAt (tb : S204800x128.Idx → F .f32) (n : ℕ) (c : Fin 128) : F .f32 :=
  tb (fun a => match a with | ⟨0, _⟩ => ⟨n % 204800, Nat.mod_lt _ (by decide)⟩ | ⟨1, _⟩ => c)

theorem tableAt_idx (tb : S204800x128.Idx → F .f32) (x : S204800x128.Idx) {n : ℕ} (h0 : (x 0).val = n) {c : Fin 128} (h1 : (x 1).val = c.val) :
    tb x = tableAt tb n c := by
  subst h0
  rw [tableAt]; congr 1; funext a
  match a with
  | ⟨0, _⟩ => exact Fin.ext (Nat.mod_eq_of_lt (x 0).isLt).symm
  | ⟨1, _⟩ => exact Fin.ext h1

variable [FloatOps F]

/-- Line `j` of result row `R`: the table's line of row `R` at the `j`-th column of the row's list. -/
def lineAt (mk : S1024x200.Idx → BitVec 32) (tb : S204800x128.Idx → F .f32) (R j : ℕ) (c : Fin 128) : F .f32 :=
  tableAt tb (200 * R + colOf F (bit (mrow mk R)) j) c

/-- The whole result. -/
def outF (mk : S1024x200.Idx → BitVec 32) (tb : S204800x128.Idx → F .f32) : S204800x128.Idx → F .f32 :=
  fun x => lineAt mk tb ((x 0).val / 200) ((x 0).val % 200) (x 1)

/-- Lines `a` up to `b` of slot `s` hold those of result row `R`. -/
def Held (mk : S1024x200.Idx → BitVec 32) (tb : S204800x128.Idx → F .f32) (s R a b : ℕ) (f : S4x200x128.Idx → F .f32) : Prop :=
  ∀ x ∈ slotSet s a b, f x = lineAt mk tb R (x 1).val (x 2)

variable (d : Dev nD) (L : grid0.Coords)

abbrev tLoc : Loc nD τ sig := (thr d L).loc main_v1_scv
abbrev oLoc : Loc nD τ sig := (thr d L).loc main_v2_scv
abbrev kLoc : Loc nD τ sig := (thr d L).loc main_v0_scv

/-! ## The waits -/

variable {α : Type} {Q : α → sProp (MM F)}

/-- What the tile owes, with what it has waited for: nothing another thread waits on. -/
def Ow (O : CellTallies nD τ sig (HIx 1)) (W : Waits sig (HIx 1)) : sProp (MM F) :=
  iprop(Transfers.MayWaits (thr d L) (default : HIx 1) O ∗ ∃ W', ⌜∀ p ∈ W', p ∈ W ∨ p.2 = none⌝ ∗ owes (thr d L) O W')

variable {O : CellTallies nD τ sig (HIx 1)} {W : Waits sig (HIx 1)}

/-- A transfer's delivery is waited for. -/
theorem run_await {sp sp' : Space} {s s' : Shape} {e e' : EltTy} {κ' : Kind}
    {srcw : Memref sig .scVector sp s e} {dstw : Memref sig κ' sp' s' e'} {sem sem' : DmaSem sig}
    {N : ℕ} {Dv : sProp (MM F)} {hsrc hdst} {kk : PUnit → PTile F L α} (hsem : sem' = sem) (hN : dstw.view.dmaCredit = N) :
    iprop(Transfers.Flight countersEmb (thr d L) (.dma sem) (default : HIx 1) N Dv ∗ Ow d L O W)
      ⊢ iprop((Dv ∗ semVal ((thr d L), SemLoc.dma sem) 0 ∗ Ow d L O W -∗ Run d L (kk ⟨⟩) Q)
        -∗ Run d L (Prog.lift (.waitDma2 sem' srcw dstw hsrc hdst) >>= kk) Q) := by
  subst hsem
  unfold Ow
  iintro ⟨Hfl, #Hmw, %W', %hW', HO⟩ Hk
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem')) $$ Hmw
  iintro ⟨HD, Hz, HO⟩
  iapply Hk
  isplitl [HD]; · iexact HD
  isplitl [Hz]; · iexact Hz
  isplitr; · iexact Hmw
  iexists _
  isplitr
  swap; · iexact HO
  ipureintro; intro p hp
  rcases Finset.mem_insert.mp hp with hp | hp; · exact .inr (hp ▸ rfl)
  exact hW' p hp

/-! ## The memory a transfer names -/

/-- The lines of a slot a transfer names. -/
abbrev slotRef (n : ℕ) (o : Fin 3 → ℕ) (inb : ∀ a, o a + (![1, n, 128] : Fin 3 → ℕ) a ≤ S4x200x128.size a)
    (hst : ∀ a, (Rect.unit (s := S4x200x128) o ![1, n, 128] inb).stride a = 1) (hq : (⟨3, ![1, n, 128]⟩ : Shape).Squeezes ⟨2, ![n, 128]⟩) :
    Memref sig .scVector .vmem ⟨2, ![n, 128]⟩ .f32 :=
  (rB.slice (Rect.unit (s := S4x200x128) o ![1, n, 128] inb) hst).squeeze ⟨2, ![n, 128]⟩ hq

section
variable {n : ℕ} {o : Fin 3 → ℕ} {inb : ∀ a, o a + (![1, n, 128] : Fin 3 → ℕ) a ≤ S4x200x128.size a} {hst} {hq} {s a : ℕ}

theorem set_slot (ho : o = ![s, a, 0]) : (slotRef n o inb hst hq).view.set = slotSet s a (a + n) := by
  subst ho
  have h1 : (slotRef n ![s, a, 0] inb hst hq).view.set = (Rect.unit (s := S4x200x128) ![s, a, 0] ![1, n, 128] inb).set :=
    (View.set_reshape _ _).trans (View.set_slice_whole _ _)
  rw [h1]
  ext x
  rw [Rect.mem_set_unit, mem_slotSet]
  have h2 : (x 2).val < 128 := (x 2).isLt
  constructor
  · intro h
    have h0 : s ≤ (x 0).val ∧ (x 0).val < s + 1 := h 0
    have h1 : a ≤ (x 1).val ∧ (x 1).val < a + n := h 1
    omega
  · intro h b
    match b with
    | ⟨0, _⟩ => exact show s ≤ (x 0).val ∧ (x 0).val < s + 1 by omega
    | ⟨1, _⟩ => exact h.2
    | ⟨2, _⟩ => exact show 0 ≤ (x 2).val ∧ (x 2).val < 0 + 128 by omega

theorem emb_slot (ho : o = ![s, a, 0]) (x : (⟨2, ![n, 128]⟩ : Shape).Idx) (b : Fin 3) :
    ((slotRef n o inb hst hq).view.emb x b).val = (![s, a + (x 0).val, (x 1).val] : Fin 3 → ℕ) b := by
  subst ho
  have e : Shape.reshapeEquiv (Shape.Squeezes.numel_eq hq) x = (Fin.cons ⟨0, Nat.one_pos⟩ x : (⟨3, ![1, n, 128]⟩ : Shape).Idx) :=
    Shape.reshapeEquiv_cons_one _ x
  show (![s, a, 0] : Fin 3 → ℕ) b + 1 * ((Shape.reshapeEquiv (Shape.Squeezes.numel_eq hq) x : (⟨3, ![1, n, 128]⟩ : Shape).Idx) b).val = _
  rw [e]
  match b with
  | ⟨0, _⟩ => rfl
  | ⟨1, _⟩ => exact show a + 1 * (x 0).val = a + (x 0).val by omega
  | ⟨2, _⟩ => exact show 0 + 1 * (x 1).val = (x 1).val by omega

end

/-- The whole table, as a gather names it. -/
abbrev tableRef (inb : ∀ a, (![0, 0] : Fin 2 → ℕ) a + S204800x128.size a ≤ S204800x128.size a)
    (hst : ∀ a, (Rect.unit (s := S204800x128) ![0, 0] S204800x128.size inb).stride a = 1) :
    Memref sig .scVector .hbm S204800x128 .f32 :=
  (Memref.whole main_v1_scv).slice (Rect.unit (s := S204800x128) ![0, 0] S204800x128.size inb) hst

theorem zeros_apply (b : Fin 2) : (![0, 0] : Fin 2 → ℕ) b = 0 := by
  match b with
  | ⟨0, _⟩ => rfl
  | ⟨1, _⟩ => rfl

theorem set_table {inb} {hst} : (tableRef inb hst).view.set = Finset.univ := by
  refine (View.set_slice_whole _ _).trans ?_
  ext x
  rw [Rect.mem_set_unit]
  refine iff_of_true (fun b => ?_) (Finset.mem_univ _)
  rw [zeros_apply b, Nat.zero_add]
  exact ⟨Nat.zero_le _, (x b).isLt⟩

theorem emb_table {inb} {hst} (x : S204800x128.Idx) (b : Fin 2) : ((tableRef inb hst).view.emb x b).val = (x b).val := by
  show (![0, 0] : Fin 2 → ℕ) b + 1 * (x b).val = (x b).val
  rw [zeros_apply b, Nat.zero_add, Nat.one_mul]

/-- A part of the list of table rows, as a gather names it. -/
abbrev listRef (n : ℕ) (o : Fin 1 → ℕ) (inb : ∀ a, o a + (![n] : Fin 1 → ℕ) a ≤ S6656.size a)
    (hst : ∀ a, (Rect.unit (s := S6656) o ![n] inb).stride a = 1) :
    Memref sig .scVector .vmem ⟨1, ![n]⟩ .i32 :=
  gB.slice (Rect.unit (s := S6656) o ![n] inb) hst

theorem read_list {n : ℕ} {o : Fin 1 → ℕ} {inb} {hst} {p : ℕ} (ho : o = ![p]) (f : Buf (Elt F) (gLoc d L)) (x : (⟨1, ![n]⟩ : Shape).Idx) :
    (listRef n o inb hst).view.read (Elt F) f x = listAt f (p + (x 0).val) := by
  subst ho
  refine (View.read_apply _ _).trans ((cast_eq _ _).trans ?_)
  rw [← listAt_idx f]
  congr 1
  show p + 1 * (x 0).val = _
  omega

/-! ## A gather -/

/-- What a gather into lines `a` to `a + n` of slot `s` leaves: the lines, the share of the table, the part of the list. -/
def Got (mk : S1024x200.Idx → BitVec 32) (tb : S204800x128.Idx → F .f32) (s R a n p : ℕ) (q : PosShare TreeShare) : sProp (MM F) :=
  iprop((∃ f : Buf (Elt F) (rLoc d L), ⌜Held (F := F) mk tb s R a (a + n) f⌝ ∗ (rLoc d L ↦[slotSet s a (a + n)]{fullShare} f))
    ∗ (tLoc d L ↦{q} tb) ∗ (∃ fo : Buf (Elt F) (gLoc d L), gLoc d L ↦[span p (p + n)]{fullShare} fo))

theorem run_gather {n : ℕ} (hn0 : 0 < n) {s : Fin 4} {a R p : ℕ} {b : ℕ → Prop} [DecidablePred b]
    {mk : S1024x200.Idx → BitVec 32} {tb : S204800x128.Idx → F .f32} {q : PosShare TreeShare}
    {o1 : Fin 3 → ℕ} {inb1 hst1 hq1} (h1 : o1 = ![s.val, a, 0])
    {o2 : Fin 1 → ℕ} {inb2 hst2} (h2 : o2 = ![p]) {inb3 hst3}
    {sem sem' : DmaSem sig} (hsem : sem' = sem) {N : ℕ}
    {hg : S204800x128.Gathers 0 ⟨2, ![n, 128]⟩}
    (hN : ∑ j, ((slotRef n o1 inb1 hst1 hq1).slice ((⟨2, ![n, 128]⟩ : Shape).rowRect hg.axis' j) (fun _ => rfl)).view.dmaCredit = N)
    (fo : Buf (Elt F) (gLoc d L))
    (hfo : ∀ j < n, (listAt fo (p + j)).toNat = 200 * R + colOf F (bit (mrow mk R)) (a + j)) (hR : R < 1024)
    {hp hn' hsrc he hsp hr} {kk : PUnit → PTile F L α} :
    iprop((tLoc d L ↦{q} tb) ∗ (∃ f : Buf (Elt F) (rLoc d L), rLoc d L ↦[slotSet s a (a + n)]{fullShare} f)
        ∗ (gLoc d L ↦[span p (p + n)]{fullShare} fo) ∗ semVal ((thr d L), SemLoc.dma sem) 0)
      ⊢ iprop((Transfers.Flight countersEmb (thr d L) (.dma sem) (default : HIx 1) N (Got d L mk tb s R a n p q) -∗ Run d L (kk ⟨⟩) Q)
        -∗ Run d L (SparseCore.enqueueIndirectGather hp (tableRef inb3 hst3) (slotRef n o1 inb1 hst1 hq1) hg (listRef n o2 inb2 hst2)
            hn' sem' hsrc he hsp hr >>= kk) Q) := by
  subst hsem
  have hss := set_slot (n := n) (inb := inb1) (hst := hst1) (hq := hq1) h1
  have hls : (listRef n o2 inb2 hst2).view.set = span p (p + n) := set_unit_list inb2 h2 rfl
  have hin : ∀ x, ((listRef n o2 inb2 hst2).view.read (Elt F) fo x).toNat < S204800x128.size hg.axis := by
    intro x
    rw [read_list d L h2]
    have hx : (x 0).val < n := (x 0).isLt
    rw [hfo _ hx]
    have := colOf_lt (F := F) (bit (mrow mk R)) (a + (x 0).val)
    show _ < 204800
    omega
  iintro ⟨Ht, ⟨%f, Hr⟩, Hg, Hz⟩ Hk
  iapply (SparseCore.wp_indirectGatherLocal countersEmb 𝒱₀ (thr d L) none (hg := hg) (default : HIx 1) N hN
    (by show 0 < (⟨2, ![n, 128]⟩ : Shape).numel; rw [Shape.numel, Fin.prod_univ_two]; exact Nat.mul_pos hn0 (show 0 < 128 by decide)) hin (fs := tb) (fd := f) (q := q) (qo := fullShare)) $$ [Ht Hr Hg Hz]
  · rw [set_table, hss, hls]
    isplitl [Ht]; · iexact Ht
    isplitl [Hr]; · iexact Hr
    isplitl [Hg]; · iexact Hg
    iexact Hz
  iintro Hfl
  iapply Hk
  iapply (Transfers.Flight_mono countersEmb (thr d L) ?_) $$ Hfl
  rw [set_table, hss, hls]
  unfold Got
  iintro ⟨Hr, Ht, Hg⟩
  isplitl [Hr]
  · iexists _
    isplitr
    swap; · iexact Hr
    ipureintro
    intro x hx
    rw [mem_slotSet] at hx
    have hj : (x 1).val - a < n := by omega
    let y : (⟨2, ![n, 128]⟩ : Shape).Idx := fun b => match b with | ⟨0, _⟩ => ⟨(x 1).val - a, hj⟩ | ⟨1, _⟩ => x 2
    have ey : (slotRef n o1 inb1 hst1 hq1).view.emb y = x := by
      funext b
      apply Fin.ext
      refine (emb_slot h1 y b).trans ?_
      match b with
      | ⟨0, _⟩ => exact hx.1.symm
      | ⟨1, _⟩ => exact show a + ((x 1).val - a) = (x 1).val by omega
      | ⟨2, _⟩ => rfl
    have hw := View.write_emb_of_mem (Val := Elt F) (v := (slotRef n o1 inb1 hst1 hq1).view) f
      (SparseCore.gatherPayload hg ((tableRef inb3 hst3).view.read (Elt F) tb) (SparseCore.rows ((listRef n o2 inb2 hst2).view.read (Elt F) fo) hn' hin))
      (M := Finset.univ) (Finset.mem_univ y)
    rw [ey] at hw
    refine (hw.trans (cast_eq _ _)).trans ?_
    show (tableRef inb3 hst3).view.read (Elt F) tb (hg.idx _ y) = _
    refine (View.read_apply _ _).trans ((cast_eq _ _).trans ?_)
    refine tableAt_idx tb _ ?_ ?_
    · refine (emb_table _ 0).trans ?_
      refine (congrArg Fin.val (Shape.Gathers.idx_axis hg _ y)).trans ?_
      show ((listRef n o2 inb2 hst2).view.read (Elt F) fo _).toNat = _
      rw [read_list d L h2]
      have hrm : (((⟨1, ![n]⟩ : Shape).rowMajor.symm ((y hg.axis').cast hn'.symm)) 0).val = (x 1).val - a := by
        rw [← Shape.rowMajor_val_one]
        rw [Equiv.apply_symm_apply]
        rfl
      rw [hrm, hfo _ hj, show a + ((x 1).val - a) = (x 1).val by omega]
    · refine (emb_table _ 1).trans ?_
      refine (Shape.Gathers.idx_of_ne hg _ y 1 (by decide)).trans ?_
      rfl
  isplitl [Ht]; · iexact Ht
  iexists _; iexact Hg

/-! ## A slot is copied to the result -/

/-- A result row, as a copy names it. -/
abbrev rowRef (o : Fin 2 → ℕ) (inb : ∀ a, o a + S200x128.size a ≤ S204800x128.size a)
    (hst : ∀ a, (Rect.unit (s := S204800x128) o S200x128.size inb).stride a = 1) : Memref sig .scVector .hbm S200x128 .f32 :=
  (Memref.whole main_v2_scv).slice (Rect.unit (s := S204800x128) o S200x128.size inb) hst

theorem set_row {o : Fin 2 → ℕ} {inb hst} {p : ℕ} (ho : o = ![p, 0]) : (rowRef o inb hst).view.set = lineSet p (p + 200) := by
  subst ho
  refine (View.set_slice_whole _ _).trans ?_
  ext x
  rw [Rect.mem_set_unit, mem_lineSet]
  constructor
  · intro h; exact h 0
  · intro h b
    match b with
    | ⟨0, _⟩ => exact h
    | ⟨1, _⟩ => exact ⟨Nat.zero_le _, lt_of_lt_of_eq (x 1).isLt (Nat.zero_add _).symm⟩

theorem emb_row {o : Fin 2 → ℕ} {inb hst} {p : ℕ} (ho : o = ![p, 0]) (x : S200x128.Idx) (b : Fin 2) :
    ((rowRef o inb hst).view.emb x b).val = (![p + (x 0).val, (x 1).val] : Fin 2 → ℕ) b := by
  subst ho
  show (![p, 0] : Fin 2 → ℕ) b + 1 * (x b).val = _
  match b with
  | ⟨0, _⟩ => exact show p + 1 * (x 0).val = p + (x 0).val by omega
  | ⟨1, _⟩ => exact show 0 + 1 * (x 1).val = (x 1).val by omega

/-- What the copy of slot `s` to result row `R` leaves: the row's lines in the result, the slot. -/
def Sent (mk : S1024x200.Idx → BitVec 32) (tb : S204800x128.Idx → F .f32) (s R : ℕ) : sProp (MM F) :=
  iprop((oLoc d L ↦[lineSet (200 * R) (200 * R + 200)]{fullShare} (outF mk tb : Buf (Elt F) (oLoc d L)))
    ∗ ∃ f : Buf (Elt F) (rLoc d L), rLoc d L ↦[slotSet s 0 200]{fullShare} f)

theorem run_send {s : Fin 4} {R : ℕ} {mk : S1024x200.Idx → BitVec 32} {tb : S204800x128.Idx → F .f32}
    {o1 : Fin 3 → ℕ} {inb1 hst1 hq1} (h1 : o1 = ![s.val, 0, 0])
    {o2 : Fin 2 → ℕ} {inb2 hst2} (h2 : o2 = ![200 * R, 0])
    {sem sem' : DmaSem sig} (hsem : sem' = sem) {N : ℕ} (hN : (rowRef o2 inb2 hst2).view.amount (.dma sem) = N) (hN0 : 0 < N)
    (f : Buf (Elt F) (rLoc d L)) (hf : Held (F := F) mk tb s R 0 200 f) (fd : Buf (Elt F) (oLoc d L))
    {hsrc hdst hty} {kk : PUnit → PTile F L α} :
    iprop((rLoc d L ↦[slotSet s 0 200]{fullShare} f) ∗ (oLoc d L ↦[lineSet (200 * R) (200 * R + 200)]{fullShare} fd)
        ∗ semVal ((thr d L), SemLoc.dma sem) 0)
      ⊢ iprop((Transfers.Flight countersEmb (thr d L) (.dma sem) (default : HIx 1) N (Sent d L mk tb s R) -∗ Run d L (kk ⟨⟩) Q)
        -∗ Run d L (Prog.lift (.enqueueDma (slotRef 200 o1 inb1 hst1 hq1) (.here (rowRef o2 inb2 hst2)) (.dma sem') hsrc hdst hty) >>= kk) Q) := by
  subst hsem
  have hss : (slotRef 200 o1 inb1 hst1 hq1).view.set = slotSet s 0 200 := set_slot h1
  have hos := set_row (inb := inb2) (hst := hst2) h2
  iintro ⟨Hr, Ho, Hz⟩ Hk
  iapply (Transfers.wp_dmaLocal countersEmb 𝒱₀ (thr d L) none (default : HIx 1) N hN hN0 (Sd := lineSet (200 * R) (200 * R + 200))
    (by rw [hos]) (q := fullShare) (fs := f) (fd := fd)) $$ [Hr Ho Hz]
  · rw [hss]
    isplitl [Hr]; · iexact Hr
    isplitl [Ho]; · iexact Ho
    iexact Hz
  iintro Hfl
  iapply Hk
  iapply (Transfers.Flight_mono countersEmb (thr d L) ?_) $$ Hfl
  rw [hss]
  unfold Sent
  iintro ⟨Ho, Hr⟩
  isplitl [Ho]
  · iapply (Entails.of_eq (pointsTo_congr ?_)) $$ Ho
    intro x hx
    rw [mem_lineSet] at hx
    have hj : (x 0).val - 200 * R < 200 := by omega
    let y : S200x128.Idx := fun b => match b with | ⟨0, _⟩ => ⟨(x 0).val - 200 * R, hj⟩ | ⟨1, _⟩ => x 1
    have ey : (rowRef o2 inb2 hst2).view.emb y = x := by
      funext b
      apply Fin.ext
      refine (emb_row h2 y b).trans ?_
      match b with
      | ⟨0, _⟩ => exact show 200 * R + ((x 0).val - 200 * R) = (x 0).val by omega
      | ⟨1, _⟩ => rfl
    have hw := View.write_emb_of_mem (Val := Elt F) (v := (rowRef o2 inb2 hst2).view) fd
      ((slotRef 200 o1 inb1 hst1 hq1).view.read (Elt F) f) (M := Finset.univ) (Finset.mem_univ y)
    rw [ey] at hw
    refine (hw.trans (cast_eq _ _)).trans ((View.read_apply _ _).trans ((cast_eq _ _).trans ?_))
    have e := emb_slot (inb := inb1) (hst := hst1) (hq := hq1) h1 y
    have e0 := e 0
    have e1 := e 1
    have e2 := e 2
    change _ = s.val at e0
    change _ = 0 + ((x 0).val - 200 * R) at e1
    change _ = (x 1).val at e2
    rw [hf _ (mem_slotSet.2 (by omega))]
    show lineAt mk tb R _ _ = lineAt mk tb ((x 0).val / 200) ((x 0).val % 200) (x 1)
    rw [e1, show (x 0).val / 200 = R by omega, show 0 + ((x 0).val - 200 * R) = (x 0).val % 200 by omega]
    congr 1
    exact Fin.ext e2
  · iexists _; iexact Hr

/-! ## The mask words are fetched -/

/-- The thirty-two rows of the mask a tile fetches. -/
abbrev maskRef (o : Fin 2 → ℕ) (inb : ∀ a, o a + S32x200.size a ≤ S1024x200.size a)
    (hst : ∀ a, (Rect.unit (s := S1024x200) o S32x200.size inb).stride a = 1) : Memref sig .scVector .hbm S32x200 .i32 :=
  (Memref.whole main_v0_scv).slice (Rect.unit (s := S1024x200) o S32x200.size inb) hst

/-- Rows `a` up to `b` of the mask. -/
def maskSet (a b : ℕ) : Finset S1024x200.Idx := Finset.univ.filter fun x => a ≤ (x 0).val ∧ (x 0).val < b

theorem mem_maskSet {a b : ℕ} {x : S1024x200.Idx} : x ∈ maskSet a b ↔ a ≤ (x 0).val ∧ (x 0).val < b := by
  simp [maskSet]

theorem set_mask {o : Fin 2 → ℕ} {inb hst} {p : ℕ} (ho : o = ![p, 0]) : (maskRef o inb hst).view.set = maskSet p (p + 32) := by
  subst ho
  refine (View.set_slice_whole _ _).trans ?_
  ext x
  rw [Rect.mem_set_unit, mem_maskSet]
  constructor
  · intro h; exact h 0
  · intro h b
    match b with
    | ⟨0, _⟩ => exact h
    | ⟨1, _⟩ => exact ⟨Nat.zero_le _, lt_of_lt_of_eq (x 1).isLt (Nat.zero_add _).symm⟩

/-- The fetched words are the mask's rows from `p` on. -/
def Fetched (mk : S1024x200.Idx → BitVec 32) (p : ℕ) (f : S32x200.Idx → BitVec 32) : Prop :=
  ∀ k < 32, maskRow f k = mrow mk (p + k)

/-- What the fetch leaves. -/
def Brought (mk : S1024x200.Idx → BitVec 32) (p : ℕ) : sProp (MM F) :=
  iprop((kLoc d L ↦[maskSet p (p + 32)]{fullShare} (mk : Buf (Elt F) (kLoc d L)))
    ∗ ∃ f : Buf (Elt F) (mLoc d L), ⌜Fetched mk p f⌝ ∗ (mLoc d L ↦{fullShare} f))

theorem run_fetch {p : ℕ} (hp : p + 32 ≤ 1024) {mk : S1024x200.Idx → BitVec 32} {o : Fin 2 → ℕ} {inb hst} (ho : o = ![p, 0])
    {sem : DmaSem sig} {hsrc hdst hty} {kk : PUnit → PTile F L α} :
    iprop((kLoc d L ↦[maskSet p (p + 32)]{fullShare} (mk : Buf (Elt F) (kLoc d L))) ∗ (∃ f : Buf (Elt F) (mLoc d L), mLoc d L ↦{fullShare} f)
        ∗ semVal ((thr d L), SemLoc.dma sem) 0)
      ⊢ iprop((Transfers.Flight countersEmb (thr d L) (.dma sem) (default : HIx 1) (mB).view.dmaCredit (Brought d L mk p) -∗ Run d L (kk ⟨⟩) Q)
        -∗ Run d L (Prog.lift (.enqueueDma (maskRef o inb hst) (.here mB) (.dma sem) hsrc hdst hty) >>= kk) Q) := by
  have hks := set_mask (inb := inb) (hst := hst) ho
  iintro ⟨Hk0, ⟨%f, Hm⟩, Hz⟩ Hk
  iapply (Transfers.wp_dmaLocal countersEmb 𝒱₀ (thr d L) none (default : HIx 1) ((mB).view.dmaCredit) rfl
    (View.dmaCredit_pos _ (by decide)) (Sd := Finset.univ) (Finset.subset_univ _) (q := fullShare) (fs := mk) (fd := f)) $$ [Hk0 Hm Hz]
  · rw [hks]
    isplitl [Hk0]; · iexact Hk0
    isplitl [Hm]; · iexact Hm
    iexact Hz
  iintro Hfl
  iapply Hk
  iapply (Transfers.Flight_mono countersEmb (thr d L) ?_) $$ Hfl
  rw [hks]
  unfold Brought
  iintro ⟨Hm, Hk0⟩
  isplitl [Hk0]; · iexact Hk0
  iexists _
  isplitr
  swap; · iexact Hm
  ipureintro
  intro k hk
  funext j
  rw [maskRow, mrow]
  by_cases hj : j < 200
  · rw [dif_pos ⟨hk, hj⟩, dif_pos ⟨by omega, hj⟩]
    subst ho
    let y : S32x200.Idx := fun a => match a with | ⟨0, _⟩ => ⟨k, hk⟩ | ⟨1, _⟩ => ⟨j, hj⟩
    have hw := View.write_emb_of_mem (Val := Elt F) (v := (mB).view) f ((maskRef ![p, 0] inb hst).view.read (Elt F) mk) (M := Finset.univ) (Finset.mem_univ y)
    refine (hw.trans (cast_eq _ _)).trans ((View.read_apply _ _).trans ((cast_eq _ _).trans ?_))
    show mk _ = mk _
    congr 1
    funext a
    match a with
    | ⟨0, _⟩ => exact Fin.ext (show p + 1 * k = p + k by omega)
    | ⟨1, _⟩ => exact Fin.ext (show 0 + 1 * j = j by omega)
  · rw [dif_neg (by omega), dif_neg (by omega)]

end Cert.Proof.GatherIdealRun
-- ==== Proof.GatherIdealRun.Pipe.lean ====
/-
  The pipeline of a tile: at trip `k` of its loop the lines of row `k` are on their way into slot `k mod 4`, and the
  copies of the three rows before it are on their way to the result.
-/
module

public import proofs.«01_k».proof.Proof.GatherIdealRun.Ring

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

attribute [local irreducible] Idealize.SL.BI.bigSep

variable {F : FTy → Type}

/-! ## What a transfer counts -/

/-- What the gathers of a row's first 128 lines and of its last 72 count, and the copy of a row. -/
def NA : ℕ := (slotRef 128 ![0, 0, 0] inb_S4x200x128_S1x128x128_0_0_0 (fun _ => rfl) squeezes_S1x128x128_S128x128).view.dmaCredit
def NB : ℕ := (slotRef 72 ![0, 128, 0] inb_S4x200x128_S1x72x128_0_128_0 (fun _ => rfl) squeezes_S1x72x128_S72x128).view.dmaCredit
def NW : ℕ := (rowRef ![0, 0] (by decide) (fun _ => rfl)).view.dmaCredit

theorem NW_pos : 0 < NW := View.dmaCredit_pos _ (by decide)

theorem count_A {o : Fin 3 → ℕ} {inb hst hq} (hg : S204800x128.Gathers 0 S128x128) :
    ∑ j, ((slotRef 128 o inb hst hq).slice (S128x128.rowRect hg.axis' j) (fun _ => rfl)).view.dmaCredit = NA := by
  have h : ∀ hg : S204800x128.Gathers 0 S128x128,
      ∑ j, ((slotRef 128 ![0, 0, 0] inb_S4x200x128_S1x128x128_0_0_0 (fun _ => rfl) squeezes_S1x128x128_S128x128).slice
        (S128x128.rowRect hg.axis' j) (fun _ => rfl)).view.dmaCredit = NA := by decide
  exact h hg

theorem count_B {o : Fin 3 → ℕ} {inb hst hq} (hg : S204800x128.Gathers 0 S72x128) :
    ∑ j, ((slotRef 72 o inb hst hq).slice (S72x128.rowRect hg.axis' j) (fun _ => rfl)).view.dmaCredit = NB := by
  have h : ∀ hg : S204800x128.Gathers 0 S72x128,
      ∑ j, ((slotRef 72 ![0, 128, 0] inb_S4x200x128_S1x72x128_0_128_0 (fun _ => rfl) squeezes_S1x72x128_S72x128).slice
        (S72x128.rowRect hg.axis' j) (fun _ => rfl)).view.dmaCredit = NB := by decide
  exact h hg

theorem wait_A {o : Fin 3 → ℕ} {inb hst hq} : (slotRef 128 o inb hst hq).view.dmaCredit = NA := rfl
theorem wait_B {o : Fin 3 → ℕ} {inb hst hq} : (slotRef 72 o inb hst hq).view.dmaCredit = NB := rfl
theorem wait_W {o : Fin 2 → ℕ} {inb hst} : (rowRef o inb hst).view.dmaCredit = NW := rfl

/-! ## Rows of a tile -/

/-- The first of the tile's rows. -/
def row0 (L : grid0.Coords) : ℕ := 64 * (L 1).val + 32 * (L 0).val

theorem row0_le (L : grid0.Coords) : row0 L + 32 ≤ 1024 := by
  have h0 : (L 0).val < 2 := (L 0).isLt
  have h1 : (L 1).val < 16 := (L 1).isLt
  unfold row0
  omega

/-- The same number as the program computes it. -/
def wordOf (L : grid0.Coords) : BitVec 32 :=
  Scalar.muli (Scalar.addi (Scalar.muli (BitVec.ofNat 32 (L 1).val) 2#32) (BitVec.ofNat 32 (L 0).val)) 32#32

theorem base_nat (L : grid0.Coords) (k : Fin k0_t1_loop.trips) : (baseOf (wordOf L) k).toNat = 200 * (row0 L + (k.val + 1)) := by
  have h0 : (L 0).val < 2 := (L 0).isLt
  have h1 : (L 1).val < 16 := (L 1).isLt
  have hk := k_lt k
  have e : (Scf.iv 1#32 1#32 k).toNat = k.val + 1 := by
    revert k; decide
  unfold baseOf wordOf row0
  simp only [Scalar.muli, Scalar.addi, IntOp.muli, IntOp.addi, BitVec.toNat_mul, BitVec.toNat_add, BitVec.toNat_ofNat, e]
  omega

theorem base0_nat (L : grid0.Coords) : (base0 (wordOf L)).toNat = 200 * row0 L := by
  have h0 : (L 0).val < 2 := (L 0).isLt
  have h1 : (L 1).val < 16 := (L 1).isLt
  unfold base0 wordOf row0
  simp only [Scalar.muli, Scalar.addi, IntOp.muli, IntOp.addi, BitVec.toNat_mul, BitVec.toNat_add, BitVec.toNat_ofNat]
  omega

/-- The slot of row `k`. -/
def sl (k : ℕ) : Fin 4 := ⟨k % 4, Nat.mod_lt _ (by decide)⟩

theorem sl_add_four (k : ℕ) : sl (k + 4) = sl k := Fin.ext (by show (k + 4) % 4 = k % 4; omega)

variable [FloatOps F]

theorem rowed_nat {b : ℕ → Prop} [DecidablePred b] {base : BitVec 32} {k R : ℕ} {f : S6656.Idx → BitVec 32} (hb : base.toNat = 200 * R)
    (hR : R < 1024) (h : Rowed (F := F) b base k 13 f) (p : ℕ) (hp : p < 208) : (listAt f (208 * k + p)).toNat = 200 * R + colOf F b p := by
  have hc := colOf_lt (F := F) b p
  rw [h p (by omega), BitVec.toNat_add, BitVec.toNat_ofNat, hb]
  omega

variable (d : Dev nD) (L : grid0.Coords)
variable (mk : S1024x200.Idx → BitVec 32) (tb : S204800x128.Idx → F .f32) (qa qb : Fin 4 → PosShare TreeShare)

abbrev gA (s : Fin 4) : DmaSem sig := semOf cc0_scratch4 s
abbrev gS (s : Fin 4) : DmaSem sig := semOf cc0_scratch5 s
abbrev wS (s : Fin 4) : DmaSem sig := semOf cc0_scratch6 s

/-- The two shares of the table slot `s` goes with. -/
def Shares (s : Fin 4) : sProp (MM F) := iprop((tLoc d L ↦{qa s} tb) ∗ (tLoc d L ↦{qb s} tb))

/-- Slot `s` is free. -/
def Spare (s : Fin 4) : sProp (MM F) :=
  iprop((∃ f : Buf (Elt F) (rLoc d L), rLoc d L ↦[slotSet s 0 200]{fullShare} f)
    ∗ semVal ((thr d L), SemLoc.dma (gA s)) 0 ∗ semVal ((thr d L), SemLoc.dma (gS s)) 0 ∗ semVal ((thr d L), SemLoc.dma (wS s)) 0
    ∗ Shares d L tb qa qb s)

/-- The first lines of row `r` are on their way into slot `s`. -/
def Half (s : Fin 4) (r : ℕ) : sProp (MM F) :=
  iprop(Transfers.Flight countersEmb (thr d L) (.dma (gA s)) (default : HIx 1) NA (Got d L mk tb s (row0 L + r) 0 128 (208 * r) (qa s))
    ∗ (∃ f : Buf (Elt F) (rLoc d L), rLoc d L ↦[slotSet s 128 (128 + 72)]{fullShare} f)
    ∗ semVal ((thr d L), SemLoc.dma (gS s)) 0 ∗ semVal ((thr d L), SemLoc.dma (wS s)) 0 ∗ (tLoc d L ↦{qb s} tb))

/-- The lines of row `r` are on their way into slot `s`. -/
def Bringing (s : Fin 4) (r : ℕ) : sProp (MM F) :=
  iprop(Transfers.Flight countersEmb (thr d L) (.dma (gA s)) (default : HIx 1) NA (Got d L mk tb s (row0 L + r) 0 128 (208 * r) (qa s))
    ∗ Transfers.Flight countersEmb (thr d L) (.dma (gS s)) (default : HIx 1) NB (Got d L mk tb s (row0 L + r) 128 72 (208 * r + 128) (qb s))
    ∗ semVal ((thr d L), SemLoc.dma (wS s)) 0)

/-- Slot `s` holds the lines of row `r`. -/
def Filled (s : Fin 4) (r : ℕ) : sProp (MM F) :=
  iprop((∃ f : Buf (Elt F) (rLoc d L), ⌜Held (F := F) mk tb s (row0 L + r) 0 200 f⌝ ∗ (rLoc d L ↦[slotSet s 0 200]{fullShare} f))
    ∗ semVal ((thr d L), SemLoc.dma (gA s)) 0 ∗ semVal ((thr d L), SemLoc.dma (gS s)) 0 ∗ semVal ((thr d L), SemLoc.dma (wS s)) 0
    ∗ Shares d L tb qa qb s)

/-- Row `r` is on its way from slot `s` to the result. -/
def Sending (s : Fin 4) (r : ℕ) : sProp (MM F) :=
  iprop(Transfers.Flight countersEmb (thr d L) (.dma (wS s)) (default : HIx 1) NW (Sent d L mk tb s (row0 L + r))
    ∗ semVal ((thr d L), SemLoc.dma (gA s)) 0 ∗ semVal ((thr d L), SemLoc.dma (gS s)) 0 ∗ Shares d L tb qa qb s)

/-- The slot of row `s`, which held row `k - j` when there was one. -/
def Busy (s k j : ℕ) : sProp (MM F) := if j ≤ k then Sending d L mk tb qa qb (sl s) (k - j) else Spare d L tb qa qb (sl s)

/-- Row `r` of the tile in the result. -/
def OutRow (r : ℕ) : sProp (MM F) :=
  oLoc d L ↦[lineSet (200 * (row0 L + r)) (200 * (row0 L + r) + 200)]{fullShare} (outF mk tb : Buf (Elt F) (oLoc d L))
def OldRow (r : ℕ) : sProp (MM F) :=
  iprop(∃ f : Buf (Elt F) (oLoc d L), oLoc d L ↦[lineSet (200 * (row0 L + r)) (200 * (row0 L + r) + 200)]{fullShare} f)

/-- The result rows finished before trip `k`, and those not begun. -/
def Finished (k : ℕ) : sProp (MM F) := bigSep (Finset.range (k - 3)) fun r => OutRow d L mk tb r
def Waiting (k : ℕ) : sProp (MM F) := bigSep (Finset.Ico k 32) fun r => OldRow (F := F) d L r

theorem finished_step {k : ℕ} (h : 3 ≤ k) : iprop(OutRow d L mk tb (k - 3) ∗ Finished d L mk tb k) ⊢ Finished d L mk tb (k + 1) := by
  unfold Finished
  rw [show k + 1 - 3 = (k - 3) + 1 by omega, Finset.range_add_one, bigSep_insert Finset.notMem_range_self]
  exact Entails.refl _

theorem finished_same {k : ℕ} (h : k < 3) : Finished d L mk tb k = Finished d L mk tb (k + 1) := by
  unfold Finished
  rw [show k + 1 - 3 = k - 3 by omega]

theorem waiting_step {k : ℕ} (h : k < 32) : Waiting (F := F) d L k ⊢ iprop(OldRow (F := F) d L k ∗ Waiting (F := F) d L (k + 1)) := by
  unfold Waiting
  rw [← Finset.insert_Ico_add_one_left_eq_Ico h, bigSep_insert (by simp)]
  exact Entails.refl _

/-! ## The list of table rows, split -/

/-- The lists of row `r` a gather holds. -/
abbrev lists (r : ℕ) : Finset S6656.Idx := span (208 * r) (208 * r + 200)

theorem slot_split (s : ℕ) : slotSet s 0 200 = slotSet s 0 (0 + 128) ∪ slotSet s 128 (128 + 72) := by
  ext x
  simp only [Finset.mem_union, mem_slotSet]
  omega

theorem slot_disj (s : ℕ) : Disjoint (slotSet s 0 (0 + 128)) (slotSet s 128 (128 + 72)) := by
  rw [Finset.disjoint_left]
  intro x
  simp only [mem_slotSet]
  omega

/-- The two halves of a slot are the slot. -/
theorem fill {s : Fin 4} {R : ℕ} :
    (iprop((∃ f : Buf (Elt F) (rLoc d L), ⌜Held (F := F) mk tb s R 0 (0 + 128) f⌝ ∗ (rLoc d L ↦[slotSet s 0 (0 + 128)]{fullShare} f))
        ∗ (∃ f : Buf (Elt F) (rLoc d L), ⌜Held (F := F) mk tb s R 128 (128 + 72) f⌝ ∗ (rLoc d L ↦[slotSet s 128 (128 + 72)]{fullShare} f))) : sProp (MM F))
      ⊢ iprop(∃ f : Buf (Elt F) (rLoc d L), ⌜Held (F := F) mk tb s R 0 200 f⌝ ∗ (rLoc d L ↦[slotSet s 0 200]{fullShare} f)) := by
  iintro ⟨⟨%f, %hf, Hf⟩, ⟨%g, %hg, Hg⟩⟩
  rw [slot_split]
  ihave H := (show (iprop((rLoc d L ↦[slotSet s 0 (0 + 128)]{fullShare} f) ∗ (rLoc d L ↦[slotSet s 128 (128 + 72)]{fullShare} g)) : sProp (MM F))
      ⊢ _ from pointsTo_join (slot_disj s)) $$ [Hf Hg]
  · isplitl [Hf]; · iexact Hf
    iexact Hg
  iexists _
  isplitr
  swap; · iexact H
  ipureintro
  intro x hx
  by_cases h : x ∈ slotSet s 128 (128 + 72)
  · rw [Finset.piecewise_eq_of_mem _ _ _ h]
    exact hg x h
  · rw [Finset.piecewise_eq_of_notMem _ _ _ h]
    refine hf x ?_
    rw [mem_slotSet] at hx h ⊢
    omega

theorem halve {s : Fin 4} :
    (iprop(∃ f : Buf (Elt F) (rLoc d L), rLoc d L ↦[slotSet s 0 200]{fullShare} f) : sProp (MM F))
      ⊢ iprop((∃ f : Buf (Elt F) (rLoc d L), rLoc d L ↦[slotSet s 0 (0 + 128)]{fullShare} f)
        ∗ (∃ f : Buf (Elt F) (rLoc d L), rLoc d L ↦[slotSet s 128 (128 + 72)]{fullShare} f)) := by
  iintro ⟨%f, Hf⟩
  rw [slot_split]
  ihave H := (show ((rLoc d L ↦[slotSet s 0 (0 + 128) ∪ slotSet s 128 (128 + 72)]{fullShare} f) : sProp (MM F))
      ⊢ _ from (pointsTo_union (slot_disj s)).1) $$ Hf
  icases H with ⟨H1, H2⟩
  isplitl [H1]
  · iexists _; iexact H1
  · iexists _; iexact H2

end Cert.Proof.GatherIdealRun
-- ==== Proof.GatherIdealRun.Trip.lean ====
/-
  One trip of a tile's loop.
-/
module

public import proofs.«01_k».proof.Proof.GatherIdealRun.Pipe

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

attribute [local irreducible] Idealize.SL.BI.bigSep

variable {F : FTy → Type} [FloatOps F] (d : Dev nD) (L : grid0.Coords)
variable (mk : S1024x200.Idx → BitVec 32) (tb : S204800x128.Idx → F .f32) (qa qb : Fin 4 → PosShare TreeShare)
variable (O : CellTallies nD τ sig (HIx 1)) (W : Waits sig (HIx 1))
variable (k : Fin k0_t1_loop.trips)

theorem cond_iff : ∀ k : Fin k0_t1_loop.trips, k0_cond1 k = 1#1 ↔ 3 ≤ k.val := by decide

/-- The list with row `k`'s places held by its gathers. -/
abbrev Sk (k : ℕ) : Finset S6656.Idx := Finset.univ \ lists k

theorem Sk_has (k : ℕ) (x : S6656.Idx) (hx : x ∈ span (208 * (k + 1)) (208 * (k + 1) + 208)) : x ∈ Sk k := by
  rw [Finset.mem_sdiff]
  refine ⟨Finset.mem_univ _, ?_⟩
  rw [mem_span] at hx ⊢
  omega

theorem span_sub (k : ℕ) : span (208 * (k + 1)) (208 * (k + 1) + 128) ⊆ Sk k := by
  intro x hx
  refine Sk_has k x ?_
  rw [mem_span] at hx ⊢
  omega

theorem span_sub' (k : ℕ) : span (208 * (k + 1) + 128) (208 * (k + 1) + 128 + 72) ⊆ Sk k \ span (208 * (k + 1)) (208 * (k + 1) + 128) := by
  intro x hx
  rw [Finset.mem_sdiff]
  rw [mem_span] at hx
  refine ⟨Sk_has k x ?_, ?_⟩ <;> rw [mem_span] <;> omega

theorem lists_disj (k : ℕ) : Disjoint (span (208 * k) (208 * k + 128)) (span (208 * k + 128) (208 * k + 128 + 72)) := by
  rw [Finset.disjoint_left]
  intro x
  simp only [mem_span]
  omega

theorem lists_disj' (k : ℕ) : Disjoint ((Sk k \ span (208 * (k + 1)) (208 * (k + 1) + 128)) \ span (208 * (k + 1) + 128) (208 * (k + 1) + 128 + 72))
    (span (208 * k) (208 * k + 128) ∪ span (208 * k + 128) (208 * k + 128 + 72)) := by
  rw [Finset.disjoint_left]
  intro x hx hy
  rw [Finset.mem_sdiff, Finset.mem_sdiff, Finset.mem_sdiff, mem_span] at hx
  rw [Finset.mem_union, mem_span, mem_span] at hy
  omega

/-- The part of the list no gather holds once row `k`'s lines have come. -/
theorem list_back (k : ℕ) :
    (iprop((∃ f : Buf (Elt F) (gLoc d L), gLoc d L ↦[(Sk k \ span (208 * (k + 1)) (208 * (k + 1) + 128)) \ span (208 * (k + 1) + 128) (208 * (k + 1) + 128 + 72)]{fullShare} f)
        ∗ (∃ f : Buf (Elt F) (gLoc d L), gLoc d L ↦[span (208 * k) (208 * k + 128)]{fullShare} f)
        ∗ (∃ f : Buf (Elt F) (gLoc d L), gLoc d L ↦[span (208 * k + 128) (208 * k + 128 + 72)]{fullShare} f)) : sProp (MM F))
      ⊢ iprop(∃ f : Buf (Elt F) (gLoc d L), gLoc d L ↦[Sk (k + 1)]{fullShare} f) := by
  iintro ⟨⟨%f, Hf⟩, ⟨%g, Hg⟩, ⟨%h, Hh⟩⟩
  ihave H := (show (iprop((gLoc d L ↦[span (208 * k) (208 * k + 128)]{fullShare} g) ∗ (gLoc d L ↦[span (208 * k + 128) (208 * k + 128 + 72)]{fullShare} h)) : sProp (MM F))
      ⊢ _ from pointsTo_join (lists_disj k)) $$ [Hg Hh]
  · isplitl [Hg]; · iexact Hg
    iexact Hh
  ihave H := (show (iprop((gLoc d L ↦[(Sk k \ span (208 * (k + 1)) (208 * (k + 1) + 128)) \ span (208 * (k + 1) + 128) (208 * (k + 1) + 128 + 72)]{fullShare} f)
      ∗ (gLoc d L ↦[span (208 * k) (208 * k + 128) ∪ span (208 * k + 128) (208 * k + 128 + 72)]{fullShare}
        ((span (208 * k + 128) (208 * k + 128 + 72)).piecewise h g))) : sProp (MM F)) ⊢ _ from pointsTo_join (lists_disj' k)) $$ [Hf H]
  · isplitl [Hf]; · iexact Hf
    iexact H
  iexists _
  have e : ((Sk k \ span (208 * (k + 1)) (208 * (k + 1) + 128)) \ span (208 * (k + 1) + 128) (208 * (k + 1) + 128 + 72))
      ∪ (span (208 * k) (208 * k + 128) ∪ span (208 * k + 128) (208 * k + 128 + 72)) = Sk (k + 1) := by
    ext x
    simp only [Finset.mem_sdiff, Finset.mem_union, Finset.mem_univ, mem_span, _root_.true_and]
    omega
  rw [← e]
  iexact H

theorem row_lt : row0 L + (k.val + 1) < 1024 := by
  have := row0_le L
  have := k_lt k
  omega

/-- The places row `k + 1`'s lines have in the list hold the rows of the table the gathers are to bring. -/
theorem row_lines {fm : Buf (Elt F) (mLoc d L)} (hfm : Fetched mk (row0 L) fm) {fo : S6656.Idx → BitVec 32}
    (hfo : Rowed (F := F) (bit (maskRow fm (k + 1))) (baseOf (wordOf L) k) (k + 1) 13 fo) (p : ℕ) (hp : p < 208) :
    (listAt fo (208 * (k + 1) + p)).toNat = 200 * (row0 L + (k + 1)) + colOf F (bit (mrow mk (row0 L + (k + 1)))) p := by
  rw [rowed_nat (base_nat L k) (row_lt L k) hfo p hp, hfm (k + 1) (k_lt k)]

variable {α : Type} {Q : α → sProp (MM F)}

/-- Before a slot is used again the copy out of it, if there was one, is waited for. -/
theorem run_reuse {p : PTile F L α} :
    iprop(Busy d L mk tb qa qb (k + 1) k 3 ∗ Finished d L mk tb k ∗ Ow d L O W)
      ⊢ iprop((Spare d L tb qa qb (sl (k + 1)) ∗ Finished d L mk tb (k + 1) ∗ Ow d L O W -∗ Run d L p Q)
        -∗ Run d L (if h : k0_cond1 k = 1#1 then
            Prog.lift (.waitDma2 ((cc0_scratch6.slice (Rect.unit (s := S4) (k0_off30 k) S1.size (k0_off30_inb k h))).squeeze S_ squeezes_S1_S_).sem
              (slotRef 200 (k0_off28 k) (k0_off28_inb k h) (fun _ => rfl) squeezes_S1x200x128_S200x128)
              (rowRef (k0_off29 L) (k0_off29_inb L k h) (fun _ => rfl)) ((View.wordExact_bits rfl).reshape _ _) (View.wordExact_bits rfl)) >>= fun _ => p
          else p) Q) := by
  have hc := cond_iff k
  unfold Busy
  by_cases h : k0_cond1 k = 1#1
  · rw [dif_pos h, if_pos (hc.1 h)]
    unfold Sending
    iintro ⟨⟨Hfl, Ha, Hs, Ht⟩, Hf, Hw⟩ Hk
    iapply (run_await d L (O := O) (W := W) (N := NW) (Dv := Sent d L mk tb (sl (k + 1)) (row0 L + (k - 3))) (sem := wS (sl (k + 1)))
      (sem_at cc0_scratch6 (sl (k + 1)) (k0_off30_eq k)) wait_W) $$ [Hfl Hw]
    · isplitl [Hfl]
      · iexact Hfl
      iexact Hw
    unfold Sent
    iintro ⟨⟨Ho, Hr⟩, Hz, Hw⟩
    iapply Hk
    isplitl [Hr Ha Hs Hz Ht]
    · unfold Spare
      isplitl [Hr]; · iexact Hr
      isplitl [Ha]; · iexact Ha
      isplitl [Hs]; · iexact Hs
      isplitl [Hz]; · iexact Hz
      iexact Ht
    isplitr [Hw]
    · iapply (finished_step d L mk tb (hc.1 h)) $$ [Ho Hf]
      isplitl [Ho]
      · unfold OutRow
        iexact Ho
      · iexact Hf
    · iexact Hw
  · have h3 : ¬ 3 ≤ k.val := fun e => h (hc.2 e)
    rw [dif_neg h, if_neg h3, finished_same d L mk tb (by omega)]
    iintro ⟨Hb, Hf, Hw⟩ Hk
    iapply Hk
    isplitl [Hb]; · iexact Hb
    isplitl [Hf]; · iexact Hf
    iexact Hw

theorem run_part11 {fm : Buf (Elt F) (mLoc d L)} (hfm : Fetched mk (row0 L) fm) {Q : PUnit → sProp (MM F)} :
    iprop(Done d L (maskRow fm (k + 1)) ∗ Lines d L (maskRow fm (k + 1)) (baseOf (wordOf L) k) (k + 1) (Sk k) 11
        ∗ Busy d L mk tb qa qb (k + 1) k 3 ∗ Finished d L mk tb k ∗ Ow d L O W)
      ⊢ iprop((Done d L (maskRow fm (k + 1))
          ∗ Lines d L (maskRow fm (k + 1)) (baseOf (wordOf L) k) (k + 1) (Sk k \ span (208 * (k + 1)) (208 * (k + 1) + 128)) 13
          ∗ Half d L mk tb qa qb (sl (k + 1)) (k + 1) ∗ Finished d L mk tb (k + 1) ∗ Ow d L O W -∗ Q ⟨⟩)
        -∗ Run d L (k0_part11 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          (wordOf L) lane zeros ones k (Scf.iv 1#32 1#32 k) (nvOf F (maskRow fm (k + 1))) (broadcast L16 (baseOf (wordOf L) k))
          (recip (F := F) (nvOf F (maskRow fm (k + 1)))) shift laneF
          (spot (F := F) (nvOf F (maskRow fm (k + 1))) (colF 11) (BitVec.ofNat 32 (16 * 11)))
          (spot_inb (F := F) (bit (maskRow fm (k + 1))) (nvOf_eq (maskRow fm (k + 1))) (cst := colF 11) (first := BitVec.ofNat 32 (16 * 11)) rfl)) Q) := by
  rw [k0_part11_eq_skeleton]
  unfold k0_part11_skel
  iintro ⟨Hc, Hg, Hb, Hf, Hw⟩ Hk
  iapply (run_line d L (r := maskRow fm (k + 1)) (base := baseOf (wordOf L) k) 11 (by decide) (k_lt k) (Sk_has k) rfl (fun _ => rfl) (k0_off26_eq k) (by omega)) $$ [Hc Hg]
  · isplitl [Hc]
    · iexact Hc
    · iexact Hg
  iintro ⟨Hc, Hg⟩
  iapply (run_assume d L (spot_inb (F := F) (bit (maskRow fm (k + 1))) (nvOf_eq (maskRow fm (k + 1))) (cst := colF 12) (first := BitVec.ofNat 32 (16 * 12)) rfl))
  iapply (run_line d L (r := maskRow fm (k + 1)) (base := baseOf (wordOf L) k) 12 (by decide) (k_lt k) (Sk_has k) rfl (fun _ => rfl) (k0_off27_eq k) (by omega)) $$ [Hc Hg]
  · isplitl [Hc]
    · iexact Hc
    · iexact Hg
  iintro ⟨Hc, Hg⟩
  iapply (run_reuse d L mk tb qa qb O W k) $$ [Hb Hf Hw]
  · isplitl [Hb]; · iexact Hb
    isplitl [Hf]; · iexact Hf
    iexact Hw
  iintro ⟨Hs, Hf, Hw⟩
  unfold Spare Shares
  icases Hs with ⟨Hr, Ha, Hs, Hz, Hta, Htb⟩
  ihave Hr := (halve d L) $$ Hr
  icases Hr with ⟨Hr, Hr'⟩
  unfold Lines
  icases Hg with ⟨%fo, %hfo, Hg⟩
  ihave Hg := (pointsTo_split_subset (span_sub k)).1 $$ Hg
  icases Hg with ⟨Hg, Hg'⟩
  iapply (run_gather d L (by decide) (s := sl (k + 1)) (a := 0) (R := row0 L + (k + 1)) (p := 208 * (k + 1)) (mk := mk) (tb := tb) (q := qa (sl (k + 1)))
    (b := bit (mrow mk (row0 L + (k + 1)))) (k0_off31_eq k) (k0_off32_eq k) (sem := gA (sl (k + 1))) (sem_at cc0_scratch4 (sl (k + 1)) (k0_off33_eq k))
    (count_A _) fo (fun j hj => by rw [row_lines d L mk k hfm hfo j (by omega), Nat.zero_add]) (row_lt L k)) $$ [Hta Hr Hg Ha]
  · isplitl [Hta]; · iexact Hta
    isplitl [Hr]; · iexact Hr
    isplitl [Hg]; · iexact Hg
    iexact Ha
  iintro Hfl
  iapply (run_ret (Q := Q) d L ⟨⟩ rfl)
  iapply Hk
  isplitl [Hc]; · iexact Hc
  isplitl [Hg']
  · iexists fo
    isplitr
    · ipureintro; exact hfo
    · iexact Hg'
  unfold Half
  isplitr [Hf Hw]
  · isplitl [Hfl]; · iexact Hfl
    isplitl [Hr']; · iexact Hr'
    isplitl [Hs]; · iexact Hs
    isplitl [Hz]; · iexact Hz
    iexact Htb
  isplitl [Hf]; · iexact Hf
  iexact Hw

theorem run_part12 {fm : Buf (Elt F) (mLoc d L)} (hfm : Fetched mk (row0 L) fm) {Q : PUnit → sProp (MM F)} :
    iprop(Lines d L (maskRow fm (k + 1)) (baseOf (wordOf L) k) (k + 1) (Sk k \ span (208 * (k + 1)) (208 * (k + 1) + 128)) 13
        ∗ Half d L mk tb qa qb (sl (k + 1)) (k + 1) ∗ Bringing d L mk tb qa qb (sl k) k ∗ Ow d L O W)
      ⊢ iprop(((∃ f : Buf (Elt F) (gLoc d L), gLoc d L ↦[Sk (k + 1)]{fullShare} f)
          ∗ Bringing d L mk tb qa qb (sl (k + 1)) (k + 1) ∗ Filled d L mk tb qa qb (sl k) k ∗ Ow d L O W -∗ Q ⟨⟩)
        -∗ Run d L (k0_part12 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          (wordOf L) k (Scf.iv 1#32 1#32 k)) Q) := by
  rw [k0_part12_eq_skeleton]
  unfold k0_part12_skel Half Bringing
  iintro ⟨Hg, ⟨Hfl, Hr, Hs, Hz, Htb⟩, ⟨Hfa, Hfb, Hz'⟩, Hw⟩ Hk
  unfold Lines
  icases Hg with ⟨%fo, %hfo, Hg⟩
  ihave Hg := (pointsTo_split_subset (span_sub' k)).1 $$ Hg
  icases Hg with ⟨Hg, Hg'⟩
  iapply (run_gather d L (by decide) (s := sl (k + 1)) (a := 128) (R := row0 L + (k + 1)) (p := 208 * (k + 1) + 128) (mk := mk) (tb := tb) (q := qb (sl (k + 1)))
    (b := bit (mrow mk (row0 L + (k + 1)))) (k0_off34_eq k) (k0_off35_eq k) (sem := gS (sl (k + 1))) (sem_at cc0_scratch5 (sl (k + 1)) (k0_off33_eq k))
    (count_B _) fo (fun j hj => by rw [Nat.add_assoc, row_lines d L mk k hfm hfo _ (by omega)]) (row_lt L k)) $$ [Htb Hr Hg Hs]
  · isplitl [Htb]; · iexact Htb
    isplitl [Hr]; · iexact Hr
    isplitl [Hg]; · iexact Hg
    iexact Hs
  iintro Hfl'
  iapply (run_await d L (O := O) (W := W) (N := NA) (Dv := Got d L mk tb (sl k) (row0 L + k) 0 128 (208 * k) (qa (sl k))) (sem := gA (sl k))
      (sem_at cc0_scratch4 (sl k) (k0_off38_eq k)) wait_A) $$ [Hfa Hw]
  · isplitl [Hfa]; · iexact Hfa
    iexact Hw
  iintro ⟨HA, Hza, Hw⟩
  iapply (run_await d L (O := O) (W := W) (N := NB) (Dv := Got d L mk tb (sl k) (row0 L + k) 128 72 (208 * k + 128) (qb (sl k))) (sem := gS (sl k))
      (sem_at cc0_scratch5 (sl k) (k0_off38_eq k)) wait_B) $$ [Hfb Hw]
  · isplitl [Hfb]; · iexact Hfb
    iexact Hw
  iintro ⟨HB, Hzb, Hw⟩
  iapply (run_ret (Q := Q) d L ⟨⟩ rfl)
  unfold Got
  icases HA with ⟨Hra, Hta, Hga⟩
  icases HB with ⟨Hrb, Htb, Hgb⟩
  iapply Hk
  isplitl [Hg' Hga Hgb]
  · iapply (list_back d L k) $$ [Hg' Hga Hgb]
    isplitl [Hg']
    · iexists fo; iexact Hg'
    isplitl [Hga]; · iexact Hga
    iexact Hgb
  isplitl [Hfl Hfl' Hz]
  · isplitl [Hfl]; · iexact Hfl
    isplitl [Hfl']; · iexact Hfl'
    iexact Hz
  isplitr [Hw]
  · unfold Filled Shares
    isplitl [Hra Hrb]
    · iapply (fill d L mk tb) $$ [Hra Hrb]
      isplitl [Hra]; · iexact Hra
      iexact Hrb
    isplitl [Hza]; · iexact Hza
    isplitl [Hzb]; · iexact Hzb
    isplitl [Hz']; · iexact Hz'
    isplitl [Hta]; · iexact Hta
    iexact Htb
  iexact Hw

end Cert.Proof.GatherIdealRun
-- ==== Proof.GatherIdealRun.Loop.lean ====
/-
  The loop of a tile: what holds before each trip, and that a trip keeps it.
-/
module

public import proofs.«01_k».proof.Proof.GatherIdealRun.Trip

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

attribute [local irreducible] Idealize.SL.BI.bigSep

variable {F : FTy → Type} [FloatOps F] (d : Dev nD) (L : grid0.Coords)
variable (mk : S1024x200.Idx → BitVec 32) (tb : S204800x128.Idx → F .f32) (qa qb : Fin 4 → PosShare TreeShare)
variable (O : CellTallies nD τ sig (HIx 1)) (W : Waits sig (HIx 1))
variable (k : Fin k0_t1_loop.trips)

variable {fm : Buf (Elt F) (mLoc d L)}

theorem run_bind {α β : Type} {p : PTile F L α} {kk : α → PTile F L β} {Q : β → sProp (MM F)} :
    Run d L p (fun a => Run d L (kk a) Q) ⊢ Run d L (p >>= kk) Q := by
  unfold Run
  rw [wp_bind]

/-- What holds before trip `k`. -/
def Inv (fm : Buf (Elt F) (mLoc d L)) (k : ℕ) : sProp (MM F) :=
  iprop((mLoc d L ↦{fullShare} fm) ∗ (∃ g : Buf (Elt F) (cLoc d L), cLoc d L ↦{fullShare} g)
    ∗ (∃ f : Buf (Elt F) (gLoc d L), gLoc d L ↦[Sk k]{fullShare} f) ∗ Bringing d L mk tb qa qb (sl k) k
    ∗ Busy d L mk tb qa qb (k + 1) k 3 ∗ Busy d L mk tb qa qb (k + 2) k 2 ∗ Busy d L mk tb qa qb (k + 3) k 1
    ∗ Finished d L mk tb k ∗ Waiting (F := F) d L k ∗ Ow d L O W)

theorem busy_next (s k j : ℕ) : Busy d L mk tb qa qb s k j = Busy d L mk tb qa qb s (k + 1) (j + 1) := by
  unfold Busy
  rw [Nat.add_sub_add_right]
  simp only [Nat.add_le_add_iff_right]

theorem busy_first (k : ℕ) : Sending d L mk tb qa qb (sl k) k = Busy d L mk tb qa qb (k + 4) (k + 1) 1 := by
  unfold Busy
  rw [if_pos (by omega), sl_add_four, Nat.add_sub_cancel]

theorem done_lists {r : ℕ → BitVec 32} : Done (F := F) d L r ⊢ iprop(∃ g : Buf (Elt F) (cLoc d L), cLoc d L ↦{fullShare} g) := by
  unfold Done
  iintro ⟨%g, _, H⟩
  iexists g
  iexact H

/-- A row is sent from its slot to the result. -/
theorem run_send_row {α : Type} {Q : α → sProp (MM F)} (r : ℕ) {o1 : Fin 3 → ℕ} {inb1 hst1 hq1} (h1 : o1 = ![(sl r).val, 0, 0])
    {o2 : Fin 2 → ℕ} {inb2 hst2} (h2 : o2 = ![200 * (row0 L + r), 0])
    {sem' : DmaSem sig} (hsem : sem' = wS (sl r)) {hsrc hdst hty} {kk : PUnit → PTile F L α} :
    iprop(Filled d L mk tb qa qb (sl r) r ∗ OldRow (F := F) d L r)
      ⊢ iprop((Sending d L mk tb qa qb (sl r) r -∗ Run d L (kk ⟨⟩) Q)
        -∗ Run d L (Prog.lift (.enqueueDma (slotRef 200 o1 inb1 hst1 hq1) (.here (rowRef o2 inb2 hst2)) (.dma sem') hsrc hdst hty) >>= kk) Q) := by
  unfold Filled OldRow
  iintro ⟨⟨⟨%f, %hf, Hr⟩, Ha, Hs, Hz, Ht⟩, ⟨%fd, Ho⟩⟩ Hk
  iapply (run_send d L (s := sl r) (R := row0 L + r) (mk := mk) (tb := tb) h1 h2 (sem := wS (sl r)) hsem (N := NW) wait_W NW_pos f hf fd) $$ [Hr Ho Hz]
  · isplitl [Hr]; · iexact Hr
    isplitl [Ho]; · iexact Ho
    iexact Hz
  iintro Hfl
  iapply Hk
  unfold Sending
  isplitl [Hfl]; · iexact Hfl
  isplitl [Ha]; · iexact Ha
  isplitl [Hs]; · iexact Hs
  iexact Ht

theorem run_body (hfm : Fetched mk (row0 L) fm) (v231 v234 v424 : IVec S16 32) (u : Unit) :
    Inv d L mk tb qa qb O W fm k ⊢ Run d L (k0_t1_body L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          (wordOf L) lane zeros ones v231 v234 v424 k u) (fun _ => Inv d L mk tb qa qb O W fm (k + 1)) := by
  unfold Inv k0_t1_body
  iintro ⟨Hm, Hc, Hg, Hb, H1, H2, H3, Hf, Hwt, Hw⟩
  iapply (run_bind d L)
  iapply (run_part1 d L k) $$ [Hm Hc]
  · isplitl [Hm]; · iexact Hm
    iexact Hc
  iintro ⟨Hm, Hc⟩
  iapply (run_bind d L)
  iapply (run_part2 d L k) $$ [Hm Hc]
  · isplitl [Hm]; · iexact Hm
    iexact Hc
  iintro ⟨Hm, Hc⟩
  iapply (run_bind d L)
  iapply (run_part3 d L k) $$ [Hm Hc]
  · isplitl [Hm]; · iexact Hm
    iexact Hc
  iintro ⟨Hm, Hc⟩
  iapply (run_bind d L)
  iapply (run_part4 d L k) $$ [Hm Hc]
  · isplitl [Hm]; · iexact Hm
    iexact Hc
  iintro ⟨Hm, Hc⟩
  iapply (run_bind d L)
  iapply (run_part5 d L k) $$ [Hm Hc]
  · isplitl [Hm]; · iexact Hm
    iexact Hc
  iintro ⟨Hm, Hc⟩
  ihave Hg := (lines_zero d L (maskRow fm (k + 1)) (baseOf (wordOf L) k) (k + 1) (Sk k)) $$ Hg
  iapply (run_bind d L)
  iapply (run_part6 d L k (wordOf L) (Sk_has k)) $$ [Hc Hg]
  · isplitl [Hc]; · iexact Hc
    iexact Hg
  iintro ⟨Hc, Hg⟩
  iapply (run_bind d L)
  iapply (run_part7 d L k (wordOf L) (Sk_has k)) $$ [Hc Hg]
  · isplitl [Hc]; · iexact Hc
    iexact Hg
  iintro ⟨Hc, Hg⟩
  iapply (run_bind d L)
  iapply (run_part8 d L k (wordOf L) (Sk_has k)) $$ [Hc Hg]
  · isplitl [Hc]; · iexact Hc
    iexact Hg
  iintro ⟨Hc, Hg⟩
  iapply (run_bind d L)
  iapply (run_part9 d L k (wordOf L) (Sk_has k)) $$ [Hc Hg]
  · isplitl [Hc]; · iexact Hc
    iexact Hg
  iintro ⟨Hc, Hg⟩
  iapply (run_bind d L)
  iapply (run_part10 d L k (wordOf L) (Sk_has k)) $$ [Hc Hg]
  · isplitl [Hc]; · iexact Hc
    iexact Hg
  iintro ⟨Hc, Hg⟩
  iapply (run_bind d L)
  iapply (run_part11 d L mk tb qa qb O W k hfm) $$ [Hc Hg H1 Hf Hw]
  · isplitl [Hc]; · iexact Hc
    isplitl [Hg]; · iexact Hg
    isplitl [H1]; · iexact H1
    isplitl [Hf]; · iexact Hf
    iexact Hw
  iintro ⟨Hc, Hg, Hh, Hf, Hw⟩
  iapply (run_bind d L)
  iapply (run_part12 d L mk tb qa qb O W k hfm) $$ [Hg Hh Hb Hw]
  · isplitl [Hg]; · iexact Hg
    isplitl [Hh]; · iexact Hh
    isplitl [Hb]; · iexact Hb
    iexact Hw
  iintro ⟨Hg, Hb, Hfull, Hw⟩
  ihave Hwt := (waiting_step (F := F) d L (Nat.lt_of_succ_lt (k_lt k))) $$ Hwt
  icases Hwt with ⟨Ho, Hwt⟩
  iapply (run_send_row d L mk tb qa qb k (k0_off41_eq k) ((k0_off42_eq L k).trans (by unfold row0; congr 1; omega)) (sem_at cc0_scratch6 (sl k) (k0_off38_eq k))) $$ [Hfull Ho]
  · isplitl [Hfull]; · iexact Hfull
    iexact Ho
  iintro Hs
  iapply (run_ret d L ⟨⟩ rfl)
  isplitl [Hm]; · iexact Hm
  isplitl [Hc]
  · iapply (done_lists d L) $$ Hc
  isplitl [Hg]; · iexact Hg
  isplitl [Hb]; · iexact Hb
  rw [← busy_first]
  rw [← busy_next, ← busy_next]
  isplitl [H2]; · iexact H2
  isplitl [H3]; · iexact H3
  isplitl [Hs]; · iexact Hs
  isplitl [Hf]; · iexact Hf
  isplitl [Hwt]; · iexact Hwt
  iexact Hw

end Cert.Proof.GatherIdealRun
-- ==== Proof.GatherIdealRun.Tile.lean ====
/-
  A tile's program.
-/
module

public import proofs.«01_k».proof.Proof.GatherIdealRun.Loop

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

attribute [local irreducible] Idealize.SL.BI.bigSep

variable {F : FTy → Type} [FloatOps F] (d : Dev nD) (L : grid0.Coords)
variable (mk : S1024x200.Idx → BitVec 32) (tb : S204800x128.Idx → F .f32) (qa qb : Fin 4 → PosShare TreeShare)
variable (O : CellTallies nD τ sig (HIx 1)) (W : Waits sig (HIx 1))

/-- The tile's rows of the mask. -/
abbrev Mask : sProp (MM F) := kLoc d L ↦[maskSet (row0 L) (row0 L + 32)]{fullShare} (mk : Buf (Elt F) (kLoc d L))

theorem run_part13 {Q : (Σ' (_ : BitVec 32) (_ : IVec S16 32) (_ : IVec S16 32) (_ : IVec S16 32) (_ : IVec S16 32) (_ : IVec S16 1) (_ : IVec S16 32) (_ : IVec S16 32), BitVec 1) → sProp (MM F)} :
    iprop(Mask (F := F) d L mk ∗ (∃ f : Buf (Elt F) (mLoc d L), mLoc d L ↦{fullShare} f) ∗ (∃ g : Buf (Elt F) (cLoc d L), cLoc d L ↦{fullShare} g)
        ∗ semVal ((thr d L), SemLoc.dma cc0_scoped0.sem) 0 ∗ Ow d L O W)
      ⊢ iprop((∀ f : Buf (Elt F) (mLoc d L), ⌜Fetched mk (row0 L) f⌝ -∗ (Mask (F := F) d L mk ∗ (mLoc d L ↦{fullShare} f) ∗ Part d L (maskRow f 0) 1
            ∗ semVal ((thr d L), SemLoc.dma cc0_scoped0.sem) 0 ∗ Ow d L O W) -∗
          Q ⟨wordOf L, lane, zeros, ones, carry F (maskRow f 0) 1, vld (F := F) (ldOf (F := F) (maskRow f 0) 16), addi lane (broadcast L16 16#32),
            k0_pay124 (ldOf (F := F) (maskRow f 0) 16), 1#1⟩)
        -∗ Run d L (k0_part13 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0) Q) := by
  rw [k0_part13_eq_skeleton]
  unfold k0_part13_skel
  iintro ⟨Hmk, Hm, Hc, Hz, Hw⟩ Hk
  iapply (run_fetch d L (p := row0 L) (row0_le L) (mk := mk) (k0_off1_eq L)) $$ [Hmk Hm Hz]
  · isplitl [Hmk]; · iexact Hmk
    isplitl [Hm]; · iexact Hm
    iexact Hz
  iintro Hfl
  iapply (run_await d L (O := O) (W := W) (N := (mB).view.dmaCredit) (Dv := Brought d L mk (row0 L)) (sem := cc0_scoped0.sem) rfl rfl) $$ [Hfl Hw]
  · isplitl [Hfl]; · iexact Hfl
    iexact Hw
  unfold Brought
  iintro ⟨⟨Hmk, %f, %hf, Hm⟩, Hz, Hw⟩
  iapply (run_head d L (r := (maskRow f 0))) $$ Hc
  iintro Hc
  iapply (run_ld d L (f := f) 0 0 rfl) $$ Hm
  iintro Hm
  iapply (run_assume d L (full_inb (F := F) (maskRow f 0) 0 (by decide) rfl))
  iapply (run_chunk d L 0 (by decide) rfl rfl) $$ Hc
  iintro Hc
  iapply (run_ld d L (f := f) 0 16 rfl) $$ Hm
  iintro Hm
  iapply (run_ret (Q := Q) d L ⟨wordOf L, lane, zeros, ones, carry F (maskRow f 0) 1, vld (F := F) (ldOf (F := F) (maskRow f 0) 16), addi lane (broadcast L16 16#32),
            k0_pay124 (ldOf (F := F) (maskRow f 0) 16), 1#1⟩ rfl)
  iapply Hk $$ %f
  · ipureintro; exact hf
  isplitl [Hmk]; · iexact Hmk
  isplitl [Hm]; · iexact Hm
  isplitl [Hc]; · iexact Hc
  isplitl [Hz]; · iexact Hz
  iexact Hw

theorem head_list : (Finset.univ \ span (208 * 0) (208 * 0 + 128)) \ span (208 * 0 + 128) (208 * 0 + 128 + 72) = Sk 0 := by
  ext x
  simp only [Finset.mem_sdiff, Finset.mem_univ, _root_.true_and, mem_span]
  omega

theorem head_sub : span (208 * 0 + 128) (208 * 0 + 128 + 72) ⊆ Finset.univ \ span (208 * 0) (208 * 0 + 128) := by
  intro x hx
  rw [mem_span] at hx
  rw [Finset.mem_sdiff, mem_span]
  exact ⟨Finset.mem_univ x, by omega⟩

theorem run_part23 {fm : Buf (Elt F) (mLoc d L)} (hfm : Fetched mk (row0 L) fm) {r : ℕ → BitVec 32} (hr : r = maskRow fm 0) {v2 : BitVec 32} (hv : v2 = wordOf L) {Q : PUnit → sProp (MM F)} :
    iprop((mLoc d L ↦{fullShare} fm) ∗ Done d L r ∗ Lines d L r (base0 v2) 0 Finset.univ 12
        ∗ Spare d L tb qa qb (sl 0) ∗ Spare d L tb qa qb (sl 1) ∗ Spare d L tb qa qb (sl 2) ∗ Spare d L tb qa qb (sl 3)
        ∗ Waiting (F := F) d L 0 ∗ Ow d L O W)
      ⊢ iprop((Inv d L mk tb qa qb O W fm 31 -∗ Q ⟨⟩)
        -∗ Run d L (k0_part23 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          v2 lane zeros ones (nvOf F r) (broadcast L16 (base0 v2)) (quot (F := F) r 12)) Q) := by
  rw [k0_part23_eq_skeleton]
  unfold k0_part23_skel
  iintro ⟨Hm, Hc, Hg, H0, H1, H2, H3, Hwt, Hw⟩ Hk
  iapply (run_assume d L (spot_inb (F := F) (bit r) (nvOf_eq r) (cst := colF 12) (first := BitVec.ofNat 32 (16 * 12)) rfl))
  iapply (run_line d L (r := r) (base := base0 v2) (S := Finset.univ) (k := 0) 12 (by decide) (by decide) (fun x _ => Finset.mem_univ x) rfl (fun _ => rfl) rfl rfl) $$ [Hc Hg]
  · isplitl [Hc]; · iexact Hc
    iexact Hg
  iintro ⟨Hc, Hg⟩
  subst hr hv
  unfold Spare Shares
  icases H0 with ⟨Hr, Ha, Hs, Hz, Hta, Htb⟩
  ihave Hr := (halve d L) $$ Hr
  icases Hr with ⟨Hr, Hr'⟩
  unfold Lines
  icases Hg with ⟨%fo, %hfo, Hg⟩
  have hlines : ∀ p < 208, (listAt fo (208 * 0 + p)).toNat = 200 * (row0 L + 0) + colOf F (bit (mrow mk (row0 L + 0))) p := fun p hp => by
    rw [rowed_nat (base0_nat L) (by have := row0_le L; omega) hfo p hp, hfm 0 (by decide), Nat.add_zero]
  ihave Hg := (pointsTo_split_subset (Finset.subset_univ (span (208 * 0) (208 * 0 + 128)))).1 $$ Hg
  icases Hg with ⟨Hg, Hg'⟩
  iapply (run_gather d L (by decide) (s := sl 0) (a := 0) (R := row0 L + 0) (p := 208 * 0) (mk := mk) (tb := tb) (q := qa (sl 0))
    (b := bit (mrow mk (row0 L + 0))) rfl rfl (sem := gA (sl 0)) (sem_at cc0_scratch4 (sl 0) rfl)
    (count_A _) fo (fun j hj => by rw [hlines j (by omega), Nat.zero_add]) (by have := row0_le L; omega)) $$ [Hta Hr Hg Ha]
  · isplitl [Hta]; · iexact Hta
    isplitl [Hr]; · iexact Hr
    isplitl [Hg]; · iexact Hg
    iexact Ha
  iintro Hfl
  ihave Hg := (pointsTo_split_subset head_sub).1 $$ Hg'
  icases Hg with ⟨Hg, Hg'⟩
  iapply (run_gather d L (by decide) (s := sl 0) (a := 128) (R := row0 L + 0) (p := 208 * 0 + 128) (mk := mk) (tb := tb) (q := qb (sl 0))
    (b := bit (mrow mk (row0 L + 0))) rfl rfl (sem := gS (sl 0)) (sem_at cc0_scratch5 (sl 0) rfl)
    (count_B _) fo (fun j hj => by exact (congrArg (fun p => (listAt fo p).toNat) (Nat.add_assoc (208 * 0) 128 j)).trans (hlines (128 + j) (by omega))) (by have := row0_le L; omega)) $$ [Htb Hr' Hg Hs]
  · isplitl [Htb]; · iexact Htb
    isplitl [Hr']; · iexact Hr'
    isplitl [Hg]; · iexact Hg
    iexact Hs
  iintro Hfl'
  iapply (Scf.wp_for_bind frame (wpE (defs₀ (F := F)) 𝒱₀ (thr d L) none) Set.univ _ _ _ k0_t1_ok ⟨⟩ _
    (fun k _ => Inv d L mk tb qa qb O W fm k) (fun k u => run_body d L mk tb qa qb O W k hfm _ _ _ u)) $$ [Hm Hc Hg' Hfl Hfl' Hz H1 H2 H3 Hwt Hw]
  · unfold Inv Bringing Busy Finished
    isplitl [Hm]; · iexact Hm
    isplitl [Hc]
    · iapply (done_lists d L) $$ Hc
    isplitl [Hg']
    · iexists fo
      rw [← head_list]
      iexact Hg'
    isplitl [Hfl Hfl' Hz]
    · isplitl [Hfl]; · iexact Hfl
      isplitl [Hfl']; · iexact Hfl'
      iexact Hz
    rw [if_neg (by decide), if_neg (by decide), if_neg (by decide)]
    unfold Spare Shares
    isplitl [H1]; · iexact H1
    isplitl [H2]; · iexact H2
    isplitl [H3]; · iexact H3
    isplitr
    · rw [show Finset.range (0 - 3) = ∅ from rfl, bigSep_empty]
      iempintro
    isplitl [Hwt]; · iexact Hwt
    iexact Hw
  iintro %u HI
  iapply (run_ret (Q := Q) d L ⟨⟩ rfl)
  iapply Hk
  iexact HI

/-- The whole list once the last row's lines have come. -/
theorem list_whole :
    (iprop((∃ f : Buf (Elt F) (gLoc d L), gLoc d L ↦[Sk 31]{fullShare} f)
        ∗ (∃ f : Buf (Elt F) (gLoc d L), gLoc d L ↦[span (208 * 31) (208 * 31 + 128)]{fullShare} f)
        ∗ (∃ f : Buf (Elt F) (gLoc d L), gLoc d L ↦[span (208 * 31 + 128) (208 * 31 + 128 + 72)]{fullShare} f)) : sProp (MM F))
      ⊢ iprop(∃ f : Buf (Elt F) (gLoc d L), gLoc d L ↦{fullShare} f) := by
  iintro ⟨⟨%f, Hf⟩, ⟨%g, Hg⟩, ⟨%h, Hh⟩⟩
  ihave H := (show (iprop((gLoc d L ↦[span (208 * 31) (208 * 31 + 128)]{fullShare} g) ∗ (gLoc d L ↦[span (208 * 31 + 128) (208 * 31 + 128 + 72)]{fullShare} h)) : sProp (MM F))
      ⊢ _ from pointsTo_join (lists_disj 31)) $$ [Hg Hh]
  · isplitl [Hg]; · iexact Hg
    iexact Hh
  have e : span (208 * 31) (208 * 31 + 128) ∪ span (208 * 31 + 128) (208 * 31 + 128 + 72) = lists 31 := by
    ext x
    rw [Finset.mem_union, mem_span, mem_span, mem_span]
    omega
  rw [e]
  ihave H := (show (iprop((gLoc d L ↦[lists 31]{fullShare} ((span (208 * 31 + 128) (208 * 31 + 128 + 72)).piecewise h g)) ∗ (gLoc d L ↦[Sk 31]{fullShare} f)) : sProp (MM F))
      ⊢ _ from pointsTo_join_subset (Finset.subset_univ _)) $$ [H Hf]
  · isplitl [H]; · iexact H
    iexact Hf
  iexists _
  iexact H

/-- The copy of a row is waited for. -/
theorem run_sent {α : Type} {Q : α → sProp (MM F)} (s : Fin 4) (r : ℕ) {o1 : Fin 3 → ℕ} {inb1 hst1 hq1} {o2 : Fin 2 → ℕ} {inb2 hst2}
    {sem' : DmaSem sig} (hsem : sem' = wS s) {hsrc hdst} {kk : PUnit → PTile F L α} :
    iprop(Sending d L mk tb qa qb s r ∗ Ow d L O W)
      ⊢ iprop((Spare d L tb qa qb s ∗ OutRow d L mk tb r ∗ Ow d L O W -∗ Run d L (kk ⟨⟩) Q)
        -∗ Run d L (Prog.lift (.waitDma2 sem' (slotRef 200 o1 inb1 hst1 hq1) (rowRef o2 inb2 hst2) hsrc hdst) >>= kk) Q) := by
  unfold Sending
  iintro ⟨⟨Hfl, Ha, Hs, Ht⟩, Hw⟩ Hk
  iapply (run_await d L (O := O) (W := W) (N := NW) (Dv := Sent d L mk tb s (row0 L + r)) (sem := wS s) hsem wait_W) $$ [Hfl Hw]
  · isplitl [Hfl]
    · iexact Hfl
    iexact Hw
  unfold Sent
  iintro ⟨⟨Ho, Hr⟩, Hz, Hw⟩
  iapply Hk
  isplitl [Hr Ha Hs Hz Ht]
  · unfold Spare
    isplitl [Hr]; · iexact Hr
    isplitl [Ha]; · iexact Ha
    isplitl [Hs]; · iexact Hs
    isplitl [Hz]; · iexact Hz
    iexact Ht
  isplitl [Ho]
  · unfold OutRow
    iexact Ho
  iexact Hw

theorem run_part24 {Q : PUnit → sProp (MM F)} :
    iprop(Bringing d L mk tb qa qb (sl 31) 31 ∗ Sending d L mk tb qa qb (sl 28) 28 ∗ OldRow (F := F) d L 31
        ∗ (∃ f : Buf (Elt F) (gLoc d L), gLoc d L ↦[Sk 31]{fullShare} f) ∗ Ow d L O W)
      ⊢ iprop((Sending d L mk tb qa qb (sl 31) 31 ∗ Spare d L tb qa qb (sl 28) ∗ OutRow d L mk tb 28
          ∗ (∃ f : Buf (Elt F) (gLoc d L), gLoc d L ↦{fullShare} f) ∗ Ow d L O W -∗ Q ⟨⟩)
        -∗ Run d L (k0_part24 L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0
          (wordOf L)) Q) := by
  rw [k0_part24_eq_skeleton]
  unfold k0_part24_skel Bringing
  iintro ⟨⟨Hfa, Hfb, Hz⟩, Hsd, Ho, Hg, Hw⟩ Hk
  iapply (run_await d L (O := O) (W := W) (N := NA) (Dv := Got d L mk tb (sl 31) (row0 L + 31) 0 128 (208 * 31) (qa (sl 31))) (sem := gA (sl 31))
      (sem_at cc0_scratch4 (sl 31) rfl) wait_A) $$ [Hfa Hw]
  · isplitl [Hfa]; · iexact Hfa
    iexact Hw
  iintro ⟨HA, Hza, Hw⟩
  iapply (run_await d L (O := O) (W := W) (N := NB) (Dv := Got d L mk tb (sl 31) (row0 L + 31) 128 72 (208 * 31 + 128) (qb (sl 31))) (sem := gS (sl 31))
      (sem_at cc0_scratch5 (sl 31) rfl) wait_B) $$ [Hfb Hw]
  · isplitl [Hfb]; · iexact Hfb
    iexact Hw
  iintro ⟨HB, Hzb, Hw⟩
  unfold Got
  icases HA with ⟨Hra, Hta, Hga⟩
  icases HB with ⟨Hrb, Htb, Hgb⟩
  iapply (run_send_row d L mk tb qa qb 31 rfl ((k0_off43_eq L).trans (by unfold row0; congr 1; omega)) (sem_at cc0_scratch6 (sl 31) rfl)) $$ [Hra Hrb Hza Hzb Hz Hta Htb Ho]
  · isplitr [Ho]
    · unfold Filled Shares
      isplitl [Hra Hrb]
      · iapply (fill d L mk tb) $$ [Hra Hrb]
        isplitl [Hra]; · iexact Hra
        iexact Hrb
      isplitl [Hza]; · iexact Hza
      isplitl [Hzb]; · iexact Hzb
      isplitl [Hz]; · iexact Hz
      isplitl [Hta]; · iexact Hta
      iexact Htb
    iexact Ho
  iintro Hs
  iapply (run_sent d L mk tb qa qb O W (sl 28) 28 (sem_at cc0_scratch6 (sl 28) rfl)) $$ [Hsd Hw]
  · isplitl [Hsd]; · iexact Hsd
    iexact Hw
  iintro ⟨Hsp, Ho, Hw⟩
  iapply (run_ret (Q := Q) d L ⟨⟩ rfl)
  iapply Hk
  isplitl [Hs]; · iexact Hs
  isplitl [Hsp]; · iexact Hsp
  isplitl [Ho]; · iexact Ho
  isplitr [Hw]
  · iapply (list_whole d L) $$ [Hg Hga Hgb]
    isplitl [Hg]; · iexact Hg
    isplitl [Hga]; · iexact Hga
    iexact Hgb
  iexact Hw

/-- The tile's rows of the result, all finished. -/
def Rows : sProp (MM F) := bigSep (Finset.range 32) fun r => OutRow d L mk tb r

theorem rows_done :
    iprop(OutRow d L mk tb 31 ∗ OutRow d L mk tb 30 ∗ OutRow d L mk tb 29 ∗ OutRow d L mk tb 28 ∗ Finished d L mk tb 31) ⊢ Rows d L mk tb := by
  have h : ∀ n, bigSep (Finset.range (n + 1)) (fun r => OutRow d L mk tb r)
      = iprop(OutRow d L mk tb n ∗ bigSep (Finset.range n) fun r => OutRow d L mk tb r) := fun n => by
    rw [Finset.range_add_one, bigSep_insert Finset.notMem_range_self]
    rfl
  unfold Finished Rows
  rw [h 31, h 30, h 29, h 28]

theorem old_last : Waiting (F := F) d L 31 ⊢ OldRow (F := F) d L 31 := by
  refine (waiting_step (F := F) d L (by decide)).trans ?_
  iintro ⟨H, _⟩
  iexact H

/-- What a tile's program starts from, and what it leaves. -/
def Before : sProp (MM F) :=
  iprop(Mask (F := F) d L mk ∗ (∃ f : Buf (Elt F) (mLoc d L), mLoc d L ↦{fullShare} f) ∗ (∃ g : Buf (Elt F) (cLoc d L), cLoc d L ↦{fullShare} g)
    ∗ (∃ f : Buf (Elt F) (gLoc d L), gLoc d L ↦{fullShare} f)
    ∗ Spare d L tb qa qb (sl 0) ∗ Spare d L tb qa qb (sl 1) ∗ Spare d L tb qa qb (sl 2) ∗ Spare d L tb qa qb (sl 3)
    ∗ Waiting (F := F) d L 0 ∗ semVal ((thr d L), SemLoc.dma cc0_scoped0.sem) 0 ∗ Ow d L O W)

def After : sProp (MM F) :=
  iprop(Mask (F := F) d L mk ∗ (∃ f : Buf (Elt F) (mLoc d L), mLoc d L ↦{fullShare} f) ∗ (∃ g : Buf (Elt F) (cLoc d L), cLoc d L ↦{fullShare} g)
    ∗ (∃ f : Buf (Elt F) (gLoc d L), gLoc d L ↦{fullShare} f)
    ∗ Spare d L tb qa qb (sl 0) ∗ Spare d L tb qa qb (sl 1) ∗ Spare d L tb qa qb (sl 2) ∗ Spare d L tb qa qb (sl 3)
    ∗ Rows d L mk tb ∗ semVal ((thr d L), SemLoc.dma cc0_scoped0.sem) 0 ∗ Ow d L O W)

theorem run_tile : Before d L mk tb qa qb O W ⊢ Run d L (cc0_sc_gather L (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0) (fun _ => After d L mk tb qa qb O W) := by
  rw [cc0_sc_gather_eq_skeleton]
  unfold cc0_sc_gather_skel Before
  iintro ⟨Hmk, Hm, Hc, Hg, H0, H1, H2, H3, Hwt, Hz, Hw⟩
  iapply (run_bind d L)
  rw [k0_part25_eq_skeleton]
  unfold k0_part25_skel
  iapply (run_bind d L)
  iapply (run_part13 d L mk O W) $$ [Hmk Hm Hc Hz Hw]
  · isplitl [Hmk]; · iexact Hmk
    isplitl [Hm]; · iexact Hm
    isplitl [Hc]; · iexact Hc
    isplitl [Hz]; · iexact Hz
    iexact Hw
  iintro %fm %hfm ⟨Hmk, Hm, Hc, Hz, Hw⟩
  iapply (run_bind d L)
  iapply (run_part14 d L) $$ [Hm Hc]
  · isplitl [Hm]; · iexact Hm
    iexact Hc
  iintro ⟨Hm, Hc⟩
  iapply (run_bind d L)
  iapply (run_part15 d L) $$ [Hm Hc]
  · isplitl [Hm]; · iexact Hm
    iexact Hc
  iintro ⟨Hm, Hc⟩
  iapply (run_bind d L)
  iapply (run_part16 d L) $$ [Hm Hc]
  · isplitl [Hm]; · iexact Hm
    iexact Hc
  iintro ⟨Hm, Hc⟩
  iapply (run_bind d L)
  iapply (run_part17 d L) $$ [Hm Hc]
  · isplitl [Hm]; · iexact Hm
    iexact Hc
  iintro ⟨Hm, Hc⟩
  iapply (run_bind d L)
  iapply (run_part18 d L (wordOf L)) $$ [Hm Hc]
  · isplitl [Hm]; · iexact Hm
    iexact Hc
  iintro ⟨Hm, Hc⟩
  ihave Hg := (lines_zero d L (maskRow fm 0) (base0 (wordOf L)) 0 Finset.univ) $$ Hg
  iapply (run_bind d L)
  iapply (run_part19 d L (wordOf L) (fun x _ => Finset.mem_univ x)) $$ [Hc Hg]
  · isplitl [Hc]; · iexact Hc
    iexact Hg
  iintro ⟨Hc, Hg⟩
  iapply (run_bind d L)
  iapply (run_part20 d L (wordOf L) (fun x _ => Finset.mem_univ x)) $$ [Hc Hg]
  · isplitl [Hc]; · iexact Hc
    iexact Hg
  iintro ⟨Hc, Hg⟩
  iapply (run_bind d L)
  iapply (run_part21 d L (wordOf L) (fun x _ => Finset.mem_univ x)) $$ [Hc Hg]
  · isplitl [Hc]; · iexact Hc
    iexact Hg
  iintro ⟨Hc, Hg⟩
  iapply (run_bind d L)
  iapply (run_part22 d L (wordOf L) (fun x _ => Finset.mem_univ x)) $$ [Hc Hg]
  · isplitl [Hc]; · iexact Hc
    iexact Hg
  iintro ⟨Hc, Hg⟩
  iapply (run_bind d L)
  iapply (run_part23 d L mk tb qa qb O W hfm rfl rfl) $$ [Hm Hc Hg H0 H1 H2 H3 Hwt Hw]
  · isplitl [Hm]; · iexact Hm
    isplitl [Hc]; · iexact Hc
    isplitl [Hg]; · iexact Hg
    isplitl [H0]; · iexact H0
    isplitl [H1]; · iexact H1
    isplitl [H2]; · iexact H2
    isplitl [H3]; · iexact H3
    isplitl [Hwt]; · iexact Hwt
    iexact Hw
  unfold Inv Busy
  rw [if_pos (by decide), if_pos (by decide), if_pos (by decide), show sl (31 + 1) = sl 28 by decide, show sl (31 + 2) = sl 29 by decide,
    show sl (31 + 3) = sl 30 by decide]
  iintro ⟨Hm, Hc, Hg, Hb, H0, H1, H2, Hf, Hwt, Hw⟩
  ihave Hwt := (old_last (F := F) d L) $$ Hwt
  iapply (run_bind d L)
  iapply (run_part24 d L mk tb qa qb O W) $$ [Hb H0 Hwt Hg Hw]
  · isplitl [Hb]; · iexact Hb
    isplitl [H0]; · iexact H0
    isplitl [Hwt]; · iexact Hwt
    isplitl [Hg]; · iexact Hg
    iexact Hw
  iintro ⟨H3, H0, Ho0, Hg, Hw⟩
  iapply (run_sent d L mk tb qa qb O W (sl 29) 29 (sem_at cc0_scratch6 (sl 29) rfl)) $$ [H1 Hw]
  · isplitl [H1]; · iexact H1
    iexact Hw
  iintro ⟨H1, Ho1, Hw⟩
  iapply (run_sent d L mk tb qa qb O W (sl 30) 30 (sem_at cc0_scratch6 (sl 30) rfl)) $$ [H2 Hw]
  · isplitl [H2]; · iexact H2
    iexact Hw
  iintro ⟨H2, Ho2, Hw⟩
  iapply (run_ret d L ⟨⟩ rfl)
  iapply (run_sent d L mk tb qa qb O W (sl 31) 31 (sem_at cc0_scratch6 (sl 31) rfl)) $$ [H3 Hw]
  · isplitl [H3]; · iexact H3
    iexact Hw
  iintro ⟨H3, Ho3, Hw⟩
  iapply (run_ret d L ⟨⟩ rfl)
  unfold After
  isplitl [Hmk]; · iexact Hmk
  isplitl [Hm]
  · iexists fm; iexact Hm
  isplitl [Hc]; · iexact Hc
  isplitl [Hg]; · iexact Hg
  rw [show sl 28 = sl 0 by decide, show sl 29 = sl 1 by decide, show sl 30 = sl 2 by decide, show sl 31 = sl 3 by decide]
  isplitl [H0]; · iexact H0
  isplitl [H1]; · iexact H1
  isplitl [H2]; · iexact H2
  isplitl [H3]; · iexact H3
  isplitl [Ho0 Ho1 Ho2 Ho3 Hf]
  · iapply (rows_done d L mk tb) $$ [Ho0 Ho1 Ho2 Ho3 Hf]
    isplitl [Ho3]; · iexact Ho3
    isplitl [Ho2]; · iexact Ho2
    isplitl [Ho1]; · iexact Ho1
    isplitl [Ho0]; · iexact Ho0
    iexact Hf
  isplitl [Hz]; · iexact Hz
  iexact Hw

end Cert.Proof.GatherIdealRun
-- ==== Proof.GatherIdealRun.Parts.lean ====
/-
  How the arrays of the call are dealt to its thirty-two tiles and come back: every tile has its thirty-two rows of the
  mask, its lines of the result, and eight shares of the table; and a tile's own buffers and semaphores, as its
  program asks for them.
-/
module

public import proofs.«01_k».proof.Proof.GatherIdealRun.Tile
public import Idealize.ShloMosaic.Lib.ShareLeaves

@[expose] public section

noncomputable section

namespace Cert.Proof.GatherIdealRun

open Cert.GatherIdeal Cert.GatherIdeal.Gen Cert.Rows

open Idealize.ShloMosaic
open Idealize.ShloMosaic.ShareLeaves (leaf pointsTo_leaves)
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-! ## The tiles -/

/-- The tile on vector subcore `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

theorem row0_coords (c : Fin 2) (i : Fin 16) : row0 (coordsV c i) = 64 * i.val + 32 * c.val := rfl

abbrev kT (d : Dev nD) : Loc nD τ sig := (SparseCore.T d).loc main_v0
abbrev tT (d : Dev nD) : Loc nD τ sig := (SparseCore.T d).loc main_v1
abbrev oT (d : Dev nD) : Loc nD τ sig := (SparseCore.T d).loc main_v2

/-- Rows, or lines, of a SparseCore: the parts its tiles have, over `i`. -/
def coreRows (c : Fin 2) : Finset S1024x200.Idx :=
  Finset.univ.biUnion fun i : Fin 16 => maskSet (64 * i.val + 32 * c.val) (64 * i.val + 32 * c.val + 32)
def tileLines (c : Fin 2) (i : Fin 16) : Finset S204800x128.Idx :=
  (Finset.range 32).biUnion fun r => lineSet (200 * (64 * i.val + 32 * c.val + r)) (200 * (64 * i.val + 32 * c.val + r) + 200)
def coreLines (c : Fin 2) : Finset S204800x128.Idx := Finset.univ.biUnion (tileLines c)

theorem mem_coreRows {c : Fin 2} {x : S1024x200.Idx} : x ∈ coreRows c ↔ (x 0).val / 32 % 2 = c.val := by
  have hx : (x 0).val < 1024 := (x 0).isLt
  have hc := c.isLt
  unfold coreRows
  rw [Finset.mem_biUnion]
  constructor
  · rintro ⟨i, -, h⟩
    rw [mem_maskSet] at h
    omega
  · intro h
    refine ⟨⟨(x 0).val / 64, by omega⟩, Finset.mem_univ _, ?_⟩
    rw [mem_maskSet]
    dsimp only
    omega

theorem mem_tileLines {c : Fin 2} {i : Fin 16} {x : S204800x128.Idx} :
    x ∈ tileLines c i ↔ 12800 * i.val + 6400 * c.val ≤ (x 0).val ∧ (x 0).val < 12800 * i.val + 6400 * c.val + 6400 := by
  unfold tileLines
  rw [Finset.mem_biUnion]
  constructor
  · rintro ⟨r, hr, h⟩
    rw [Finset.mem_range] at hr
    rw [mem_lineSet] at h
    omega
  · intro h
    refine ⟨((x 0).val - (12800 * i.val + 6400 * c.val)) / 200, by rw [Finset.mem_range]; omega, ?_⟩
    rw [mem_lineSet]
    omega

theorem mem_coreLines {c : Fin 2} {x : S204800x128.Idx} : x ∈ coreLines c ↔ (x 0).val / 6400 % 2 = c.val := by
  have hx : (x 0).val < 204800 := (x 0).isLt
  have hc := c.isLt
  unfold coreLines
  rw [Finset.mem_biUnion]
  constructor
  · rintro ⟨i, -, h⟩
    rw [mem_tileLines] at h
    omega
  · intro h
    refine ⟨⟨(x 0).val / 12800, by omega⟩, Finset.mem_univ _, ?_⟩
    rw [mem_tileLines]
    dsimp only
    omega

theorem same {A B : sProp (MM F)} (h : A = B) : A ⊢ B := Entails.of_eq h

theorem table_pts (d : Dev nD) (L : grid0.Coords) (tb : S204800x128.Idx → F .f32) (q : PosShare TreeShare) :
    (iprop(tLoc d L ↦{q} (tb : Buf (Elt F) (tLoc d L))) : sProp (MM F)) = iprop(tT d ↦{q} (tb : Buf (Elt F) (tT d))) := rfl

theorem line_pts (d : Dev nD) (L : grid0.Coords) (f : S204800x128.Idx → F .f32) (I : Finset S204800x128.Idx) :
    (iprop(oLoc d L ↦[I]{fullShare} (f : Buf (Elt F) (oLoc d L))) : sProp (MM F)) = iprop(oT d ↦[I]{fullShare} (f : Buf (Elt F) (oT d))) := rfl

/-! ## The arrays of the call, dealt -/

theorem rows_dealt (d : Dev nD) (f : Buf (Elt F) (kT d)) :
    (kT d ↦{fullShare} f : sProp (MM F))
      = bigSep Finset.univ fun c : Fin 2 => bigSep Finset.univ fun i : Fin 16 =>
          kT d ↦[maskSet (64 * i.val + 32 * c.val) (64 * i.val + 32 * c.val + 32)]{fullShare} f := by
  have e : (Finset.univ : Finset (Idx (kT d))) = Finset.univ.biUnion coreRows := by
    refine (Finset.eq_univ_iff_forall.mpr fun x => Finset.mem_biUnion.mpr ?_).symm
    exact ⟨⟨((x : S1024x200.Idx) 0).val / 32 % 2, by omega⟩, Finset.mem_univ _, mem_coreRows.mpr rfl⟩
  rw [show (kT d ↦{fullShare} f : sProp (MM F)) = kT d ↦[Finset.univ.biUnion coreRows]{fullShare} f from by rw [← e],
    pointsTo_biUnion Finset.univ (ℓ := kT d) coreRows]
  · refine bigSep_congr fun c _ => ?_
    unfold coreRows
    rw [pointsTo_biUnion Finset.univ (ℓ := kT d)]
    intro i _ j _ hij
    rw [Finset.disjoint_left]
    intro x hx hx'
    have hn : i.val ≠ j.val := fun e => hij (Fin.ext e)
    rw [mem_maskSet] at hx hx'
    omega
  · intro c _ c' _ hcc
    rw [Finset.disjoint_left]
    intro x hx hx'
    rw [mem_coreRows] at hx hx'
    exact hcc (Fin.ext (by omega))

theorem lines_dealt (d : Dev nD) (f : Buf (Elt F) (oT d)) :
    (oT d ↦{fullShare} f : sProp (MM F))
      = bigSep Finset.univ fun c : Fin 2 => bigSep Finset.univ fun i : Fin 16 => bigSep (Finset.range 32) fun r =>
          oT d ↦[lineSet (200 * (64 * i.val + 32 * c.val + r)) (200 * (64 * i.val + 32 * c.val + r) + 200)]{fullShare} f := by
  have e : (Finset.univ : Finset (Idx (oT d))) = Finset.univ.biUnion coreLines := by
    refine (Finset.eq_univ_iff_forall.mpr fun x => Finset.mem_biUnion.mpr ?_).symm
    exact ⟨⟨((x : S204800x128.Idx) 0).val / 6400 % 2, by omega⟩, Finset.mem_univ _, mem_coreLines.mpr rfl⟩
  rw [show (oT d ↦{fullShare} f : sProp (MM F)) = oT d ↦[Finset.univ.biUnion coreLines]{fullShare} f from by rw [← e],
    pointsTo_biUnion Finset.univ (ℓ := oT d) coreLines]
  · refine bigSep_congr fun c _ => ?_
    unfold coreLines
    rw [pointsTo_biUnion Finset.univ (ℓ := oT d)]
    · refine bigSep_congr fun i _ => ?_
      unfold tileLines
      rw [pointsTo_biUnion (Finset.range 32) (ℓ := oT d)]
      intro r _ r' _ hrr
      rw [Finset.disjoint_left]
      intro x hx hx'
      rw [mem_lineSet] at hx hx'
      omega
    · intro i _ j _ hij
      rw [Finset.disjoint_left]
      intro x hx hx'
      have hn : i.val ≠ j.val := fun e => hij (Fin.ext e)
      rw [mem_tileLines] at hx hx'
      omega
  · intro c _ c' _ hcc
    rw [Finset.disjoint_left]
    intro x hx hx'
    rw [mem_coreLines] at hx hx'
    exact hcc (Fin.ext (by omega))

/-- Slot `s`'s two shares of the table, on tile `(c, i)`. -/
def qOf (c : Fin 2) (i : Fin 16) (s : Fin 4) : PosShare TreeShare := leaf 2 (leaf 4 (leaf 1 fullShare c) i) s
def qA (c : Fin 2) (i : Fin 16) (s : Fin 4) : PosShare TreeShare := leaf 1 (qOf c i s) (0 : Fin 2)
def qB (c : Fin 2) (i : Fin 16) (s : Fin 4) : PosShare TreeShare := leaf 1 (qOf c i s) (1 : Fin 2)

theorem table_dealt (d : Dev nD) (f : Buf (Elt F) (tT d)) :
    (tT d ↦{fullShare} f : sProp (MM F))
      = bigSep Finset.univ fun c : Fin 2 => bigSep Finset.univ fun i : Fin 16 => bigSep Finset.univ fun s : Fin 4 =>
          iprop((tT d ↦{qA c i s} f) ∗ (tT d ↦{qB c i s} f)) := by
  refine (pointsTo_leaves Finset.univ f 1 fullShare).trans (bigSep_congr fun c _ => ?_)
  refine (pointsTo_leaves Finset.univ f 4 _).trans (bigSep_congr fun i _ => ?_)
  refine (pointsTo_leaves Finset.univ f 2 _).trans (bigSep_congr fun s _ => ?_)
  refine (pointsTo_leaves Finset.univ f 1 _).trans ?_
  exact bigSep_fin_two _

/-! ## What a tile takes and brings back -/

variable [FloatOps F]

/-- What tile `(c, i)` takes: its rows of the mask `mk`, its shares of the table `tb`, its rows of the result. -/
def Goes (d : Dev nD) (mk : S1024x200.Idx → BitVec 32) (tb : S204800x128.Idx → F .f32) (c : Fin 2) (i : Fin 16) : sProp (MM F) :=
  iprop(Mask (F := F) d (coordsV c i) mk ∗ (bigSep Finset.univ fun s : Fin 4 => Shares d (coordsV c i) tb (qA c i) (qB c i) s)
    ∗ Waiting (F := F) d (coordsV c i) 0)

/-- What it brings back: the same, its rows of the result at the lines they name. -/
def Comes (d : Dev nD) (mk : S1024x200.Idx → BitVec 32) (tb : S204800x128.Idx → F .f32) (c : Fin 2) (i : Fin 16) : sProp (MM F) :=
  iprop(Mask (F := F) d (coordsV c i) mk ∗ (bigSep Finset.univ fun s : Fin 4 => Shares d (coordsV c i) tb (qA c i) (qB c i) s)
    ∗ Rows d (coordsV c i) mk tb)

theorem some_lines (d : Dev nD) (L : grid0.Coords) (f : S204800x128.Idx → F .f32) (r : ℕ) :
    (iprop(oT d ↦[lineSet (200 * (row0 L + r)) (200 * (row0 L + r) + 200)]{fullShare} (f : Buf (Elt F) (oT d))) : sProp (MM F))
      ⊢ OldRow (F := F) d L r := by
  rw [← line_pts d L]
  unfold OldRow
  iintro H
  iexists f
  iexact H

/-- The three arrays are what the tiles take. -/
theorem goes_all (d : Dev nD) (mk : S1024x200.Idx → BitVec 32) (tb : S204800x128.Idx → F .f32) :
    (iprop((kT d ↦{fullShare} (mk : Buf (Elt F) (kT d))) ∗ (tT d ↦{fullShare} (tb : Buf (Elt F) (tT d)))
        ∗ ∃ f : Buf (Elt F) (oT d), oT d ↦{fullShare} f) : sProp (MM F))
      ⊢ bigSep Finset.univ fun c : Fin 2 => bigSep Finset.univ fun i : Fin 16 => Goes d mk tb c i := by
  have h : ∀ f : Buf (Elt F) (oT d), (iprop((kT d ↦{fullShare} (mk : Buf (Elt F) (kT d))) ∗ (tT d ↦{fullShare} (tb : Buf (Elt F) (tT d)))
        ∗ (oT d ↦{fullShare} f)) : sProp (MM F))
      ⊢ bigSep Finset.univ fun c : Fin 2 => bigSep Finset.univ fun i : Fin 16 => Goes d mk tb c i := by
    intro f
    rw [rows_dealt, table_dealt, lines_dealt, ← bigSep_sep', ← bigSep_sep']
    refine bigSep_mono fun c _ => ?_
    rw [← bigSep_sep', ← bigSep_sep']
    refine bigSep_mono fun i _ => ?_
    unfold Goes
    unfold Mask Shares
    refine sep_mono (same (by rw [row0_coords])) (sep_mono (bigSep_mono fun s _ => same (by rw [table_pts d (coordsV c i), table_pts d (coordsV c i)])) ?_)
    unfold Waiting
    rw [← Finset.range_eq_Ico]
    exact bigSep_mono fun r _ => some_lines d (coordsV c i) f r
  iintro ⟨Hk, Ht, %f, Ho⟩
  iapply (h f)
  isplitl [Hk]; · iexact Hk
  isplitl [Ht]; · iexact Ht
  iexact Ho

/-- What the tiles bring back is the three arrays, the result whole at its value. -/
theorem comes_all (d : Dev nD) (mk : S1024x200.Idx → BitVec 32) (tb : S204800x128.Idx → F .f32) :
    (bigSep Finset.univ fun c : Fin 2 => bigSep Finset.univ fun i : Fin 16 => Comes d mk tb c i)
      ⊢ (iprop((kT d ↦{fullShare} (mk : Buf (Elt F) (kT d))) ∗ (tT d ↦{fullShare} (tb : Buf (Elt F) (tT d)))
        ∗ (oT d ↦{fullShare} (outF mk tb : Buf (Elt F) (oT d)))) : sProp (MM F)) := by
  rw [rows_dealt, table_dealt, lines_dealt, ← bigSep_sep', ← bigSep_sep']
  refine bigSep_mono fun c _ => ?_
  rw [← bigSep_sep', ← bigSep_sep']
  refine bigSep_mono fun i _ => ?_
  unfold Comes Mask Shares Rows OutRow
  refine sep_mono (same (by rw [row0_coords])) (sep_mono (bigSep_mono fun s _ => same (by rw [table_pts d (coordsV c i), table_pts d (coordsV c i)]))
    (bigSep_mono fun r _ => same (by rw [line_pts d (coordsV c i), row0_coords])))

/-! ## A tile's own buffers and semaphores -/

section Own

variable (d : Dev nD) (L : grid0.Coords)

/-- The thirteen semaphores of a tile's program. -/
def tileSems : Finset (SemLoc sig) :=
  {.dma cc0_scoped0.sem, .dma (gA 0), .dma (gS 0), .dma (wS 0), .dma (gA 1), .dma (gS 1), .dma (wS 1), .dma (gA 2), .dma (gS 2), .dma (wS 2),
    .dma (gA 3), .dma (gS 3), .dma (wS 3)}

theorem tileSems_scoped : ∀ s ∈ tileSems, s.isScoped .scVector = true := by decide

omit [FloatOps F] in
theorem sems_split :
    (ownSems0 (thr d L) : sProp (MM F))
      = iprop((bigSep tileSems fun s => semVal ((thr d L), s) 0)
          ∗ bigSep (ownCells (thr d L) \ tileSems.image fun s => ((thr d L), s)) fun g => semVal g 0) := by
  have hs : (tileSems.image fun s => ((thr d L), s)) ⊆ (ownCells (thr d L) : Finset (GSem nD τ sig)) := by
    intro g hg
    obtain ⟨s, h, rfl⟩ := Finset.mem_image.mp hg
    refine mem_ownCells.mpr ⟨rfl, ?_⟩
    exact tileSems_scoped s h
  unfold SparseCore.Cfg.ownSems0
  rw [SparseCore.bigSep_sdiff_split' hs, SparseCore.bigSep_image_of_injOn (fun a _ b _ e => (Prod.mk.inj e).2)]

omit [FloatOps F] in
theorem tileSems_eq (Φ : SemLoc sig → sProp (MM F)) :
    bigSep tileSems Φ = iprop(Φ (.dma cc0_scoped0.sem) ∗ Φ (.dma (gA 0)) ∗ Φ (.dma (gS 0)) ∗ Φ (.dma (wS 0)) ∗ Φ (.dma (gA 1)) ∗ Φ (.dma (gS 1))
      ∗ Φ (.dma (wS 1)) ∗ Φ (.dma (gA 2)) ∗ Φ (.dma (gS 2)) ∗ Φ (.dma (wS 2)) ∗ Φ (.dma (gA 3)) ∗ Φ (.dma (gS 3)) ∗ Φ (.dma (wS 3))) := by
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The other buffers of a tile. -/
def otherRefs : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
theorem bufs_split :
    (ownBufs (thr d L) : sProp (MM F))
      = iprop((∃ f, mLoc d L ↦{fullShare} f) ∗ (∃ f, gLoc d L ↦{fullShare} f) ∗ (∃ f, cLoc d L ↦{fullShare} f) ∗ (∃ f, rLoc d L ↦{fullShare} f)
          ∗ bigSep (otherRefs L) fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b :=
    fun h e => h (Proc.devRef_injective _ e)
  unfold SparseCore.Cfg.ownBufs otherRefs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

/-! ### The four slots -/

theorem slots_cover : (Finset.univ : Finset S4x200x128.Idx) = (Finset.univ : Finset (Fin 4)).biUnion fun s => slotSet s.val 0 200 := by
  refine (Finset.eq_univ_iff_forall.mpr fun x => Finset.mem_biUnion.mpr ?_).symm
  have h1 : (x 1).val < 200 := (x 1).isLt
  exact ⟨x 0, Finset.mem_univ _, mem_slotSet.mpr ⟨rfl, Nat.zero_le _, h1⟩⟩

theorem slots_apart : ∀ s ∈ (Finset.univ : Finset (Fin 4)), ∀ s' ∈ (Finset.univ : Finset (Fin 4)), s ≠ s' →
    Disjoint (slotSet s.val 0 200) (slotSet s'.val 0 200) := by
  intro s _ s' _ h
  rw [Finset.disjoint_left]
  intro x hx hx'
  rw [mem_slotSet] at hx hx'
  exact h (Fin.ext (hx.1.symm.trans hx'.1))

omit [FloatOps F] in
theorem fin_four (Φ : Fin 4 → sProp (MM F)) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

omit [FloatOps F] in
theorem some_slot (f : Buf (Elt F) (rLoc d L)) (s : Fin 4) :
    (iprop(rLoc d L ↦[slotSet s.val 0 200]{fullShare} f) : sProp (MM F))
      ⊢ iprop(∃ f : Buf (Elt F) (rLoc d L), rLoc d L ↦[slotSet s.val 0 200]{fullShare} f) := by
  iintro H
  iexists f
  iexact H

omit [FloatOps F] in
theorem slots_open :
    (iprop(∃ f : Buf (Elt F) (rLoc d L), rLoc d L ↦{fullShare} f) : sProp (MM F))
      ⊢ bigSep Finset.univ fun s : Fin 4 => iprop(∃ f : Buf (Elt F) (rLoc d L), rLoc d L ↦[slotSet s.val 0 200]{fullShare} f) := by
  iintro ⟨%f, H⟩
  ihave H := (show (rLoc d L ↦{fullShare} f : sProp (MM F))
      ⊢ bigSep Finset.univ fun s : Fin 4 => iprop(∃ f : Buf (Elt F) (rLoc d L), rLoc d L ↦[slotSet s.val 0 200]{fullShare} f) from by
    rw [show (rLoc d L ↦{fullShare} f : sProp (MM F)) = rLoc d L ↦[(Finset.univ : Finset (Fin 4)).biUnion fun s => slotSet s.val 0 200]{fullShare} f from by
      rw [← slots_cover], pointsTo_biUnion Finset.univ (ℓ := rLoc d L) _ slots_apart]
    exact bigSep_mono fun s _ => some_slot d L f s) $$ H
  iexact H

omit [FloatOps F] in
theorem slots_close :
    (bigSep Finset.univ fun s : Fin 4 => iprop(∃ f : Buf (Elt F) (rLoc d L), rLoc d L ↦[slotSet s.val 0 200]{fullShare} f))
      ⊢ (iprop(∃ f : Buf (Elt F) (rLoc d L), rLoc d L ↦{fullShare} f) : sProp (MM F)) := by
  rcases isEmpty_or_nonempty (Buf (Elt F) (rLoc d L)) with hE | hE
  · rw [fin_four]
    iintro ⟨⟨%f, -⟩, -⟩
    exact hE.elim f
  refine (bigSep_exists_pi Finset.univ (fun (s : Fin 4) (f : Buf (Elt F) (rLoc d L)) => rLoc d L ↦[slotSet s.val 0 200]{fullShare} f)).trans ?_
  iintro ⟨%fs, H⟩
  ihave H' := (pointsTo_biUnion_join (ℓ := rLoc d L) (q := fullShare) (Val := Elt F) Finset.univ (fun s : Fin 4 => slotSet s.val 0 200) fs (fs 0) slots_apart) $$ H
  icases H' with ⟨%g, -, Hg⟩
  rw [← slots_cover]
  iexists g; iexact Hg

end Own

end Cert.Proof.GatherIdealRun
-- ==== Proof.GatherIdealRun.Launch.lean ====
/-
  The run of `GatherIdeal`: its arrays are dealt to the tiles, every tile runs its program, and the result comes back whole
  with every line at its value.
-/
module

public import proofs.«01_k».proof.Proof.GatherIdealRun.Parts

@[expose] public section

noncomputable section

namespace Cert.Proof.GatherIdealRun

open Cert.GatherIdeal Cert.GatherIdeal.Gen Cert.Rows

open Idealize.ShloMosaic
open Idealize.ShloMosaic.SparseCore (S V T)
open Idealize.ShloMosaic.SparseCore.Cfg (HIx Pay ownBufs ownSems0 ownCells ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The arrays, and the two operations before the call -/

abbrev xLoc (d : Dev nD) : Loc nD τ sig := (SparseCore.T d).loc main_arg0
abbrev bLoc (d : Dev nD) : Loc nD τ sig := (SparseCore.T d).loc main_arg1

abbrev x' : DevRef τ sig := Proc.devRef .tc (main_arg0 : Ref sig .tc)
abbrev b' : DevRef τ sig := Proc.devRef .tc (main_arg1 : Ref sig .tc)
abbrev k' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev opWords : HloOp τ sig (Elt F) :=
  StableHlo.unary main_arg1 main_v0 ((extui 32 · natLt_1_32) : (⟨S1024x200, .i1⟩ : BufTy).Contents (Elt F) → (⟨S1024x200, .i32⟩ : BufTy).Contents (Elt F))
abbrev opTable : HloOp τ sig (Elt F) :=
  StableHlo.reshape main_arg0 main_v1 (rfl : (.f32 : EltTy) = .f32) shapeCasts_S1024x200x128_S204800x128

/-- The arrays of the program: `x`, the mask, its words, the table, the result. -/
abbrev S5 : Finset (DevRef τ sig) := {x', b', k', t', o'}

theorem held_S5 (d : Dev nD) (W : Valuation τ sig (Elt F)) :
    (held (SparseCore.T d) S5 W : sProp (MM F))
      = iprop((xLoc d ↦{fullShare} W x') ∗ (bLoc d ↦{fullShare} W b') ∗ (kT d ↦{fullShare} W k') ∗ (tT d ↦{fullShare} W t') ∗ (oT d ↦{fullShare} W o')) := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp (MM F))
      = iprop((xLoc d ↦{fullShare} W main_arg0) ∗ (bLoc d ↦{fullShare} W main_arg1) ∗ (kT d ↦{fullShare} W main_v0) ∗ (tT d ↦{fullShare} W main_v1)
          ∗ (oT d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The contents at the launch, and before the call. -/
def V0 (d : Dev nD) : Valuation τ sig (Elt F) := fun b => m (d, b)
def V2 (d : Dev nD) : Valuation τ sig (Elt F) := (opTable (F := F)).result ((opWords (F := F)).result (V0 m d))

theorem unscoped_held (d : Dev nD) : (unscopedBufs d (fun b => m ((SparseCore.T d).loc b)) : sProp (MM F)) = held (SparseCore.T d) S5 (V0 m d) := by
  rw [unscopedBufs_eq, held_S5]; rfl

/-- The mask's words, and the table, as the call finds them. -/
def words (d : Dev nD) : S1024x200.Idx → BitVec 32 := extui 32 (m (bLoc d) : S1024x200.Idx → BitVec 1) natLt_1_32
def table (d : Dev nD) : S204800x128.Idx → F .f32 :=
  shapeCast S204800x128 (m (xLoc d) : S1024x200x128.Idx → F .f32) shapeCasts_S1024x200x128_S204800x128

theorem V2_x (d : Dev nD) : V2 m d x' = m (xLoc d) := by
  unfold V2
  rw [(opTable (F := F)).result_of_not_mem _ (show x' ∉ ({t'} : Finset (DevRef τ sig)) by decide),
    (opWords (F := F)).result_of_not_mem _ (show x' ∉ ({k'} : Finset (DevRef τ sig)) by decide)]
  rfl
theorem V2_b (d : Dev nD) : V2 m d b' = m (bLoc d) := by
  unfold V2
  rw [(opTable (F := F)).result_of_not_mem _ (show b' ∉ ({t'} : Finset (DevRef τ sig)) by decide),
    (opWords (F := F)).result_of_not_mem _ (show b' ∉ ({k'} : Finset (DevRef τ sig)) by decide)]
  rfl
theorem V2_k (d : Dev nD) : V2 m d k' = words m d := by
  unfold V2
  rw [(opTable (F := F)).result_of_not_mem _ (show k' ∉ ({t'} : Finset (DevRef τ sig)) by decide)]
  exact StableHlo.unary_result _ _ _ _ _ _
theorem V2_t (d : Dev nD) : V2 m d t' = table m d := by
  unfold V2
  refine (StableHlo.reshape_result _ _ _ _ _ _ _).trans ?_
  rw [show (opWords (F := F)).result (V0 m d) x' = V0 m d x' from
    (opWords (F := F)).result_of_not_mem _ (show x' ∉ ({k'} : Finset (DevRef τ sig)) by decide)]
  rfl

theorem held_V2 (d : Dev nD) :
    (held (SparseCore.T d) S5 ((opTable (F := F)).result ((opWords (F := F)).result (V0 m d))) : sProp (MM F))
      = iprop((xLoc d ↦{fullShare} m (xLoc d)) ∗ (bLoc d ↦{fullShare} m (bLoc d)) ∗ (kT d ↦{fullShare} (words m d : Buf (Elt F) (kT d)))
          ∗ (tT d ↦{fullShare} (table m d : Buf (Elt F) (tT d))) ∗ (oT d ↦{fullShare} V2 m d o')) := by
  show held (SparseCore.T d) S5 (V2 m d) = _
  rw [held_S5, V2_x, V2_b, V2_k, V2_t]

theorem hWords : (opWords (F := F)).bufs ⊆ S5 := show ({b', k'} : Finset (DevRef τ sig)) ⊆ S5 by decide
theorem hTable : (opTable (F := F)).bufs ⊆ S5 := show ({x', t'} : Finset (DevRef τ sig)) ⊆ S5 by decide

/-! ## What the handshakes carry -/

abbrev cOf (c : Fin ((K (F := F)).nCore 0)) : Fin 2 := c
abbrev iOf (i : Fin ((K (F := F)).nSub 0)) : Fin 16 := i

/-- A SparseCore takes what its tiles take, and brings back what they bring back. -/
def P : (K (F := F)).Pay (nD := nD) (Val := Elt F) (Name := ℕ) (U := UU) where
  st := fun q d c => match q with | 0 => bigSep Finset.univ fun i : Fin 16 => Goes d (words m d) (table m d) (cOf (F := F) c) i
  dn := fun q d c => match q with | 0 => bigSep Finset.univ fun i : Fin 16 => Comes d (words m d) (table m d) (cOf (F := F) c) i
  go := fun q d c i => match q with | 0 => Goes d (words m d) (table m d) (cOf (F := F) c) (iOf (F := F) i)
  td := fun q d c i => match q with | 0 => Comes d (words m d) (table m d) (cOf (F := F) c) (iOf (F := F) i)
  x := fun _ _ => iprop(emp)

instance goes_storable (d : Dev nD) (mk : S1024x200.Idx → BitVec 32) (tb : S204800x128.Idx → F .f32) (c : Fin 2) (i : Fin 16) :
    BI.Storable (upEmb : UEmb _ (MM F)) (Goes d mk tb c i) := by
  unfold Goes Mask Shares Waiting OldRow; infer_instance
instance comes_storable (d : Dev nD) (mk : S1024x200.Idx → BitVec 32) (tb : S204800x128.Idx → F .f32) (c : Fin 2) (i : Fin 16) :
    BI.Storable (upEmb : UEmb _ (MM F)) (Comes d mk tb c i) := by
  unfold Comes Mask Shares Rows OutRow; infer_instance

instance P_storable : (P (F := F) m).IsStorable where
  st q d c := match q with
    | 0 => (inferInstance : BI.Storable (upEmb : UEmb _ (MM F)) (bigSep Finset.univ fun i : Fin 16 => Goes d (words m d) (table m d) (cOf (F := F) c) i))
  dn q d c := match q with
    | 0 => (inferInstance : BI.Storable (upEmb : UEmb _ (MM F)) (bigSep Finset.univ fun i : Fin 16 => Comes d (words m d) (table m d) (cOf (F := F) c) i))
  go q d c i := match q with | 0 => goes_storable d (words m d) (table m d) (cOf (F := F) c) (iOf (F := F) i)
  td q d c i := match q with | 0 => comes_storable d (words m d) (table m d) (cOf (F := F) c) (iOf (F := F) i)

/-! ## A tile's task -/

section Tile

variable (d : Dev nD) (mk : S1024x200.Idx → BitVec 32) (tb : S204800x128.Idx → F .f32)

/-- The buffers and semaphores the tile's program does not name. -/
def Others (L : grid0.Coords) : sProp (MM F) :=
  iprop((bigSep (otherRefs L) fun b => iprop(∃ f, ((d, b) : Loc nD τ sig) ↦{fullShare} f))
    ∗ bigSep (ownCells (thr d L) \ tileSems.image fun s => ((thr d L), s)) fun g => semVal g 0)

theorem slots_open' (L : grid0.Coords) :
    (iprop(∃ f : Buf (Elt F) (rLoc d L), rLoc d L ↦{fullShare} f) : sProp (MM F))
      ⊢ iprop((∃ f : Buf (Elt F) (rLoc d L), rLoc d L ↦[slotSet (sl 0).val 0 200]{fullShare} f)
        ∗ (∃ f : Buf (Elt F) (rLoc d L), rLoc d L ↦[slotSet (sl 1).val 0 200]{fullShare} f)
        ∗ (∃ f : Buf (Elt F) (rLoc d L), rLoc d L ↦[slotSet (sl 2).val 0 200]{fullShare} f)
        ∗ (∃ f : Buf (Elt F) (rLoc d L), rLoc d L ↦[slotSet (sl 3).val 0 200]{fullShare} f)) :=
  (slots_open (F := F) d L).trans (same (fin_four _))

theorem slots_close' (L : grid0.Coords) :
    (iprop((∃ f : Buf (Elt F) (rLoc d L), rLoc d L ↦[slotSet (sl 0).val 0 200]{fullShare} f)
        ∗ (∃ f : Buf (Elt F) (rLoc d L), rLoc d L ↦[slotSet (sl 1).val 0 200]{fullShare} f)
        ∗ (∃ f : Buf (Elt F) (rLoc d L), rLoc d L ↦[slotSet (sl 2).val 0 200]{fullShare} f)
        ∗ (∃ f : Buf (Elt F) (rLoc d L), rLoc d L ↦[slotSet (sl 3).val 0 200]{fullShare} f)) : sProp (MM F))
      ⊢ iprop(∃ f : Buf (Elt F) (rLoc d L), rLoc d L ↦{fullShare} f) :=
  (same (fin_four fun s => iprop(∃ f : Buf (Elt F) (rLoc d L), rLoc d L ↦[slotSet s.val 0 200]{fullShare} f)).symm).trans (slots_close (F := F) d L)

theorem goes_open (c : Fin 2) (i : Fin 16) :
    Goes d mk tb c i ⊢ iprop(Mask (F := F) d (coordsV c i) mk ∗ Shares d (coordsV c i) tb (qA c i) (qB c i) (sl 0)
      ∗ Shares d (coordsV c i) tb (qA c i) (qB c i) (sl 1) ∗ Shares d (coordsV c i) tb (qA c i) (qB c i) (sl 2)
      ∗ Shares d (coordsV c i) tb (qA c i) (qB c i) (sl 3) ∗ Waiting (F := F) d (coordsV c i) 0) := by
  unfold Goes
  rw [fin_four]
  iintro ⟨Hk, ⟨Q0, Q1, Q2, Q3⟩, Hwt⟩
  isplitl [Hk]; · iexact Hk
  isplitl [Q0]; · iexact Q0
  isplitl [Q1]; · iexact Q1
  isplitl [Q2]; · iexact Q2
  isplitl [Q3]; · iexact Q3
  iexact Hwt

theorem comes_close (c : Fin 2) (i : Fin 16) :
    iprop(Mask (F := F) d (coordsV c i) mk ∗ Shares d (coordsV c i) tb (qA c i) (qB c i) (sl 0)
      ∗ Shares d (coordsV c i) tb (qA c i) (qB c i) (sl 1) ∗ Shares d (coordsV c i) tb (qA c i) (qB c i) (sl 2)
      ∗ Shares d (coordsV c i) tb (qA c i) (qB c i) (sl 3) ∗ Rows d (coordsV c i) mk tb) ⊢ Comes d mk tb c i := by
  unfold Comes
  rw [fin_four]
  iintro ⟨Hk, Q0, Q1, Q2, Q3, Hwt⟩
  isplitl [Hk]; · iexact Hk
  isplitr [Hwt]
  · isplitl [Q0]; · iexact Q0
    isplitl [Q1]; · iexact Q1
    isplitl [Q2]; · iexact Q2
    iexact Q3
  iexact Hwt

variable (O : CellTallies nD τ sig (HIx 1)) (W : Waits sig (HIx 1))

/-- What a tile takes, with its own buffers and semaphores, is what its program asks for. -/
theorem tile_open (c : Fin 2) (i : Fin 16) (hF : (K (F := F)).Facts) (hO : ∀ g, O g none = 0) :
    (iprop(levAts (K (F := F)).L (K (F := F)).lev ∗ emp ∗ Goes d mk tb c i
        ∗ scopedBufs (thr d (coordsV c i)) ∗ scopedSems0 (thr d (coordsV c i)) ∗ owes (thr d (coordsV c i)) O W) : sProp (MM F))
      ⊢ iprop(Before d (coordsV c i) mk tb (qA c i) (qB c i) O W ∗ Others (F := F) d (coordsV c i)) := by
  generalize hL : coordsV c i = L
  rw [(K (F := F)).scopedBufs_V hF d (cV L) (jV L), SparseCore.Cfg.scopedSems0_V (Val := Elt F) d (cV L) (jV L), sems_split, bufs_split, tileSems_eq]
  unfold Before Spare Ow Others
  iintro ⟨#Hlv, -, Hgo, ⟨Hm, Hg, Hc, Hr, Hbufs⟩, ⟨⟨Hz, A0, B0, C0, A1, B1, C1, A2, B2, C2, A3, B3, C3⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hgo := (goes_open d mk tb c i) $$ Hgo
  rw [hL]
  icases Hgo with ⟨Hk, Q0, Q1, Q2, Q3, Hwt⟩
  ihave Hr := (slots_open' (F := F) d L) $$ Hr
  icases Hr with ⟨R0, R1, R2, R3⟩
  isplitr [Hbufs Hsems]
  swap
  · isplitl [Hbufs]; · iexact Hbufs
    iexact Hsems
  isplitl [Hk]; · iexact Hk
  isplitl [Hm]; · iexact Hm
  isplitl [Hc]; · iexact Hc
  isplitl [Hg]; · iexact Hg
  isplitl [R0 A0 B0 C0 Q0]
  · isplitl [R0]; · iexact R0
    isplitl [A0]; · iexact A0
    isplitl [B0]; · iexact B0
    isplitl [C0]; · iexact C0
    iexact Q0
  isplitl [R1 A1 B1 C1 Q1]
  · isplitl [R1]; · iexact R1
    isplitl [A1]; · iexact A1
    isplitl [B1]; · iexact B1
    isplitl [C1]; · iexact C1
    iexact Q1
  isplitl [R2 A2 B2 C2 Q2]
  · isplitl [R2]; · iexact R2
    isplitl [A2]; · iexact A2
    isplitl [B2]; · iexact B2
    isplitl [C2]; · iexact C2
    iexact Q2
  isplitl [R3 A3 B3 C3 Q3]
  · isplitl [R3]; · iexact R3
    isplitl [A3]; · iexact A3
    isplitl [B3]; · iexact B3
    isplitl [C3]; · iexact C3
    iexact Q3
  isplitl [Hwt]; · iexact Hwt
  isplitl [Hz]; · iexact Hz
  isplitl [Hmw]; · iexact Hmw
  iexists W
  isplitr
  · ipureintro; exact fun p hp => .inl hp
  iexact HO

/-- What its program leaves is what it brings back, with its own buffers and semaphores. -/
theorem tile_close (c : Fin 2) (i : Fin 16) (hF : (K (F := F)).Facts) :
    (iprop(After d (coordsV c i) mk tb (qA c i) (qB c i) O W ∗ Others (F := F) d (coordsV c i)) : sProp (MM F))
      ⊢ iprop(Comes d mk tb c i ∗ scopedBufs (thr d (coordsV c i)) ∗ scopedSems0 (thr d (coordsV c i))
            ∗ ∃ W', ⌜∀ p ∈ W', p ∈ W ∨ p.2 = none⌝ ∗ owes (thr d (coordsV c i)) O W') := by
  have hcl := comes_close d mk tb c i
  generalize hL : coordsV c i = L at hcl ⊢
  rw [(K (F := F)).scopedBufs_V hF d (cV L) (jV L), SparseCore.Cfg.scopedSems0_V (Val := Elt F) d (cV L) (jV L), sems_split, bufs_split, tileSems_eq]
  unfold After Spare Ow Others
  iintro ⟨⟨Hk, Hm, Hc, Hg, ⟨R0, A0, B0, C0, Q0⟩, ⟨R1, A1, B1, C1, Q1⟩, ⟨R2, A2, B2, C2, Q2⟩, ⟨R3, A3, B3, C3, Q3⟩, Hrows, Hz, -, HO⟩, Hbufs, Hsems⟩
  isplitl [Hk Q0 Q1 Q2 Q3 Hrows]
  · iapply hcl
    isplitl [Hk]; · iexact Hk
    isplitl [Q0]; · iexact Q0
    isplitl [Q1]; · iexact Q1
    isplitl [Q2]; · iexact Q2
    isplitl [Q3]; · iexact Q3
    iexact Hrows
  isplitl [Hm Hc Hg R0 R1 R2 R3 Hbufs]
  · isplitl [Hm]; · iexact Hm
    isplitl [Hg]; · iexact Hg
    isplitl [Hc]; · iexact Hc
    isplitr [Hbufs]
    · iapply (slots_close' (F := F) d L)
      isplitl [R0]; · iexact R0
      isplitl [R1]; · iexact R1
      isplitl [R2]; · iexact R2
      iexact R3
    iexact Hbufs
  isplitr [HO]
  · isplitr [Hsems]
    · isplitl [Hz]; · iexact Hz
      isplitl [A0]; · iexact A0
      isplitl [B0]; · iexact B0
      isplitl [C0]; · iexact C0
      isplitl [A1]; · iexact A1
      isplitl [B1]; · iexact B1
      isplitl [C1]; · iexact C1
      isplitl [A2]; · iexact A2
      isplitl [B2]; · iexact B2
      isplitl [C2]; · iexact C2
      isplitl [A3]; · iexact A3
      isplitl [B3]; · iexact B3
      iexact C3
    iexact Hsems
  iexact HO

theorem tile_body (c : Fin 2) (i : Fin 16) (hF : (K (F := F)).Facts) (hO : ∀ g, O g none = 0) :
    (iprop(levAts (K (F := F)).L (K (F := F)).lev ∗ emp ∗ Goes d mk tb c i
        ∗ scopedBufs (thr d (coordsV c i)) ∗ scopedSems0 (thr d (coordsV c i)) ∗ owes (thr d (coordsV c i)) O W) : sProp (MM F))
      ⊢ wp frame (wpE (defs₀ (F := F)) 𝒱₀ (thr d (coordsV c i)) none) Set.univ
          (cc0_sc_gather (coordsV c i) (Memref.whole main_v0_scv) (Memref.isWhole_whole _) (Memref.whole main_v1_scv) (Memref.isWhole_whole _)
            (Memref.whole main_v2_scv) (Memref.isWhole_whole _) mB (Memref.isWhole_whole _) gB (Memref.isWhole_whole _)
            cB (Memref.isWhole_whole _) rB (Memref.isWhole_whole _) cc0_scratch4 cc0_scratch5 cc0_scratch6 cc0_scoped0)
          fun _ => iprop(Comes d mk tb c i ∗ scopedBufs (thr d (coordsV c i)) ∗ scopedSems0 (thr d (coordsV c i))
            ∗ ∃ W', ⌜∀ p ∈ W', p ∈ W ∨ p.2 = none⌝ ∗ owes (thr d (coordsV c i)) O W') :=
  (tile_open d mk tb O W c i hF hO).trans
    ((BI.sep_mono (run_tile d (coordsV c i) mk tb (qA c i) (qB c i) O W) (same rfl)).trans
      ((wp_frame_r frame _ _).trans (wp_mono frame _ _ fun _ => tile_close d mk tb O W c i hF)))

/-! ## The obligations of the launch -/

theorem defs₀_vector (c : Fin τ.nSC) (s : Fin τ.nSub) :
    defs₀ (F := F) (.scVector c s) 0 ()
      = SparseCore.onTile hcore0 hsub0 (fun c s => cc0_sc_gather (coordsV c s)
          (Memref.whole main_v0_scv) (Memref.isWhole_whole _) (Memref.whole main_v1_scv) (Memref.isWhole_whole _)
          (Memref.whole main_v2_scv) (Memref.isWhole_whole _) mB (Memref.isWhole_whole _) gB (Memref.isWhole_whole _)
          cB (Memref.isWhole_whole _) rB (Memref.isWhole_whole _) cc0_scratch4 cc0_scratch5 cc0_scratch6 cc0_scoped0) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (words m d) (table m d) O W (cOf (F := F) c) (iOf (F := F) i) facts hO).trans (wp_mono frame _ _ fun _ => obl_post)

end Tile

theorem vecSplit : (K (F := F)).VecSplit' (P m) 0 := by
  intro d c
  show (bigSep Finset.univ fun i : Fin 16 => Goes d (words m d) (table m d) (cOf (F := F) c) i) ⊢ |={Set.univ}=> iprop(
      (bigSep Finset.univ fun i : Fin 16 => Goes d (words m d) (table m d) (cOf (F := F) c) i)
      ∗ ((bigSep Finset.univ fun i : Fin 16 => Comes d (words m d) (table m d) (cOf (F := F) c) i)
          -∗ (bigSep Finset.univ fun i : Fin 16 => Comes d (words m d) (table m d) (cOf (F := F) c) i)))
  iintro H; imodintro
  isplitl [H]; · iexact H
  iintro H
  iexact H

def u₀ : UU := (initOf (K (F := F)).hsCells (K (F := F)).hsToks, 1)

theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The run -/

attribute [local irreducible] Goes Comes Idealize.SL.BI.bigSep

theorem st0_eq (d : Dev nD) : (bigSep Finset.univ fun c : Fin ((K (F := F)).nCore 0) => (P m).st 0 d c)
    = bigSep Finset.univ fun c : Fin 2 => bigSep Finset.univ fun i : Fin 16 => Goes d (words m d) (table m d) c i :=
  bigSep_congr fun c _ => (rfl : (P m).st 0 d c = bigSep Finset.univ fun i : Fin 16 => Goes d (words m d) (table m d) (cOf (F := F) c) i)
theorem dn0_eq (d : Dev nD) : (bigSep Finset.univ fun c : Fin ((K (F := F)).nCore 0) => (P m).dn 0 d c)
    = bigSep Finset.univ fun c : Fin 2 => bigSep Finset.univ fun i : Fin 16 => Comes d (words m d) (table m d) c i :=
  bigSep_congr fun c _ => (rfl : (P m).dn 0 d c = bigSep Finset.univ fun i : Fin 16 => Comes d (words m d) (table m d) (cOf (F := F) c) i)

/-- The result. -/
def outOf (d : Dev nD) : S204800x128.Idx → F .f32 := outF (words m d) (table m d)

abbrev FIN (d : Dev nD) : sProp (MM F) :=
  iprop((xLoc d ↦{fullShare} m (xLoc d)) ∗ (bLoc d ↦{fullShare} m (bLoc d)) ∗ (oT d ↦{fullShare} (outOf m d : Buf (Elt F) (oT d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opWords) (S := S5) hWords (V := V0 m d)) $$ [Hb Hheld]
  · isplitl [Hb] <;> iassumption
  iintro ⟨Hb, Hheld⟩
  rw [wp_ret]; imodintro
  iapply (wp_hlo_within 𝒱 (SparseCore.T d) none Set.univ (op := opTable) (S := S5) hTable (V := (opWords (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hx, Hbm, Hk, Ht, Ho⟩
  iapply ((K (F := F)).wp_run (D (F := F)) 𝒱 (EH := EH) (P := P m) κ d 0) $$ [Hst Hx Hbm Hk Ht Ho Hb Hts]
  isplitr; · iexact Hctx
  isplitl [Hst]; · iexact Hst
  isplitl [Hk Ht Ho]
  · rw [st0_eq]
    iapply (goes_all d (words m d) (table m d))
    isplitl [Hk]; · iexact Hk
    isplitl [Ht]; · iexact Ht
    iexists _; iexact Ho
  iintro ⟨Hst, Hdn⟩
  ihave Hdn := (Entails.of_eq (dn0_eq m d)) $$ Hdn
  ihave Hdn := (comes_all d (words m d) (table m d)) $$ Hdn
  icases Hdn with ⟨-, -, Ho⟩
  imodintro
  isplitl [Hst]; · iexact Hst
  isplitr [Hb Hts]
  · isplitl [Hx]; · iexact Hx
    isplitl [Hbm]; · iexact Hbm
    iexact Ho
  isplitl [Hb] <;> iassumption

def fq (d : Dev nD) (s' : Phys nD τ sig (Elt F)) : Prop :=
  s'.mem.mem (xLoc d) = m (xLoc d) ∧ s'.mem.mem (bLoc d) = m (bLoc d) ∧ s'.mem.mem (oT d) = outOf m d

set_option maxRecDepth 16384 in
theorem hfin (d : Dev nD) (s' : Phys nD τ sig (Elt F)) : iprop(FIN m d ∗ SI s') ⊢ (⌜fq m d s'⌝ : sProp (MM F)) := by
  iintro ⟨⟨Hx, Hb, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oT d) (I := Finset.univ) (q := fullShare) (f := outOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (xLoc c) = m (xLoc c) ∧ r.2.mem (bLoc c) = m (bLoc c) ∧ r.2.mem (oT c) = outOf m c) ∧ r.2.sem = fun _ => 0

/-- The program runs; it leaves its arguments as they were, its result at `outOf`, and every semaphore at zero. -/
theorem run_main [∀ e, Nonempty (Elt F e)] :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdealRun
-- ==== Proof.ExampleRun.lean ====
/-
  The reference of the repeated examples, operation by operation, and what its run leaves: the columns of every row
  sorted by key (the valid ones first, each group in order), read cyclically at the number of valid columns, and the
  lines of the argument at the columns read.
-/
module

public import proofs.«01_k».proof.Defs
public import proofs.«01_k».proof.Proof.Gen.ExampleIdeal
public import Idealize.ShloMosaic.Lib.Pipeline.ValueKit
public import Idealize.ShloMosaic.Lib.Claim
public import Idealize.ShloMosaic.Lib.Quiescent

@[expose] public section

noncomputable section

open Idealize.ShloMosaic Idealize.ShloMosaic.TcCoe Idealize.SL.Sem

namespace Cert.ExampleIdeal.Value

open Cert.ExampleIdeal Cert.ExampleIdeal.Gen

/-- The columns' numbers in every row. -/
def cols : IVec S1024x200 32 :=
  broadcastInDim S1024x200 ![0, 1] bcast_S1x200_S1024x200_0_1 (broadcastInDim S1x200 ![1] bcast_S200_S1x200_1 (iotaInDim S200 32 0))

/-- Each column's key: its number, 200 more where the mask is off. -/
def keys (mask : IVec S1024x200 1) : IVec S1024x200 32 :=
  addi (id (muli (select mask (broadcastInDim S1024x200 ![] bcast_S_S1024x200 (constantI S_ 32 0#32))
      (broadcastInDim S1024x200 ![] bcast_S_S1024x200 (constantI S_ 32 1#32)))
    (broadcastInDim S1024x200 ![] bcast_S_S1024x200 (constantI S_ 32 200#32)))) cols

/-- Each row's columns in the order of their keys. -/
def order (mask : IVec S1024x200 1) : IVec S1024x200 32 :=
  (Host.sort2 S1024x200 1 comparator_i32_i32_d1 (keys mask) (iotaInDim S1024x200 32 1)).2

/-- Each row's number of valid columns, one if there is none. -/
def counts (mask : IVec S1024x200 1) : IVec S1024x1 32 :=
  broadcastInDim S1024x1 ![0] bcast_S1024_S1024x1_0
    (maxsi (Host.reduce IntOp.addi (extui 32 mask natLt_1_32) (constantI S_ 32 0#32) reducesTo_S1024x200_S1024_d1 h_S_)
      (broadcastInDim S1024 ![] bcast_S_S1024 (constantI S_ 32 1#32)))

/-- The divisor, a zero replaced by one. -/
def divisor (n : IVec S1024x1 32) : IVec S1024x1 32 :=
  select (cmpi .eq n (broadcastInDim S1024x1 ![] bcast_S_S1024x1 (constantI S_ 32 0#32)))
    (broadcastInDim S1024x1 ![] bcast_S_S1024x1 (constantI S_ 32 1#32)) n

/-- The remainder of the columns' numbers by each row's `n`, rounded toward zero. -/
def rem (n : IVec S1024x1 32) : IVec S1024x200 32 :=
  Host.remsi cols (broadcastInDim S1024x200 ![0, 1] bcast_S1024x1_S1024x200_0_1 (divisor n))

/-- The remainder with the divisor's sign. -/
def modulo (n : IVec S1024x1 32) : IVec S1024x200 32 :=
  select
    (andi
      (cmpi .ne (cmpi .slt (rem n) (broadcastInDim S1024x200 ![] bcast_S_S1024x200 (constantI S_ 32 0#32)))
        (broadcastInDim S1024x200 ![0, 1] bcast_S1024x1_S1024x200_0_1
          (cmpi .slt (divisor n) (broadcastInDim S1024x1 ![] bcast_S_S1024x1 (constantI S_ 32 0#32)))))
      (cmpi .ne (rem n) (broadcastInDim S1024x200 ![] bcast_S_S1024x200 (constantI S_ 32 0#32))))
    (addi (rem n) (broadcastInDim S1024x200 ![0, 1] bcast_S1024x1_S1024x200_0_1 (divisor n)))
    (rem n)

/-- A negative index counted from the end. -/
def wrap (s : Shape) (h : S_.BroadcastsInDim s (![] : Fin 0 → Fin s.rank)) (i : IVec s 32) : IVec s 32 :=
  select (cmpi .slt i (broadcastInDim s ![] h (constantI S_ 32 0#32)))
    (addi i (broadcastInDim s ![] h (constantI S_ 32 200#32))) i

/-- Which indices are in range. -/
def inRange (i : IVec S1024x200x1 32) : IVec S1024x200 1 :=
  Host.reduce IntOp.andi
    (andi (cmpi .sge i (broadcastInDim S1024x200x1 ![] bcast_S_S1024x200x1 (constantI S_ 32 0#32)))
      (cmpi .sle i (broadcastInDim S1024x200x1 ![0, 1, 2] bcast_S1x1x1_S1024x200x1_0_1_2
        (broadcastInDim S1x1x1 ![2] bcast_S1_S1x1x1_2 (constantI S1 32 199#32)))))
    (constantI S_ 1 1#1) reducesTo_S1024x200x1_S1024x200_d2 h_S_

/-- The first gather's start indices. -/
def starts (i : IVec S1024x200 32) : IVec S1024x200x1 32 :=
  shapeCast S1024x200x1 (wrap S1024x200 bcast_S_S1024x200 i) shapeCasts_S1024x200_S1024x200x1

/-- Each row of `x` read at the row's indices. -/
def take (x i : IVec S1024x200 32) : IVec S1024x200 32 :=
  select (inRange (starts i))
    (Host.gather gather_S1024x200_S1024x200x1_S1024x200_n_1_0_0_1_2_11 x (starts i))
    (broadcastInDim S1024x200 ![] bcast_S_S1024x200 (constantI S_ 32 2147483648#32))

/-- Each row's lines of `x` read at the row's indices. -/
def takeLines (x : FVec Ideal S1024x200x128 .f32) (i : IVec S1024x200x1 32) : FVec Ideal S1024x200x128 .f32 :=
  select (broadcastInDim S1024x200x128 ![0, 1] bcast_S1024x200_S1024x200x128_0_1
      (inRange (wrap S1024x200x1 bcast_S_S1024x200x1 i)))
    (Host.gather gather_S1024x200x128_S1024x200x1_S1024x200x128_2_1_0_0_1_2_11128 x (wrap S1024x200x1 bcast_S_S1024x200x1 i))
    (broadcastInDim S1024x200x128 ![] bcast_S_S1024x200x128 (constant S_ .f32 0x7FC00000#32))

/-- The column each place of each row reads. -/
def picks (mask : IVec S1024x200 1) : IVec S1024x200 32 := take (order mask) (modulo (counts mask))

/-- The reference's result. -/
def out (x : FVec Ideal S1024x200x128 .f32) (mask : IVec S1024x200 1) : FVec Ideal S204800x128 .f32 :=
  shapeCast S204800x128
    (takeLines x (broadcastInDim S1024x200x1 ![0, 1] bcast_S1024x200_S1024x200x1_0_1 (picks mask)))
    shapeCasts_S1024x200x128_S204800x128

variable (m : (ℓ : Loc nD τ sig) → Buf (Elt Ideal) ℓ) (ρ : Dev nD → PrngReg)

attribute [local irreducible] Host.sort2 Host.reduce Host.gather Host.remsi shapeCast broadcastInDim select cmpi addi muli andi maxsi
  extui iotaInDim constantI constant

/-- The run, read at the result and at the arguments. -/
theorem run : θ_run defs (onTc (τ := τ) (main (F := Ideal))) ⟨m, fun _ => 0, ρ⟩ fun r => ∀ c : Dev nD,
      r.2.mem ((c : Thread nD τ).loc main_v20) = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  hlo_run
  show _ = out _ _
  simp only [StableHlo.TRef.ofBuf_toBuf]
  set_option maxRecDepth 100000 in rfl

end Cert.ExampleIdeal.Value

end
-- ==== Proof.Places.lean ====
/-
  The place column `j` reads, over the extended reals: `j` modulo the list's length. The kernel multiplies `j` by the
  reciprocal of the length, adds a shift of 1/4096 and rounds down; a quotient by at most 200 lies at least 1/200 below
  the next whole number, so the shift never carries it over and the rounded quotient is the exact one.
-/
module

public import proofs.«01_k».proof.Proof.Rows
public import Idealize.ShloMosaic.PureOps.Ideal.Laws
public import Idealize.ShloMosaic.Lib.IdealHost

@[expose] public section

noncomputable section

open Idealize.ShloMosaic

namespace Cert.Rows

/-- The rounded-down shifted quotient. -/
theorem floor_quot (j n : ℕ) (hn : 0 < n) (hn' : n ≤ 200) : ⌊(j : ℝ) * (1 / (n : ℝ)) + 1 / 4096⌋ = ((j / n : ℕ) : ℤ) := by
  have hn0 : (0 : ℝ) < n := by exact_mod_cast hn
  rw [Int.floor_eq_iff]
  have hd : (j : ℝ) = n * (j / n : ℕ) + (j % n : ℕ) := by exact_mod_cast (Nat.div_add_mod j n).symm
  have hm : ((j % n : ℕ) : ℝ) + 1 ≤ n := by exact_mod_cast Nat.mod_lt j hn
  have hm0 : (0 : ℝ) ≤ ((j % n : ℕ) : ℝ) := Nat.cast_nonneg _
  have hq : (j : ℝ) * (1 / (n : ℝ)) = (j / n : ℕ) + (j % n : ℕ) / (n : ℝ) := by
    rw [hd]; field_simp
  have h1 : ((j % n : ℕ) : ℝ) / n ≤ 1 - 1 / 200 := by
    rw [div_le_iff₀ hn0]
    have : (n : ℝ) ≤ 200 := by exact_mod_cast hn'
    nlinarith
  have h2 : 0 ≤ ((j % n : ℕ) : ℝ) / n := by positivity
  rw [hq]
  rw [Int.cast_natCast]
  constructor
  · linarith
  · linarith

theorem ofBits_shift : Ideal.ofBits .f32 0x39800000#32 = ((1 / 4096 : ℝ) : EReal) := by
  simp [Ideal.ofBits, Ideal.ieee, -EReal.coe_mul]; norm_num

theorem ofBits_col (c : ℕ) (hc : c < 13) : Ideal.ofBits .f32 (colF c) = (((16 * c : ℕ) : ℝ) : EReal) := by
  interval_cases c <;> simp [colF, Ideal.ofBits, Ideal.ieee, -EReal.coe_mul] <;> norm_num

theorem toInt_small {n : ℕ} (h : n ≤ 1000) : (BitVec.ofNat 32 n).toInt = n := by
  rw [BitVec.toInt_ofNat']; simp [Int.bmod]; omega

theorem toNat_small {n : ℕ} (h : n ≤ 1000) : (BitVec.ofNat 32 n).toNat = n := by
  rw [BitVec.toNat_ofNat]; omega

/-- The kernel's quotient word. -/
theorem quot_word {j n : ℕ} (hj : j < 200) (hn : 0 < n) (hn' : n ≤ 200) :
    Ideal.fptosi 32 ((((j : ℝ) * (1 / (n : ℝ)) + 1 / 4096 : ℝ)) : EReal) = BitVec.ofNat 32 (j / n) := by
  have hq : j / n ≤ j := Nat.div_le_self j n
  have h0 : (0 : ℝ) ≤ (j : ℝ) * (1 / (n : ℝ)) + 1 / 4096 := by positivity
  show BitVec.ofInt 32 (max _ (min _ (if 0 ≤ _ then _ else _))) = _
  rw [if_pos h0, floor_quot j n hn hn', ← BitVec.ofInt_natCast]
  generalize j / n = q at hq
  have hq' : (q : ℤ) ≤ 199 := by omega
  rw [min_eq_right (by norm_num; omega), max_eq_right (by norm_num)]

/-- Within the list the clamp changes nothing. -/
theorem clamp_id {x n : ℕ} (hx : x < n) (hn : n ≤ 200) :
    (IntOp.minsi (IntOp.maxsi (BitVec.ofNat 32 x) 0#32) (BitVec.ofNat 32 n - 1#32)).toNat = x := by
  have e0 : IntOp.maxsi (BitVec.ofNat 32 x) 0#32 = BitVec.ofNat 32 x := by
    show (if (0#32).slt (BitVec.ofNat 32 x) then BitVec.ofNat 32 x else 0#32) = _
    rw [BitVec.slt_eq_decide, toInt_small (n := x) (by omega)]
    by_cases h : x = 0
    · subst h; simp
    · rw [if_pos (by rw [decide_eq_true_eq, show (0#32).toInt = 0 from rfl]; omega)]
  rw [e0, show BitVec.ofNat 32 n - 1#32 = BitVec.ofNat 32 (n - 1) from sub_ofNat (by omega)]
  show (if (BitVec.ofNat 32 x).slt (BitVec.ofNat 32 (n - 1)) then BitVec.ofNat 32 x else BitVec.ofNat 32 (n - 1) : BitVec 32).toNat = _
  rw [BitVec.slt_eq_decide, toInt_small (by omega), toInt_small (by omega)]
  by_cases h : x < n - 1
  · rw [if_pos (by simpa using by omega), toNat_small (by omega)]
  · rw [if_neg (by simpa using by omega), toNat_small (by omega)]; omega

variable (b : ℕ → Prop) [DecidablePred b]

/-- Over the extended reals column `j` reads place `j` modulo the list's length. -/
theorem placeOf_ideal {j : ℕ} (hj : j < 200) : placeOf Ideal b j = j % len b := by
  have hn := len_pos b
  have hn' := len_le b
  unfold placeOf
  generalize len b = n at hn hn'
  show (IntOp.minsi (IntOp.maxsi (lane (ln ⟨j % 16, _⟩) + BitVec.ofNat 32 (16 * (j / 16)) - BitVec.ofNat 32 n
    * Ideal.fptosi 32 (((((lane (ln ⟨j % 16, _⟩)).toInt : ℝ) : EReal) + Ideal.ofBits .f32 (colF (j / 16)))
      * Ideal.div (Ideal.ofBits .f32 0x3F800000#32) (((BitVec.ofNat 32 n).toInt : ℝ) : EReal)
      + Ideal.ofBits .f32 0x39800000#32)) 0#32) (BitVec.ofNat 32 n - 1#32)).toNat = _
  have hnr : ((n : ℕ) : ℝ) ≠ 0 := by exact_mod_cast hn.ne'
  have hlane : lane (ln ⟨j % 16, Nat.mod_lt _ (by decide)⟩) = BitVec.ofNat 32 (j % 16) := lane_apply _
  rw [hlane, toInt_small (by omega), toInt_small (by omega), Ideal.ofBits_one_f32, ofBits_shift, ofBits_col _ (by omega),
    Int.cast_natCast, Int.cast_natCast, Ideal.div_coe hnr, one_mul, ← EReal.coe_add, ← EReal.coe_mul, ← EReal.coe_add,
    ← Nat.cast_add, show j % 16 + 16 * (j / 16) = j by omega, quot_word hj hn hn', ← BitVec.ofNat_add,
    show j % 16 + 16 * (j / 16) = j by omega, ← BitVec.ofNat_mul, sub_ofNat (Nat.mul_div_le j n),
    ← Nat.mod_eq_sub_mul_div, clamp_id (Nat.mod_lt j hn) hn']

/-- Over the extended reals column `j` takes the selected column at `j` modulo the list's length. -/
theorem colOf_ideal {j : ℕ} (hj : j < 200) : colOf Ideal b j = sel b (j % len b) := by rw [colOf, placeOf_ideal b hj]

end Cert.Rows

end
-- ==== Proof.ExampleValue.lean ====
/-
  The reference's result, read at an index. A row's sorted columns begin with its valid ones in order, so the row's
  place `j` reads the valid column number `j` modulo how many there are, and its line of the argument.
-/
module

public import proofs.«01_k».proof.Proof.ExampleRun
public import proofs.«01_k».proof.Proof.Places
public import Idealize.ShloMosaic.Lib.SortPrefix
public import Idealize.ShloMosaic.Lib.ReduceAll
public import Idealize.ShloMosaic.Lib.ValueIdxCore
public import Mathlib.Data.BitVec

@[expose] public section

noncomputable section

open Idealize.ShloMosaic

namespace Cert.ExampleIdeal.Value

open Cert.ExampleIdeal Cert.ExampleIdeal.Gen
open Cert.Rows (sel len sel_spec toInt_small toNat_small len_pos len_le)

/-! ## The two gathers -/

/-- The place of `(t, j)` in the start indices. -/
abbrev at3 (t : Fin 1024) (j : Fin 200) : S1024x200x1.Idx := ValueIdx.ix3 t j ⟨0, Nat.one_pos⟩

theorem gather_cols {α : Type} (x : S1024x200.Idx → α) (idx : IVec S1024x200x1 32) (t : Fin 1024) (j : Fin 200) (k : Fin 200)
    (hk : idx (at3 t j) = BitVec.ofNat 32 k.val) :
    Host.gather gather_S1024x200_S1024x200x1_S1024x200_n_1_0_0_1_2_11 x idx (ValueIdx.ix2 t j) = x (ValueIdx.ix2 t k) := by
  have hk' := k.isLt
  unfold Host.gather
  congr 1
  funext a
  refine Fin.ext ?_
  match a with
  | ⟨0, _⟩ => exact Nat.zero_add _
  | ⟨1, _⟩ =>
    show min (idx _).toInt.toNat 199 + 0 + 0 = k.val
    rw [show ∀ i, i = at3 t j → (idx i).toInt.toNat = k.val from fun i hi => by rw [hi, hk, toInt_small (by omega)]; rfl]
    · omega
    · funext b
      match b with
      | ⟨0, _⟩ => rfl
      | ⟨1, _⟩ => rfl
      | ⟨2, _⟩ => rfl

theorem gather_lines {α : Type} (x : S1024x200x128.Idx → α) (idx : IVec S1024x200x1 32) (t : Fin 1024) (j : Fin 200) (c : Fin 128)
    (k : Fin 200) (hk : idx (at3 t j) = BitVec.ofNat 32 k.val) :
    Host.gather gather_S1024x200x128_S1024x200x1_S1024x200x128_2_1_0_0_1_2_11128 x idx (ValueIdx.ix3 t j c) = x (ValueIdx.ix3 t k c) := by
  have hk' := k.isLt
  unfold Host.gather
  congr 1
  funext a
  refine Fin.ext ?_
  match a with
  | ⟨0, _⟩ => exact Nat.zero_add _
  | ⟨1, _⟩ =>
    show min (idx _).toInt.toNat 199 + 0 + 0 = k.val
    rw [show ∀ i, i = at3 t j → (idx i).toInt.toNat = k.val from fun i hi => by rw [hi, hk, toInt_small (by omega)]; rfl]
    · omega
    · funext b
      match b with
      | ⟨0, _⟩ => rfl
      | ⟨1, _⟩ => rfl
      | ⟨2, _⟩ => rfl
  | ⟨2, _⟩ => exact Nat.zero_add _

/-! ## Indices in range -/

/-- Every entry is below 200. -/
def Small {s : Shape} (i : IVec s 32) : Prop := ∀ x, ∃ k : Fin 200, i x = BitVec.ofNat 32 k.val

theorem wrap_small {s : Shape} (h : S_.BroadcastsInDim s (![] : Fin 0 → Fin s.rank)) {i : IVec s 32} (hi : Small i) : wrap s h i = i := by
  funext x
  obtain ⟨k, hk⟩ := hi x
  show Scalar.select (BitVec.ofBool ((i x).slt 0#32)) _ (i x) = i x
  rw [hk, BitVec.slt_eq_decide, toInt_small (n := k.val) (by omega), decide_eq_false (by rw [show (0#32).toInt = 0 from rfl]; omega)]
  rfl

theorem inRange_small {i : IVec S1024x200x1 32} (hi : Small i) (y : S1024x200.Idx) : inRange i y = 1#1 := by
  refine Host.reduce_andi_one _ _ _ _ y rfl fun x => ?_
  obtain ⟨k, hk⟩ := hi x
  show BitVec.ofBool ((0#32).sle (i x)) &&& BitVec.ofBool ((i x).sle 199#32) = 1#1
  rw [hk, BitVec.sle_eq_decide, BitVec.sle_eq_decide, toInt_small (n := k.val) (by omega),
    decide_eq_true (by rw [show (0#32).toInt = 0 from rfl]; omega), decide_eq_true (by rw [show (199#32).toInt = 199 from rfl]; omega)]
  rfl

theorem starts_small {i : IVec S1024x200 32} (hi : Small i) (t : Fin 1024) (j : Fin 200) : starts i (at3 t j) = i (ValueIdx.ix2 t j) := by
  unfold starts
  rw [wrap_small _ hi]
  refine shapeCast_apply _ _ _ (ValueIdx.ix2 t j) ?_
  rw [Shape.rowMajor_val_two, Shape.rowMajor_val_three]
  show t.val * 200 + j.val = (t.val * 200 + j.val) * 1 + 0
  omega

theorem starts_all {i : IVec S1024x200 32} (hi : Small i) : Small (starts i) := by
  intro x
  obtain ⟨k, hk⟩ := hi (ValueIdx.ix2 (x 0) (x 1))
  refine ⟨k, ?_⟩
  rw [← hk, ← starts_small hi (x 0) (x 1)]
  congr 1
  funext a
  match a with
  | ⟨0, _⟩ => rfl
  | ⟨1, _⟩ => rfl
  | ⟨2, _⟩ => exact Subsingleton.elim (α := Fin 1) _ _

theorem select_on {s : Shape} {α : Type} {p : IVec s 1} (a b : s.Idx → α) {y : s.Idx} (h : p y = 1#1) : select p a b y = a y := by
  show Scalar.select (p y) _ _ = _
  rw [h]; rfl

theorem take_apply (x : IVec S1024x200 32) {i : IVec S1024x200 32} (hi : Small i) (t : Fin 1024) (j k : Fin 200)
    (hk : i (ValueIdx.ix2 t j) = BitVec.ofNat 32 k.val) : take x i (ValueIdx.ix2 t j) = x (ValueIdx.ix2 t k) := by
  unfold take
  rw [select_on _ _ (inRange_small (starts_all hi) _)]
  exact gather_cols x _ t j k ((starts_small hi t j).trans hk)

theorem takeLines_apply (x : FVec Ideal S1024x200x128 .f32) {i : IVec S1024x200x1 32} (hi : Small i) (t : Fin 1024) (j k : Fin 200) (c : Fin 128)
    (hk : i (at3 t j) = BitVec.ofNat 32 k.val) : takeLines x i (ValueIdx.ix3 t j c) = x (ValueIdx.ix3 t k c) := by
  unfold takeLines
  have h : broadcastInDim S1024x200x128 ![0, 1] bcast_S1024x200_S1024x200x128_0_1 (inRange i) (ValueIdx.ix3 t j c) = 1#1 :=
    inRange_small hi _
  rw [wrap_small _ hi, select_on _ _ h]
  exact gather_lines x _ t j c k hk

/-! ## Counting a row's valid columns -/

section Row

variable {mask : IVec S1024x200 1} {t : Fin 1024} {b : ℕ → Prop} [DecidablePred b]
  (hb : ∀ k : Fin 200, b k.val ↔ mask (ValueIdx.ix2 t k) = 1#1)

theorem sum_count (n : ℕ) : ∑ k ∈ Finset.range n, (if b k then 1#32 else 0#32) = BitVec.ofNat 32 (Nat.count b n) := by
  induction n with
  | zero => rfl
  | succ n ih =>
    rw [Finset.sum_range_succ, ih, Nat.count_succ]
    by_cases h : b n
    · rw [if_pos h, if_pos h, BitVec.ofNat_add]
    · rw [if_neg h, if_neg h]; exact BitVec.add_zero _

theorem reduces : S1024x200.Reduces [1] S1024 := by decide

theorem lift_eq (k : Fin 200) : reduces.lift (ValueIdx.ix1 t) k = ValueIdx.ix2 t k := by
  funext a
  match a with
  | ⟨0, _⟩ => rfl
  | ⟨1, _⟩ => rfl

include hb in
theorem word_apply (k : Fin 200) : extui 32 mask natLt_1_32 (ValueIdx.ix2 t k) = if b k.val then 1#32 else 0#32 := by
  show (mask (ValueIdx.ix2 t k)).setWidth 32 = _
  by_cases h : b k.val
  · rw [if_pos h, (hb k).1 h]; rfl
  · rw [if_neg h, ValueIdx.eq_zero_of_ne_one (fun h' => h ((hb k).2 h'))]; rfl

include hb in
theorem reduce_count : Host.reduce IntOp.addi (extui 32 mask natLt_1_32) (constantI S_ 32 0#32) reducesTo_S1024x200_S1024_d1 h_S_
    (ValueIdx.ix1 t) = BitVec.ofNat 32 (Nat.count b 200) := by
  rw [Host.reduce_eq_fold_single _ _ _ _ reduces]
  refine Eq.trans ?_ ((Fin.sum_univ_eq_sum_range (fun k => if b k then 1#32 else 0#32) 200).trans (sum_count (b := b) 200))
  rw [Finset.sum_eq_fold]
  exact Finset.fold_congr fun k _ => (congrArg _ (lift_eq k)).trans (word_apply hb k)

include hb in
theorem counts_apply (y : S1024x1.Idx) (hy : y 0 = t) : counts mask y = BitVec.ofNat 32 (len b) := by
  unfold counts
  rw [show ∀ g : IVec S1024 32, broadcastInDim S1024x1 ![0] bcast_S1024_S1024x1_0 g y = g (ValueIdx.ix1 t) from fun g => by
    refine congrArg g (funext fun a => ?_)
    match a with
    | ⟨0, _⟩ => exact hy]
  have hx : ∀ (f g : IVec S1024 32) z, maxsi f g z = IntOp.maxsi (f z) (g z) := fun _ _ _ => rfl
  rw [hx, reduce_count hb]
  have h200 : Nat.count b 200 ≤ 200 := Nat.count_le b
  show (if (1#32).slt (BitVec.ofNat 32 (Nat.count b 200)) then _ else _) = BitVec.ofNat 32 (len b)
  unfold len
  rw [BitVec.slt_eq_decide, toInt_small (n := Nat.count b 200) (by omega), show (1#32).toInt = 1 from rfl]
  by_cases h : 1 < Nat.count b 200
  · rw [if_pos (decide_eq_true (by omega)), max_eq_left h.le]
  · rw [if_neg (by simpa using by omega), max_eq_right (by omega)]; rfl

end Row

/-! ## The remainder -/

theorem cols_apply (y : S1024x200.Idx) : cols y = BitVec.ofNat 32 (y 1).val := rfl

theorem srem_small {j n : ℕ} (hj : j < 200) (hn : 0 < n) (hn' : n ≤ 200) :
    (BitVec.ofNat 32 j).srem (BitVec.ofNat 32 n) = BitVec.ofNat 32 (j % n) := by
  apply BitVec.eq_of_toInt_eq
  have hm := Nat.mod_lt j hn
  rw [BitVec.toInt_srem, toInt_small (by omega), toInt_small (by omega), toInt_small (by omega), Int.tmod_eq_emod_of_nonneg (by omega)]
  norm_cast

theorem remsi_small (u : ArithUnit) {j n : ℕ} (hj : j < 200) (hn : 0 < n) (hn' : n ≤ 200) :
    IntOp.remsi u (BitVec.ofNat 32 j) (BitVec.ofNat 32 n) = BitVec.ofNat 32 (j % n) := by
  unfold IntOp.remsi
  rw [if_neg, srem_small hj hn hn']
  unfold IntOp.SDivCorner
  rintro (h | ⟨h, -⟩)
  · have := congrArg BitVec.toNat h
    rw [toNat_small (by omega)] at this
    simp at this; omega
  · have h' : (BitVec.ofNat 32 j).toInt < 0 := by rw [h]; decide
    rw [toInt_small (by omega)] at h'
    omega

theorem modulo_apply {n : IVec S1024x1 32} {N : ℕ} (hN : 0 < N) (hN' : N ≤ 200) (t : Fin 1024) (j : Fin 200)
    (hn : ∀ y, y 0 = t → n y = BitVec.ofNat 32 N) : modulo n (ValueIdx.ix2 t j) = BitVec.ofNat 32 (j.val % N) := by
  have hd : ∀ y, y 0 = t → divisor n y = BitVec.ofNat 32 N := fun y hy => by
    show Scalar.select (BitVec.ofBool (n y == 0#32)) _ (n y) = _
    rw [hn y hy]
    have h0 : (BitVec.ofNat 32 N == 0#32) = false := by
      rw [beq_eq_false_iff_ne]; intro h
      have := congrArg BitVec.toNat h
      rw [toNat_small (by omega)] at this
      simp at this; omega
    rw [h0]; rfl
  have hr : rem n (ValueIdx.ix2 t j) = BitVec.ofNat 32 (j.val % N) := by
    show IntOp.remsi .host (cols _) (divisor n _) = _
    rw [cols_apply, hd _ rfl]
    exact remsi_small _ j.isLt hN hN'
  have hm : j.val % N < N := Nat.mod_lt _ hN
  show Scalar.select (BitVec.ofBool (BitVec.ofBool ((rem n (ValueIdx.ix2 t j)).slt 0#32) != BitVec.ofBool ((divisor n _).slt 0#32))
    &&& _) _ (rem n (ValueIdx.ix2 t j)) = _
  rw [hr, hd _ rfl, BitVec.slt_eq_decide, BitVec.slt_eq_decide, toInt_small (n := j.val % N) (by omega), toInt_small (n := N) (by omega),
    decide_eq_false (by rw [show (0#32).toInt = 0 from rfl]; omega), decide_eq_false (by rw [show (0#32).toInt = 0 from rfl]; omega)]
  show Scalar.select (0#1 &&& _) _ _ = _
  rw [BitVec.zero_and]
  rfl

/-! ## The sorted columns -/

/-- Column `k`'s key in row `t`, as a number. -/
def key (mask : IVec S1024x200 1) (t : Fin 1024) (k : Fin 200) : ℕ := if mask (ValueIdx.ix2 t k) = 1#1 then k.val else 200 + k.val

/-- Column `k` sorts before column `l`. -/
def before (mask : IVec S1024x200 1) (t : Fin 1024) (k l : Fin 200) : Bool := decide (key mask t k < key mask t l)

theorem keys_apply (mask : IVec S1024x200 1) (t : Fin 1024) (k : Fin 200) :
    keys mask (ValueIdx.ix2 t k) = BitVec.ofNat 32 (key mask t k) := by
  show Scalar.select (mask (ValueIdx.ix2 t k)) 0#32 1#32 * 200#32 + BitVec.ofNat 32 k.val = _
  unfold key
  by_cases h : mask (ValueIdx.ix2 t k) = 1#1
  · rw [if_pos h, h]
    show 0#32 * 200#32 + _ = _
    rw [BitVec.zero_mul, BitVec.zero_add]
  · rw [if_neg h, ValueIdx.eq_zero_of_ne_one h]
    show 1#32 * 200#32 + _ = _
    rw [BitVec.one_mul, BitVec.ofNat_add]

theorem key_lt (mask : IVec S1024x200 1) (t : Fin 1024) (k : Fin 200) : key mask t k < 400 := by
  unfold key; split_ifs <;> omega

theorem key_inj (mask : IVec S1024x200 1) (t : Fin 1024) {k l : Fin 200} (h : key mask t k = key mask t l) : k = l := by
  unfold key at h; apply Fin.ext; split_ifs at h <;> omega

theorem before_total (mask : IVec S1024x200 1) (t : Fin 1024) : StrictTotalBefore (before mask t) where
  irrefl k := decide_eq_false (lt_irrefl _)
  trans k l n h h' := decide_eq_true ((of_decide_eq_true h).trans (of_decide_eq_true h'))
  total k l h := (lt_or_gt_of_ne fun e => h (key_inj mask t e)).imp decide_eq_true decide_eq_true

theorem along_eq (t : Fin 1024) (i k : Fin 200) :
    Shape.Idx.along (s := S1024x200) (ValueIdx.ix2 t i) (1 : Fin 2) k = ValueIdx.ix2 t k := by
  funext a
  match a with
  | ⟨0, _⟩ => rfl
  | ⟨1, _⟩ => rfl

/-- A sort of two arrays along the columns moves the second one's entries inside their row. -/
theorem sort2_snd {α β : Type} (cmp : α × β → α × β → BitVec 1) (x : S1024x200.Idx → α) (y : S1024x200.Idx → β) (t : Fin 1024) (i : Fin 200) :
    (Host.sort2 S1024x200 1 cmp x y).2 (ValueIdx.ix2 t i)
      = y (ValueIdx.ix2 t (sortedFrom (fun k k' : Fin 200 =>
          cmp (x (ValueIdx.ix2 t k), y (ValueIdx.ix2 t k)) (x (ValueIdx.ix2 t k'), y (ValueIdx.ix2 t k')) == 1#1) i)) := by
  have h : (Host.sort2 S1024x200 1 cmp x y).2 (ValueIdx.ix2 t i)
      = y (Shape.Idx.along (s := S1024x200) (ValueIdx.ix2 t i) (1 : Fin 2) (sortedFrom (fun k k' : Fin 200 =>
          cmp (x (Shape.Idx.along (s := S1024x200) (ValueIdx.ix2 t i) (1 : Fin 2) k), y (Shape.Idx.along (s := S1024x200) (ValueIdx.ix2 t i) (1 : Fin 2) k))
            (x (Shape.Idx.along (s := S1024x200) (ValueIdx.ix2 t i) (1 : Fin 2) k'), y (Shape.Idx.along (s := S1024x200) (ValueIdx.ix2 t i) (1 : Fin 2) k')) == 1#1) i)) := by
    unfold Host.sort2
    rw [dif_pos (by decide)]
    rfl
  simp only [along_eq] at h
  exact h.trans (congrArg y (along_eq t i _))

/-- Entry `i` of the sorted columns. -/
theorem order_apply (mask : IVec S1024x200 1) (t : Fin 1024) (i : Fin 200) :
    order mask (ValueIdx.ix2 t i) = BitVec.ofNat 32 (sortedFrom (before mask t) i).val := by
  unfold order
  rw [sort2_snd]
  have e : (fun k k' : Fin 200 => comparator_i32_i32_d1
      (keys mask (ValueIdx.ix2 t k), iotaInDim S1024x200 32 1 (ValueIdx.ix2 t k))
      (keys mask (ValueIdx.ix2 t k'), iotaInDim S1024x200 32 1 (ValueIdx.ix2 t k')) == 1#1)
      = before mask t := by
    funext k k'
    have h1 := key_lt mask t k
    have h2 := key_lt mask t k'
    show (BitVec.ofBool ((keys mask (ValueIdx.ix2 t k)).slt (keys mask (ValueIdx.ix2 t k'))) == 1#1) = _
    rw [keys_apply, keys_apply, BitVec.slt_eq_decide, toInt_small (by omega), toInt_small (by omega)]
    unfold before
    by_cases h : key mask t k < key mask t k'
    · rw [decide_eq_true h, decide_eq_true (by omega)]; rfl
    · rw [decide_eq_false h, decide_eq_false (by omega)]; rfl
  rw [e]
  rfl

section Row

variable {mask : IVec S1024x200 1} {t : Fin 1024} {b : ℕ → Prop} [DecidablePred b]
  (hb : ∀ k : Fin 200, b k.val ↔ mask (ValueIdx.ix2 t k) = 1#1)
include hb

/-- The sorted columns begin with the selected ones. -/
theorem sorted_prefix {p : ℕ} (hp : p < Nat.count b 200) (hp' : p < 200) : (sortedFrom (before mask t) ⟨p, hp'⟩).val = sel b p := by
  have hc : Nat.count b 200 ≤ 200 := Nat.count_le b
  have hkey : ∀ k : Fin 200, b k.val → key mask t k = k.val := fun k hk => if_pos ((hb k).1 hk)
  have hlt : ∀ i j, i < j → (hj : j < Nat.count b 200) → sel b i < sel b j := fun i j hij hj => by
    have hi := sel_spec b (p := i) (by omega)
    have hj := sel_spec b hj
    by_contra h
    have := Nat.count_monotone b (Nat.le_of_not_lt h)
    omega
  have h := (before_total mask t).sortedFrom_eq_of_prefix hc
    (fun i : Fin (Nat.count b 200) => (⟨sel b i.val, (sel_spec b i.isLt).1⟩ : Fin 200))
    (fun i j hij => by
      have := congrArg (Nat.count b) (congrArg Fin.val hij)
      simp only [(sel_spec b i.isLt).2.2, (sel_spec b j.isLt).2.2] at this
      exact Fin.ext this)
    (fun i j hij => by
      refine decide_eq_false ?_
      rw [hkey ⟨_, (sel_spec b i.isLt).1⟩ (sel_spec b i.isLt).2.1, hkey ⟨_, (sel_spec b j.isLt).1⟩ (sel_spec b j.isLt).2.1]
      exact not_lt.2 (hlt _ _ hij j.isLt).le)
    (fun i q hq => by
      refine decide_eq_false ?_
      rw [hkey ⟨_, (sel_spec b i.isLt).1⟩ (sel_spec b i.isLt).2.1]
      have hq' : ¬ b q.val := fun hbq => by
        have hqc : Nat.count b q.val < Nat.count b 200 := Nat.count_strict_mono hbq q.isLt
        have := sel_spec b hqc
        exact hq ⟨_, hqc⟩ (Fin.ext (Nat.count_injective this.2.1 hbq this.2.2))
      have := (sel_spec b i.isLt).1
      unfold key
      rw [if_neg (fun h' => hq' ((hb q).2 h'))]
      show ¬ 200 + q.val < sel b i.val
      omega)
    ⟨p, hp⟩
  exact congrArg Fin.val h

end Row

/-! ## The result -/

section Result

variable (mask : IVec S1024x200 1)

theorem modulo_counts (t : Fin 1024) (j : Fin 200) {b : ℕ → Prop} [DecidablePred b]
    (hb : ∀ k : Fin 200, b k.val ↔ mask (ValueIdx.ix2 t k) = 1#1) :
    modulo (counts mask) (ValueIdx.ix2 t j) = BitVec.ofNat 32 (j.val % len b) :=
  modulo_apply (len_pos b) (len_le b) t j fun y hy => counts_apply hb y hy

/-- Column `k` of row `t` is valid. -/
def valid (t : Fin 1024) (k : ℕ) : Prop := ∃ h : k < 200, mask (ValueIdx.ix2 t ⟨k, h⟩) = 1#1

instance (t : Fin 1024) : DecidablePred (valid mask t) := fun k => by unfold valid; exact inferInstance

theorem valid_iff (t : Fin 1024) (k : Fin 200) : valid mask t k.val ↔ mask (ValueIdx.ix2 t k) = 1#1 :=
  ⟨fun ⟨_, h⟩ => h, fun h => ⟨k.isLt, h⟩⟩

theorem small_of {i : IVec S1024x200 32} (h : ∀ (t : Fin 1024) (j : Fin 200), ∃ k : Fin 200, i (ValueIdx.ix2 t j) = BitVec.ofNat 32 k.val) :
    Small i := fun y => by
  have e : ValueIdx.ix2 (y 0) (y 1) = y := by
    funext a
    match a with
    | ⟨0, _⟩ => rfl
    | ⟨1, _⟩ => rfl
  rw [← e]
  exact h (y 0) (y 1)

theorem modulo_small : Small (modulo (counts mask)) := small_of fun t j =>
  ⟨⟨j.val % len (valid mask t), (Nat.mod_lt _ (len_pos _)).trans_le (len_le _)⟩, modulo_counts mask t j (valid_iff mask t)⟩

theorem picks_eq (t : Fin 1024) (j : Fin 200) {b : ℕ → Prop} [DecidablePred b]
    (hb : ∀ k : Fin 200, b k.val ↔ mask (ValueIdx.ix2 t k) = 1#1) :
    picks mask (ValueIdx.ix2 t j) = BitVec.ofNat 32 (sortedFrom (before mask t)
      ⟨j.val % len b, (Nat.mod_lt _ (len_pos b)).trans_le (len_le b)⟩).val := by
  rw [← order_apply]
  exact take_apply _ (modulo_small mask) t j _ (modulo_counts mask t j hb)

theorem picks_small : Small (picks mask) := small_of fun t j => ⟨_, picks_eq mask t j (valid_iff mask t)⟩

/-- A row with a valid column reads the selected ones, cyclically. -/
theorem picks_apply (t : Fin 1024) (j : Fin 200) {b : ℕ → Prop} [DecidablePred b]
    (hb : ∀ k : Fin 200, b k.val ↔ mask (ValueIdx.ix2 t k) = 1#1) (h1 : 0 < Nat.count b 200) :
    picks mask (ValueIdx.ix2 t j) = BitVec.ofNat 32 (sel b (j.val % len b)) := by
  have hl : len b = Nat.count b 200 := max_eq_left h1
  have hm := Nat.mod_lt j.val (len_pos b)
  rw [picks_eq mask t j hb, sorted_prefix hb (by omega)]

/-- Line `200 t + j` of the result is the selected line of row `t`. -/
theorem out_apply (x : FVec Ideal S1024x200x128 .f32) (t : Fin 1024) (j k : Fin 200) (c : Fin 128) {b : ℕ → Prop} [DecidablePred b]
    (hb : ∀ k : Fin 200, b k.val ↔ mask (ValueIdx.ix2 t k) = 1#1) (h1 : 0 < Nat.count b 200) (hk : sel b (j.val % len b) = k.val)
    (y : S204800x128.Idx) (hy0 : (y 0).val = 200 * t.val + j.val) (hy1 : (y 1).val = c.val) :
    out x mask y = x (ValueIdx.ix3 t k c) := by
  unfold out
  rw [shapeCast_apply _ _ y (ValueIdx.ix3 t j c)]
  · have hs : ∀ z : S1024x200x1.Idx, broadcastInDim S1024x200x1 ![0, 1] bcast_S1024x200_S1024x200x1_0_1 (picks mask) z
        = picks mask (ValueIdx.ix2 (z 0) (z 1)) := fun z => by
      refine congrArg (picks mask) (funext fun a => ?_)
      match a with
      | ⟨0, _⟩ => rfl
      | ⟨1, _⟩ => rfl
    refine takeLines_apply x (fun z => ?_) t j k c ?_
    · rw [hs]; exact picks_small mask _
    · rw [hs]; exact (picks_apply mask t j hb h1).trans (by rw [hk])
  · rw [Shape.rowMajor_val_two, Shape.rowMajor_val_three]
    show (t.val * 200 + j.val) * 128 + c.val = (y 0).val * 128 + (y 1).val
    omega

end Result

end Cert.ExampleIdeal.Value

end
-- ==== Proof.Example.lean ====
/-
  The gather and the example it is measured against: what the kernel leaves in the result, and what the example
  leaves in its own, are the same lines as soon as every row has a valid column.
-/
module

public import proofs.«01_k».proof.Defs
public import proofs.«01_k».proof.Proof.ExampleValue
public import proofs.«01_k».proof.Proof.GatherIdealRun.Launch
public import proofs.«01_k».proof.Proof.Gen.Pre_row_has_valid
public import Idealize.ShloMosaic.Lib.Quiescent

@[expose] public section

noncomputable section

namespace Cert.Proof.ExampleClaims

open Idealize.ShloMosaic Idealize.SL Idealize.SL.Sem
open Cert.Rows (sel len bit colOf colOf_ideal sel_spec len_pos)
open Cert.Proof.GatherIdealRun (mrow tableAt lineAt outF)

/-! ## The precondition -/

section Pre

open Cert.Pre_row_has_valid

/-- An `or` of zeros is zero. -/
theorem fold_or_zero {α : Type} [DecidableEq α] (f : α → BitVec 1) (s : Finset α) (h : ∀ a ∈ s, f a = 0#1) :
    s.fold IntOp.ori 0#1 f = 0#1 := by
  induction s using Finset.induction_on with
  | empty => rfl
  | insert a s ha ih =>
    rw [Finset.fold_insert ha, h a (Finset.mem_insert_self ..), ih fun b hb => h b (Finset.mem_insert_of_mem hb)]
    rfl

/-- Under the precondition every row has a valid column. -/
theorem exists_valid {x : FVec Ideal S1024x200x128 .f32} {mask : IVec S1024x200 1} (h : fn (F := Ideal) x mask = fun _ => 1#1) (t : Fin 1024) :
    ∃ k : Fin 200, mask (ValueIdx.ix2 t k) = 1#1 := by
  have ht := Host.reduce_andi_all _ _ _ _ (fun a => a.elim0) (congrFun h fun a => a.elim0) (ValueIdx.ix1 t)
  by_contra hn
  rw [Host.reduce_eq_fold_single _ _ _ _ Cert.ExampleIdeal.Value.reduces] at ht
  refine absurd (ht.symm.trans (fold_or_zero _ _ fun k _ => ?_)) (by decide)
  exact (congrArg mask (Cert.ExampleIdeal.Value.lift_eq k)).trans (ValueIdx.eq_zero_of_ne_one fun hk => hn ⟨k, hk⟩)

end Pre

/-! ## The kernel's line -/

/-- The mask widened to words, as a column's test: the column is valid. -/
theorem bit_words (mask : IVec Cert.GatherIdeal.S1024x200 1) (t : Fin 1024) (k : Fin 200) :
    bit (mrow (extui 32 mask Cert.GatherIdeal.Gen.natLt_1_32) t.val) k.val ↔ mask (ValueIdx.ix2 t k) = 1#1 := by
  have e : mrow (extui 32 mask Cert.GatherIdeal.Gen.natLt_1_32) t.val k.val = (mask (ValueIdx.ix2 t k)).setWidth 32 := by
    rw [mrow, dif_pos ⟨t.isLt, k.isLt⟩]
    refine congrArg (fun z => (mask z).setWidth 32) (funext fun a => ?_)
    match a with
    | ⟨0, _⟩ => rfl
    | ⟨1, _⟩ => rfl
  rw [bit, e]
  by_cases h : mask (ValueIdx.ix2 t k) = 1#1
  · rw [h]; exact iff_of_true (by decide) rfl
  · rw [ValueIdx.eq_zero_of_ne_one h]; exact iff_of_false (by decide) (by decide)

/-- Line `n` of the table is line `n % 200` of row `n / 200`. -/
theorem table_apply (x : FVec Ideal Cert.GatherIdeal.S1024x200x128 .f32) (t : Fin 1024) (k : Fin 200) (c : Fin 128) :
    tableAt (F := Ideal) (shapeCast Cert.GatherIdeal.S204800x128 x Cert.GatherIdeal.Gen.shapeCasts_S1024x200x128_S204800x128) (200 * t.val + k.val) c
      = x (ValueIdx.ix3 t k c) := by
  unfold tableAt
  refine shapeCast_apply _ _ _ (ValueIdx.ix3 t k c) ?_
  rw [Shape.rowMajor_val_two, Shape.rowMajor_val_three]
  show (t.val * 200 + k.val) * 128 + c.val = (200 * t.val + k.val) % 204800 * 128 + c.val
  have := t.isLt
  have := k.isLt
  rw [Nat.mod_eq_of_lt (by omega)]
  omega

/-- When every row has a valid column, the kernel's lines are the example's. -/
theorem out_eq (x : FVec Ideal Cert.GatherIdeal.S1024x200x128 .f32) (mask : IVec Cert.GatherIdeal.S1024x200 1)
    (hv : ∀ t : Fin 1024, ∃ k : Fin 200, mask (ValueIdx.ix2 t k) = 1#1) :
    outF (F := Ideal) (extui 32 mask Cert.GatherIdeal.Gen.natLt_1_32)
        (shapeCast Cert.GatherIdeal.S204800x128 x Cert.GatherIdeal.Gen.shapeCasts_S1024x200x128_S204800x128)
      = Cert.ExampleIdeal.Value.out x mask := by
  funext y
  have hy : (y 0).val < 204800 := (y 0).isLt
  let t : Fin 1024 := ⟨(y 0).val / 200, by omega⟩
  let j : Fin 200 := ⟨(y 0).val % 200, Nat.mod_lt _ (by norm_num)⟩
  have hb := bit_words mask t
  obtain ⟨k0, hk0⟩ := hv t
  have h1 : 0 < Nat.count (bit (mrow (extui 32 mask Cert.GatherIdeal.Gen.natLt_1_32) t.val)) 200 :=
    Nat.lt_of_le_of_lt (Nat.zero_le _) (Nat.count_strict_mono ((hb k0).2 hk0) k0.isLt)
  have hl : len (bit (mrow (extui 32 mask Cert.GatherIdeal.Gen.natLt_1_32) t.val)) = Nat.count _ 200 := max_eq_left h1
  have hs := sel_spec (bit (mrow (extui 32 mask Cert.GatherIdeal.Gen.natLt_1_32) t.val))
    (p := j.val % len (bit (mrow (extui 32 mask Cert.GatherIdeal.Gen.natLt_1_32) t.val))) (by rw [← hl]; exact Nat.mod_lt _ (len_pos _))
  rw [Cert.ExampleIdeal.Value.out_apply mask x t j ⟨_, hs.1⟩ (y 1) hb h1 rfl y
    (show (y 0).val = 200 * ((y 0).val / 200) + (y 0).val % 200 by omega) rfl]
  refine Eq.trans ?_ (table_apply x t ⟨_, hs.1⟩ (y 1))
  show tableAt _ (200 * t.val + colOf Ideal (bit (mrow _ t.val)) j.val) (y 1) = _
  rw [colOf_ideal _ j.isLt]

/-! ## The claims -/

/-- The example's run leaves its arguments alone; it has no semaphore. -/
theorem reference_frame : Cert.quiescent_ExampleIdeal := by
  intro m ρ _
  exact (θ_run Cert.ExampleIdeal.defs _ _).mono
    (fun r h => ⟨fun c => (h c).2, Idealize.ShloMosaic.sem_eq_zero_of_no_sems (by decide) r.2⟩) (Cert.ExampleIdeal.Value.run m ρ)

/-- The two results agree under the precondition. -/
theorem algebraic : Cert.algebraic_GatherIdeal_ExampleIdeal_pre_row_has_valid := by
  intro m g m' g' hp hm
  refine ⟨fun c => Cert.Proof.GatherIdealRun.outOf (F := Ideal) m c, ?_, ?_⟩
  · refine (θ_run _ _ _).mono (fun r h c => ⟨(h.1 c).2.2, (h.1 c).1, (h.1 c).2.1⟩) (Cert.Proof.GatherIdealRun.run_main (F := Ideal) m g)
  · refine (θ_run _ _ _).mono (fun r h c => ⟨(h c).1.trans ?_, (h c).2⟩) (Cert.ExampleIdeal.Value.run m' g')
    rw [(hm c).1, (hm c).2]
    exact (out_eq _ _ (exists_valid (hp c))).symm

end Cert.Proof.ExampleClaims

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Gather
public import proofs.«01_k».proof.Proof.Gen.GatherIdeal
public import proofs.«01_k».proof.Proof.Gen.ExampleIdeal
public import proofs.«01_k».proof.Proof.Gen.Pre_row_has_valid
public import proofs.«01_k».proof.Proof.Context
public import proofs.«01_k».proof.Proof.GatherRun.Launch
public import proofs.«01_k».proof.Proof.GatherIdealRun.Launch
public import proofs.«01_k».proof.Proof.Example

@[expose] public section

noncomputable section

namespace Cert.Proof

open Idealize.ShloMosaic Idealize.SL.Sem

theorem gather_frame : Cert.quiescent_Gather := fun m ρ _ =>
  (θ_run _ _ _).mono (fun _ h => ⟨fun c => ⟨(h.1 c).1, (h.1 c).2.1⟩, h.2⟩) (GatherRun.run_main (F := Bits) m ρ)

theorem gatherIdeal_frame : Cert.quiescent_GatherIdeal := fun m ρ _ =>
  (θ_run _ _ _).mono (fun _ h => ⟨fun c => ⟨(h.1 c).1, (h.1 c).2.1⟩, h.2⟩) (GatherIdealRun.run_main (F := Ideal) m ρ)

theorem claim : Cert.Claim :=
  ⟨Cert.Kernel.Gen.facts, Cert.KernelIdeal.Gen.facts, Cert.ReferenceIdeal.Gen.facts, Cert.Gather.Gen.facts,
    Cert.GatherIdeal.Gen.facts, Cert.ExampleIdeal.Gen.facts, Cert.Pre_row_has_valid.Gen.facts,
    fun m ρ _ => Cert.Kernel.Gen.frame m ρ, fun m ρ _ => Cert.KernelIdeal.Gen.frame m ρ, ContextClaims.reference_frame,
    gather_frame, gatherIdeal_frame, fun m ρ _ => gatherIdeal_frame m ρ trivial,
    ExampleClaims.reference_frame, fun m ρ _ => ExampleClaims.reference_frame m ρ trivial,
    trivial, ContextClaims.algebraic, trivial, ExampleClaims.algebraic⟩

end Cert.Proof

end
